-- ==== Defs.lean ====
def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_GmlpSample (m : (ℓ : Loc Cert.GmlpSample.nD Cert.GmlpSample.τ Cert.GmlpSample.sig) → Buf (Elt Bits) ℓ) : Prop :=
  True

def Pre_GmlpSampleIdeal (m : (ℓ : Loc Cert.GmlpSampleIdeal.nD Cert.GmlpSampleIdeal.τ Cert.GmlpSampleIdeal.sig) → Buf (Elt Ideal) ℓ) : Prop :=
  True

def Pre_GmlpSampleRefIdeal (m : (ℓ : Loc Cert.GmlpSampleRefIdeal.nD Cert.GmlpSampleRefIdeal.τ Cert.GmlpSampleRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_GmlpSample [hGmlpSample : Cert.GmlpSample.Facts] : Prop :=
  ∀ (m : (ℓ : Loc Cert.GmlpSample.nD Cert.GmlpSample.τ Cert.GmlpSample.sig) → Buf (Elt Bits) ℓ) (g : Dev Cert.GmlpSample.nD → PrngReg), Pre_GmlpSample m →
    θ_run (Cert.GmlpSample.defs (F := Bits)) (onTc (τ := Cert.GmlpSample.τ) (Cert.GmlpSample.main (F := Bits))) ⟨m, fun _ => 0, g⟩ (fun r => (∀ c : Dev Cert.GmlpSample.nD,
      r.2.mem ((c.tc : Thread Cert.GmlpSample.nD Cert.GmlpSample.τ).loc Cert.GmlpSample.main_arg0) = m ((c.tc : Thread Cert.GmlpSample.nD Cert.GmlpSample.τ).loc Cert.GmlpSample.main_arg0)
      ∧ r.2.mem ((c.tc : Thread Cert.GmlpSample.nD Cert.GmlpSample.τ).loc Cert.GmlpSample.main_arg1) = m ((c.tc : Thread Cert.GmlpSample.nD Cert.GmlpSample.τ).loc Cert.GmlpSample.main_arg1)
      ∧ r.2.mem ((c.tc : Thread Cert.GmlpSample.nD Cert.GmlpSample.τ).loc Cert.GmlpSample.main_arg2) = m ((c.tc : Thread Cert.GmlpSample.nD Cert.GmlpSample.τ).loc Cert.GmlpSample.main_arg2)
      ∧ r.2.mem ((c.tc : Thread Cert.GmlpSample.nD Cert.GmlpSample.τ).loc Cert.GmlpSample.main_arg3) = m ((c.tc : Thread Cert.GmlpSample.nD Cert.GmlpSample.τ).loc Cert.GmlpSample.main_arg3)
      ∧ r.2.mem ((c.tc : Thread Cert.GmlpSample.nD Cert.GmlpSample.τ).loc Cert.GmlpSample.main_arg4) = m ((c.tc : Thread Cert.GmlpSample.nD Cert.GmlpSample.τ).loc Cert.GmlpSample.main_arg4))
      ∧ r.2.sem = fun _ => 0)

def quiescent_GmlpSampleIdeal [hGmlpSampleIdeal : Cert.GmlpSampleIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg), Pre_GmlpSampleIdeal m →
    θ_run (Cert.GmlpSampleIdeal.defs (F := Ideal)) (onTc (τ := Cert.GmlpSampleIdeal.τ) (Cert.GmlpSampleIdeal.main (F := Ideal))) ⟨m, fun _ => 0, g⟩ (fun r => (∀ c : Dev Cert.GmlpSampleIdeal.nD,
      r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
      ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
      ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
      ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
      ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ r.2.sem = fun _ => 0)

def quiescent_GmlpSampleRefIdeal [hGmlpSampleRefIdeal : Cert.GmlpSampleRefIdeal.Facts] : Prop :=
  ∀ (m : (ℓ : Loc Cert.GmlpSampleRefIdeal.nD Cert.GmlpSampleRefIdeal.τ Cert.GmlpSampleRefIdeal.sig) → Buf (Elt Ideal) ℓ) (g : Dev Cert.GmlpSampleRefIdeal.nD → PrngReg), Pre_GmlpSampleRefIdeal m →
    θ_run (Cert.GmlpSampleRefIdeal.defs (F := Ideal)) (onTc (τ := Cert.GmlpSampleRefIdeal.τ) (Cert.GmlpSampleRefIdeal.main (F := Ideal))) ⟨m, fun _ => 0, g⟩ (fun r => (∀ c : Dev Cert.GmlpSampleRefIdeal.nD,
      r.2.mem ((c.tc : Thread Cert.GmlpSampleRefIdeal.nD Cert.GmlpSampleRefIdeal.τ).loc Cert.GmlpSampleRefIdeal.main_arg0) = m ((c.tc : Thread Cert.GmlpSampleRefIdeal.nD Cert.GmlpSampleRefIdeal.τ).loc Cert.GmlpSampleRefIdeal.main_arg0)
      ∧ r.2.mem ((c.tc : Thread Cert.GmlpSampleRefIdeal.nD Cert.GmlpSampleRefIdeal.τ).loc Cert.GmlpSampleRefIdeal.main_arg1) = m ((c.tc : Thread Cert.GmlpSampleRefIdeal.nD Cert.GmlpSampleRefIdeal.τ).loc Cert.GmlpSampleRefIdeal.main_arg1)
      ∧ r.2.mem ((c.tc : Thread Cert.GmlpSampleRefIdeal.nD Cert.GmlpSampleRefIdeal.τ).loc Cert.GmlpSampleRefIdeal.main_arg2) = m ((c.tc : Thread Cert.GmlpSampleRefIdeal.nD Cert.GmlpSampleRefIdeal.τ).loc Cert.GmlpSampleRefIdeal.main_arg2)
      ∧ r.2.mem ((c.tc : Thread Cert.GmlpSampleRefIdeal.nD Cert.GmlpSampleRefIdeal.τ).loc Cert.GmlpSampleRefIdeal.main_arg3) = m ((c.tc : Thread Cert.GmlpSampleRefIdeal.nD Cert.GmlpSampleRefIdeal.τ).loc Cert.GmlpSampleRefIdeal.main_arg3)
      ∧ r.2.mem ((c.tc : Thread Cert.GmlpSampleRefIdeal.nD Cert.GmlpSampleRefIdeal.τ).loc Cert.GmlpSampleRefIdeal.main_arg4) = m ((c.tc : Thread Cert.GmlpSampleRefIdeal.nD Cert.GmlpSampleRefIdeal.τ).loc Cert.GmlpSampleRefIdeal.main_arg4))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v5)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v5) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v43) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v53)) (v1 : (c : Dev Cert.ProjIdeal.nD) → Buf (Elt Ideal) ((c.tc : Thread Cert.ProjIdeal.nD Cert.ProjIdeal.τ).loc Cert.ProjIdeal.main_v54)) (v2 : (c : Dev Cert.ProjIdeal.nD) → Buf (Elt Ideal) ((c.tc : Thread Cert.ProjIdeal.nD Cert.ProjIdeal.τ).loc Cert.ProjIdeal.main_v55)) (v3 : (c : Dev Cert.ProjIdeal.nD) → Buf (Elt Ideal) ((c.tc : Thread Cert.ProjIdeal.nD Cert.ProjIdeal.τ).loc Cert.ProjIdeal.main_v56)) (v4 : (c : Dev Cert.ProjIdeal.nD) → Buf (Elt Ideal) ((c.tc : Thread Cert.ProjIdeal.nD Cert.ProjIdeal.τ).loc Cert.ProjIdeal.main_v24)) (v5 : (c : Dev Cert.ProjIdeal.nD) → Buf (Elt Ideal) ((c.tc : Thread Cert.ProjIdeal.nD Cert.ProjIdeal.τ).loc Cert.ProjIdeal.main_v33)) (v6 : (c : Dev Cert.ProjIdeal.nD) → Buf (Elt Ideal) ((c.tc : Thread Cert.ProjIdeal.nD Cert.ProjIdeal.τ).loc Cert.ProjIdeal.main_v40)) (v7 : (c : Dev Cert.ProjIdeal.nD) → Buf (Elt Ideal) ((c.tc : Thread Cert.ProjIdeal.nD Cert.ProjIdeal.τ).loc Cert.ProjIdeal.main_v47)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v53) = v0 c
          ∧ r.2.mem ((c.tc : Thread Cert.ProjIdeal.nD Cert.ProjIdeal.τ).loc Cert.ProjIdeal.main_v54) = v1 c
          ∧ r.2.mem ((c.tc : Thread Cert.ProjIdeal.nD Cert.ProjIdeal.τ).loc Cert.ProjIdeal.main_v55) = v2 c
          ∧ r.2.mem ((c.tc : Thread Cert.ProjIdeal.nD Cert.ProjIdeal.τ).loc Cert.ProjIdeal.main_v56) = v3 c
          ∧ r.2.mem ((c.tc : Thread Cert.ProjIdeal.nD Cert.ProjIdeal.τ).loc Cert.ProjIdeal.main_v24) = v4 c
          ∧ r.2.mem ((c.tc : Thread Cert.ProjIdeal.nD Cert.ProjIdeal.τ).loc Cert.ProjIdeal.main_v33) = v5 c
          ∧ r.2.mem ((c.tc : Thread Cert.ProjIdeal.nD Cert.ProjIdeal.τ).loc Cert.ProjIdeal.main_v40) = v6 c
          ∧ r.2.mem ((c.tc : Thread Cert.ProjIdeal.nD Cert.ProjIdeal.τ).loc Cert.ProjIdeal.main_v47) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v16) = v2 c
          ∧ r.2.mem ((c.tc : Thread Cert.ProjRefIdeal.nD Cert.ProjRefIdeal.τ).loc Cert.ProjRefIdeal.main_v17) = v3 c
          ∧ r.2.mem ((c.tc : Thread Cert.ProjRefIdeal.nD Cert.ProjRefIdeal.τ).loc Cert.ProjRefIdeal.main_v47) = v4 c
          ∧ r.2.mem ((c.tc : Thread Cert.ProjRefIdeal.nD Cert.ProjRefIdeal.τ).loc Cert.ProjRefIdeal.main_v27) = v5 c
          ∧ r.2.mem ((c.tc : Thread Cert.ProjRefIdeal.nD Cert.ProjRefIdeal.τ).loc Cert.ProjRefIdeal.main_v36) = v6 c
          ∧ r.2.mem ((c.tc : Thread Cert.ProjRefIdeal.nD Cert.ProjRefIdeal.τ).loc Cert.ProjRefIdeal.main_v45) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_GmlpSample_GmlpSampleIdeal : Prop :=
  True

def algebraic_GmlpSampleIdeal_GmlpSampleRefIdeal [hGmlpSampleIdeal : Cert.GmlpSampleIdeal.Facts] [hGmlpSampleRefIdeal : Cert.GmlpSampleRefIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg)
    (m' : (ℓ : Loc Cert.GmlpSampleRefIdeal.nD Cert.GmlpSampleRefIdeal.τ Cert.GmlpSampleRefIdeal.sig) → Buf (Elt Ideal) ℓ) (g' : Dev Cert.GmlpSampleRefIdeal.nD → PrngReg), Pre_GmlpSampleIdeal m →
    (∀ c : Dev Cert.GmlpSampleIdeal.nD,
      m' ((c.tc : Thread Cert.GmlpSampleRefIdeal.nD Cert.GmlpSampleRefIdeal.τ).loc Cert.GmlpSampleRefIdeal.main_arg0) = m ((c.tc : Thread Cert.GmlpSampleIdeal.nD Cert.GmlpSampleIdeal.τ).loc Cert.GmlpSampleIdeal.main_arg0)
      ∧ m' ((c.tc : Thread Cert.GmlpSampleRefIdeal.nD Cert.GmlpSampleRefIdeal.τ).loc Cert.GmlpSampleRefIdeal.main_arg1) = m ((c.tc : Thread Cert.GmlpSampleIdeal.nD Cert.GmlpSampleIdeal.τ).loc Cert.GmlpSampleIdeal.main_arg1)
      ∧ m' ((c.tc : Thread Cert.GmlpSampleRefIdeal.nD Cert.GmlpSampleRefIdeal.τ).loc Cert.GmlpSampleRefIdeal.main_arg2) = m ((c.tc : Thread Cert.GmlpSampleIdeal.nD Cert.GmlpSampleIdeal.τ).loc Cert.GmlpSampleIdeal.main_arg2)
      ∧ m' ((c.tc : Thread Cert.GmlpSampleRefIdeal.nD Cert.GmlpSampleRefIdeal.τ).loc Cert.GmlpSampleRefIdeal.main_arg3) = m ((c.tc : Thread Cert.GmlpSampleIdeal.nD Cert.GmlpSampleIdeal.τ).loc Cert.GmlpSampleIdeal.main_arg3)
      ∧ m' ((c.tc : Thread Cert.GmlpSampleRefIdeal.nD Cert.GmlpSampleRefIdeal.τ).loc Cert.GmlpSampleRefIdeal.main_arg4) = m ((c.tc : Thread Cert.GmlpSampleIdeal.nD Cert.GmlpSampleIdeal.τ).loc Cert.GmlpSampleIdeal.main_arg4)) →
    ∃ (v0 : (c : Dev Cert.GmlpSampleIdeal.nD) → Buf (Elt Ideal) ((c.tc : Thread Cert.GmlpSampleIdeal.nD Cert.GmlpSampleIdeal.τ).loc Cert.GmlpSampleIdeal.main_v7_0)) (v1 : (c : Dev Cert.GmlpSampleIdeal.nD) → Buf (Elt Ideal) ((c.tc : Thread Cert.GmlpSampleIdeal.nD Cert.GmlpSampleIdeal.τ).loc Cert.GmlpSampleIdeal.main_v7_1)),
      θ_run (Cert.GmlpSampleIdeal.defs (F := Ideal)) (onTc (τ := Cert.GmlpSampleIdeal.τ) (Cert.GmlpSampleIdeal.main (F := Ideal))) ⟨m, fun _ => 0, g⟩ (fun r => ∀ c : Dev Cert.GmlpSampleIdeal.nD,
          r.2.mem ((c.tc : Thread Cert.GmlpSampleIdeal.nD Cert.GmlpSampleIdeal.τ).loc Cert.GmlpSampleIdeal.main_v7_0) = v0 c
          ∧ r.2.mem ((c.tc : Thread Cert.GmlpSampleIdeal.nD Cert.GmlpSampleIdeal.τ).loc Cert.GmlpSampleIdeal.main_v7_1) = v1 c
          ∧ r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
          ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
          ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
          ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
          ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ θ_run (Cert.GmlpSampleRefIdeal.defs (F := Ideal)) (onTc (τ := Cert.GmlpSampleRefIdeal.τ) (Cert.GmlpSampleRefIdeal.main (F := Ideal))) ⟨m', fun _ => 0, g'⟩ (fun r => ∀ c : Dev Cert.GmlpSampleRefIdeal.nD,
          r.2.mem ((c.tc : Thread Cert.GmlpSampleRefIdeal.nD Cert.GmlpSampleRefIdeal.τ).loc Cert.GmlpSampleRefIdeal.main_v45) = v0 c
          ∧ r.2.mem ((c.tc : Thread Cert.GmlpSampleRefIdeal.nD Cert.GmlpSampleRefIdeal.τ).loc Cert.GmlpSampleRefIdeal.main_v32) = v1 c
          ∧ r.2.mem ((c.tc : Thread Cert.GmlpSampleRefIdeal.nD Cert.GmlpSampleRefIdeal.τ).loc Cert.GmlpSampleRefIdeal.main_arg0) = m' ((c.tc : Thread Cert.GmlpSampleRefIdeal.nD Cert.GmlpSampleRefIdeal.τ).loc Cert.GmlpSampleRefIdeal.main_arg0)
          ∧ r.2.mem ((c.tc : Thread Cert.GmlpSampleRefIdeal.nD Cert.GmlpSampleRefIdeal.τ).loc Cert.GmlpSampleRefIdeal.main_arg1) = m' ((c.tc : Thread Cert.GmlpSampleRefIdeal.nD Cert.GmlpSampleRefIdeal.τ).loc Cert.GmlpSampleRefIdeal.main_arg1)
          ∧ r.2.mem ((c.tc : Thread Cert.GmlpSampleRefIdeal.nD Cert.GmlpSampleRefIdeal.τ).loc Cert.GmlpSampleRefIdeal.main_arg2) = m' ((c.tc : Thread Cert.GmlpSampleRefIdeal.nD Cert.GmlpSampleRefIdeal.τ).loc Cert.GmlpSampleRefIdeal.main_arg2)
          ∧ r.2.mem ((c.tc : Thread Cert.GmlpSampleRefIdeal.nD Cert.GmlpSampleRefIdeal.τ).loc Cert.GmlpSampleRefIdeal.main_arg3) = m' ((c.tc : Thread Cert.GmlpSampleRefIdeal.nD Cert.GmlpSampleRefIdeal.τ).loc Cert.GmlpSampleRefIdeal.main_arg3)
          ∧ r.2.mem ((c.tc : Thread Cert.GmlpSampleRefIdeal.nD Cert.GmlpSampleRefIdeal.τ).loc Cert.GmlpSampleRefIdeal.main_arg4) = m' ((c.tc : Thread Cert.GmlpSampleRefIdeal.nD Cert.GmlpSampleRefIdeal.τ).loc Cert.GmlpSampleRefIdeal.main_arg4))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)) →
    ∃ (v0 : (c : Dev Cert.MlpSampleIdeal.nD) → Buf (Elt Ideal) ((c.tc : Thread Cert.MlpSampleIdeal.nD Cert.MlpSampleIdeal.τ).loc Cert.MlpSampleIdeal.main_v4)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v4) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v30) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
      ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)) →
    ∃ (v0 : (c : Dev Cert.ProjSampleIdeal.nD) → Buf (Elt Ideal) ((c.tc : Thread Cert.ProjSampleIdeal.nD Cert.ProjSampleIdeal.τ).loc Cert.ProjSampleIdeal.main_v59)) (v1 : (c : Dev Cert.ProjSampleIdeal.nD) → Buf (Elt Ideal) ((c.tc : Thread Cert.ProjSampleIdeal.nD Cert.ProjSampleIdeal.τ).loc Cert.ProjSampleIdeal.main_v60)) (v2 : (c : Dev Cert.ProjSampleIdeal.nD) → Buf (Elt Ideal) ((c.tc : Thread Cert.ProjSampleIdeal.nD Cert.ProjSampleIdeal.τ).loc Cert.ProjSampleIdeal.main_v61)) (v3 : (c : Dev Cert.ProjSampleIdeal.nD) → Buf (Elt Ideal) ((c.tc : Thread Cert.ProjSampleIdeal.nD Cert.ProjSampleIdeal.τ).loc Cert.ProjSampleIdeal.main_v62)) (v4 : (c : Dev Cert.ProjSampleIdeal.nD) → Buf (Elt Ideal) ((c.tc : Thread Cert.ProjSampleIdeal.nD Cert.ProjSampleIdeal.τ).loc Cert.ProjSampleIdeal.main_v24)) (v5 : (c : Dev Cert.ProjSampleIdeal.nD) → Buf (Elt Ideal) ((c.tc : Thread Cert.ProjSampleIdeal.nD Cert.ProjSampleIdeal.τ).loc Cert.ProjSampleIdeal.main_v35)) (v6 : (c : Dev Cert.ProjSampleIdeal.nD) → Buf (Elt Ideal) ((c.tc : Thread Cert.ProjSampleIdeal.nD Cert.ProjSampleIdeal.τ).loc Cert.ProjSampleIdeal.main_v44)) (v7 : (c : Dev Cert.ProjSampleIdeal.nD) → Buf (Elt Ideal) ((c.tc : Thread Cert.ProjSampleIdeal.nD Cert.ProjSampleIdeal.τ).loc Cert.ProjSampleIdeal.main_v53)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v59) = v0 c
          ∧ r.2.mem ((c.tc : Thread Cert.ProjSampleIdeal.nD Cert.ProjSampleIdeal.τ).loc Cert.ProjSampleIdeal.main_v60) = v1 c
          ∧ r.2.mem ((c.tc : Thread Cert.ProjSampleIdeal.nD Cert.ProjSampleIdeal.τ).loc Cert.ProjSampleIdeal.main_v61) = v2 c
          ∧ r.2.mem ((c.tc : Thread Cert.ProjSampleIdeal.nD Cert.ProjSampleIdeal.τ).loc Cert.ProjSampleIdeal.main_v62) = v3 c
          ∧ r.2.mem ((c.tc : Thread Cert.ProjSampleIdeal.nD Cert.ProjSampleIdeal.τ).loc Cert.ProjSampleIdeal.main_v24) = v4 c
          ∧ r.2.mem ((c.tc : Thread Cert.ProjSampleIdeal.nD Cert.ProjSampleIdeal.τ).loc Cert.ProjSampleIdeal.main_v35) = v5 c
          ∧ r.2.mem ((c.tc : Thread Cert.ProjSampleIdeal.nD Cert.ProjSampleIdeal.τ).loc Cert.ProjSampleIdeal.main_v44) = v6 c
          ∧ r.2.mem ((c.tc : Thread Cert.ProjSampleIdeal.nD Cert.ProjSampleIdeal.τ).loc Cert.ProjSampleIdeal.main_v53) = v7 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v14) = v0 c
          ∧ r.2.mem ((c.tc : Thread Cert.ProjSampleRefIdeal.nD Cert.ProjSampleRefIdeal.τ).loc Cert.ProjSampleRefIdeal.main_v15) = v1 c
          ∧ r.2.mem ((c.tc : Thread Cert.ProjSampleRefIdeal.nD Cert.ProjSampleRefIdeal.τ).loc Cert.ProjSampleRefIdeal.main_v16) = v2 c
          ∧ r.2.mem ((c.tc : Thread Cert.ProjSampleRefIdeal.nD Cert.ProjSampleRefIdeal.τ).loc Cert.ProjSampleRefIdeal.main_v17) = v3 c
          ∧ r.2.mem ((c.tc : Thread Cert.ProjSampleRefIdeal.nD Cert.ProjSampleRefIdeal.τ).loc Cert.ProjSampleRefIdeal.main_v65) = v4 c
          ∧ r.2.mem ((c.tc : Thread Cert.ProjSampleRefIdeal.nD Cert.ProjSampleRefIdeal.τ).loc Cert.ProjSampleRefIdeal.main_v33) = v5 c
          ∧ r.2.mem ((c.tc : Thread Cert.ProjSampleRefIdeal.nD Cert.ProjSampleRefIdeal.τ).loc Cert.ProjSampleRefIdeal.main_v48) = v6 c
          ∧ r.2.mem ((c.tc : Thread Cert.ProjSampleRefIdeal.nD Cert.ProjSampleRefIdeal.τ).loc Cert.ProjSampleRefIdeal.main_v63) = v7 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4)
          ∧ r.2.mem ((c.tc : Thread Cert.ProjSampleRefIdeal.nD Cert.ProjSampleRefIdeal.τ).loc Cert.ProjSampleRefIdeal.main_arg5) = m' ((c.tc : Thread Cert.ProjSampleRefIdeal.nD Cert.ProjSampleRefIdeal.τ).loc Cert.ProjSampleRefIdeal.main_arg5))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v252) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hGmlp : Cert.Gmlp.Facts) (hGmlpIdeal : Cert.GmlpIdeal.Facts) (hGmlpRefIdeal : Cert.GmlpRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMlp : Cert.Mlp.Facts) (hMlpIdeal : Cert.MlpIdeal.Facts) (hMlpRefIdeal : Cert.MlpRefIdeal.Facts) (hGmlpSample : Cert.GmlpSample.Facts) (hGmlpSampleIdeal : Cert.GmlpSampleIdeal.Facts) (hGmlpSampleRefIdeal : Cert.GmlpSampleRefIdeal.Facts) (hMlpSample : Cert.MlpSample.Facts) (hMlpSampleIdeal : Cert.MlpSampleIdeal.Facts) (hMlpSampleRefIdeal : Cert.MlpSampleRefIdeal.Facts) (hProjSample : Cert.ProjSample.Facts) (hProjSampleIdeal : Cert.ProjSampleIdeal.Facts) (hProjSampleRefIdeal : Cert.ProjSampleRefIdeal.Facts) (hAttn : Cert.Attn.Facts) (hAttnIdeal : Cert.AttnIdeal.Facts) (hAttnRefIdeal : Cert.AttnRefIdeal.Facts) (hPre_finite : Cert.Pre_finite.Facts),
    quiescent_Gmlp (hGmlp := hGmlp)
    ∧ quiescent_GmlpIdeal (hGmlpIdeal := hGmlpIdeal)
    ∧ quiescent_GmlpRefIdeal (hGmlpRefIdeal := hGmlpRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mlp (hMlp := hMlp)
    ∧ quiescent_MlpIdeal (hMlpIdeal := hMlpIdeal)
    ∧ quiescent_MlpRefIdeal (hMlpRefIdeal := hMlpRefIdeal)
    ∧ quiescent_GmlpSample (hGmlpSample := hGmlpSample)
    ∧ quiescent_GmlpSampleIdeal (hGmlpSampleIdeal := hGmlpSampleIdeal)
    ∧ quiescent_GmlpSampleRefIdeal (hGmlpSampleRefIdeal := hGmlpSampleRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Gmlp_GmlpIdeal
    ∧ algebraic_GmlpIdeal_GmlpRefIdeal (hGmlpIdeal := hGmlpIdeal) (hGmlpRefIdeal := hGmlpRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Mlp_MlpIdeal
    ∧ algebraic_MlpIdeal_MlpRefIdeal (hMlpIdeal := hMlpIdeal) (hMlpRefIdeal := hMlpRefIdeal)
    ∧ preserves_GmlpSample_GmlpSampleIdeal
    ∧ algebraic_GmlpSampleIdeal_GmlpSampleRefIdeal (hGmlpSampleIdeal := hGmlpSampleIdeal) (hGmlpSampleRefIdeal := hGmlpSampleRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S32x8x9216 : Shape := ⟨3, ![32, 8, 9216]⟩
abbrev S32x2x128x16x64 : Shape := ⟨5, ![32, 2, 128, 16, 64]⟩
abbrev S32x2x512x16x64 : Shape := ⟨5, ![32, 2, 512, 16, 64]⟩
abbrev S32x2x2048x16x64 : Shape := ⟨5, ![32, 2, 2048, 16, 64]⟩
abbrev S_ : Shape := ⟨0, ![]⟩

class Facts : Prop where
  bcast_S_S32x8x9216 : S_.BroadcastsInDim S32x8x9216 (![] : Fin 0 → Fin S32x8x9216.rank)
  bcast_S_S32x2x128x16x64 : S_.BroadcastsInDim S32x2x128x16x64 (![] : Fin 0 → Fin S32x2x128x16x64.rank)
  bcast_S_S32x2x512x16x64 : S_.BroadcastsInDim S32x2x512x16x64 (![] : Fin 0 → Fin S32x2x512x16x64.rank)
  bcast_S_S32x2x2048x16x64 : S_.BroadcastsInDim S32x2x2048x16x64 (![] : Fin 0 → Fin S32x2x2048x16x64.rank)

variable [Facts]

def fn {F : FTy → Type} [FloatOps F] (main_arg0 : FVec F S32x8x9216 .f32) (main_arg1 : FVec F S32x2x128x16x64 .f32) (main_arg2 : FVec F S32x2x512x16x64 .f32) (main_arg3 : FVec F S32x2x2048x16x64 .f32) : IVec S32x8x9216 1 × IVec S32x2x128x16x64 1 × IVec S32x2x512x16x64 1 × IVec S32x2x2048x16x64 1 :=
  let main_v0 : FVec F S32x8x9216 .f32 := Host.absf main_arg0
  let main_cst : FVec F S_ .f32 := constant S_ .f32 0x7F800000#32
  let main_v1 : FVec F S32x8x9216 .f32 := broadcastInDim S32x8x9216 ![] bcast_S_S32x8x9216 main_cst
  let main_v2 : IVec S32x8x9216 1 := cmpf .olt main_v0 main_v1
  let main_v3 : FVec F S32x2x128x16x64 .f32 := Host.absf main_arg1
  let main_cst_0 : FVec F S_ .f32 := constant S_ .f32 0x7F800000#32
  let main_v4 : FVec F S32x2x128x16x64 .f32 := broadcastInDim S32x2x128x16x64 ![] bcast_S_S32x2x128x16x64 main_cst_0
  let main_v5 : IVec S32x2x128x16x64 1 := cmpf .olt main_v3 main_v4
  let main_v6 : FVec F S32x2x512x16x64 .f32 := Host.absf main_arg2
  let main_cst_1 : FVec F S_ .f32 := constant S_ .f32 0x7F800000#32
  let main_v7 : FVec F S32x2x512x16x64 .f32 := broadcastInDim S32x2x512x16x64 ![] bcast_S_S32x2x512x16x64 main_cst_1
  let main_v8 : IVec S32x2x512x16x64 1 := cmpf .olt main_v6 main_v7
  let main_v9 : FVec F S32x2x2048x16x64 .f32 := Host.absf main_arg3
  let main_cst_2 : FVec F S_ .f32 := constant S_ .f32 0x7F800000#32
  let main_v10 : FVec F S32x2x2048x16x64 .f32 := broadcastInDim S32x2x2048x16x64 ![] bcast_S_S32x2x2048x16x64 main_cst_2
  let main_v11 : IVec S32x2x2048x16x64 1 := cmpf .olt main_v9 main_v10
  (main_v2, main_v5, main_v8, main_v11)
-- ==== Gmlp.lean ====
abbrev S8x4096x17920 : Shape := ⟨3, ![8, 4096, 17920]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S8x4096x1024 : Shape := ⟨3, ![8, 4096, 1024]⟩
abbrev S1x128x2048 : Shape := ⟨3, ![1, 128, 2048]⟩
abbrev S1x128x1024 : Shape := ⟨3, ![1, 128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x17920, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S128x8x128, .f32⟩
  | .hbm, ⟨9, _⟩ => ⟨S128x1024, .f32⟩
  | .hbm, ⟨10, _⟩ => ⟨S8x4096x1024, .f32⟩
  | .local _ .vmem, ⟨0, _⟩ => ⟨S1x128x2048, .f32⟩
  | .local _ .vmem, ⟨1, _⟩ => ⟨S1x128x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | _, _ => ⟨S8x4096x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmlpRefIdeal.lean ====
abbrev S8x4096x17920 : Shape := ⟨3, ![8, 4096, 17920]⟩
abbrev S1024 : Shape := ⟨1, ![1024]⟩
abbrev S8x128x128 : Shape := ⟨3, ![8, 128, 128]⟩
abbrev S8x128 : Shape := ⟨2, ![8, 128]⟩
abbrev S8x4096x2048 : Shape := ⟨3, ![8, 4096, 2048]⟩
abbrev S_ : Shape := ⟨0, ![]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩
abbrev S128x128 : Shape := ⟨2, ![128, 128]⟩
abbrev S8x32x128x8x128 : Shape := ⟨5, ![8, 32, 128, 8, 128]⟩
abbrev S8x8x32x128x128 : Shape := ⟨5, ![8, 8, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x17920, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x4096x2048, .f32⟩
  | .hbm, ⟨6, _⟩ => ⟨S_, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S8x128x128, .i1⟩
  | .hbm, ⟨53, _⟩ => ⟨S_, .f32⟩
  | .hbm, ⟨54, _⟩ => ⟨S8x128x128, .f32⟩
  | .hbm, ⟨55, _⟩ => ⟨S8x128x128, .f32⟩
  | .hbm, ⟨56, _⟩ => ⟨S8x32x128x8x128, .f32⟩
  | .hbm, ⟨57, _⟩ => ⟨S8x8x32x128x128, .f32⟩
  | .hbm, ⟨58, _⟩ => ⟨S8x32x128x8x128, .f32⟩
  | .hbm, ⟨59, _⟩ => ⟨S128x8, .f32⟩
  | .hbm, ⟨60, _⟩ => ⟨S128x8x1, .f32⟩
  | .hbm, ⟨61, _⟩ => ⟨S1x1x128x8x1, .f32⟩
  | .hbm, ⟨62, _⟩ => ⟨S8x32x128x8x128, .f32⟩
  | .hbm, ⟨63, _⟩ => ⟨S8x32x128x8x128, .f32⟩
  | .hbm, ⟨64, _⟩ => ⟨S8x4096x1024, .f32⟩
  | .hbm, ⟨65, _⟩ => ⟨S8x4096x1024, .f32⟩
  | _, _ => ⟨S8x4096x17920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_cst : Ref sig .tc := ⟨.hbm, 53, rfl⟩
abbrev main_call0_v6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x17696 : Shape := ⟨2, ![1024, 17696]⟩
abbrev S32768x1024 : Shape := ⟨2, ![32768, 1024]⟩
abbrev S1x1024 : Shape := ⟨2, ![1, 1024]⟩
abbrev S1024x9216 : Shape := ⟨2, ![1024, 9216]⟩
abbrev S1024x3072 : Shape := ⟨2, ![1024, 3072]⟩
abbrev S1024x2048 : Shape := ⟨2, ![1024, 2048]⟩
abbrev S1024x3360 : Shape := ⟨2, ![1024, 3360]⟩
abbrev S1024x64 : Shape := ⟨2, ![1024, 64]⟩
abbrev S_ : Shape := ⟨0, ![]⟩
abbrev S1024x128 : Shape := ⟨2, ![1024, 128]⟩
abbrev S1024x160 : Shape := ⟨2, ![1024, 160]⟩
abbrev S1024x256 : Shape := ⟨2, ![1024, 256]⟩
abbrev S1024x3584 : Shape := ⟨2, ![1024, 3584]⟩
abbrev S1024x17920 : Shape := ⟨2, ![1024, 17920]⟩
abbrev S32768x17920 : Shape := ⟨2, ![32768, 17920]⟩
abbrev S1024x1024 : Shape := ⟨2, ![1024, 1024]⟩
abbrev S1024x512 : Shape := ⟨2, ![1024, 512]⟩
abbrev S1024x1 : Shape := ⟨2, ![1024, 1]⟩
abbrev S8x4096x17920 : Shape := ⟨3, ![8, 4096, 17920]⟩
abbrev S8x1x3584 : Shape := ⟨3, ![8, 1, 3584]⟩
abbrev S8x3584 : Shape := ⟨2, ![8, 3584]⟩
abbrev S8x3072 : Shape := ⟨2, ![8, 3072]⟩
abbrev S8x64 : Shape := ⟨2, ![8, 64]⟩
abbrev S8x160 : Shape := ⟨2, ![8, 160]⟩
abbrev S8x3360 : Shape := ⟨2, ![8, 3360]⟩
abbrev S8x4096x9216 : Shape := ⟨3, ![8, 4096, 9216]⟩
abbrev S8x4096x3x3x16x64 : Shape := ⟨6, ![8, 4096, 3, 3, 16, 64]⟩
abbrev S8x128x1x1x16x64 : Shape := ⟨6, ![8, 128, 1, 1, 16, 64]⟩
abbrev S8x128x16x64 : Shape := ⟨4, ![8, 128, 16, 64]⟩
abbrev S8x1x128x16x64 : Shape := ⟨5, ![8, 1, 128, 16, 64]⟩
abbrev S8x2x128x16x64 : Shape := ⟨5, ![8, 2, 128, 16, 64]⟩
abbrev S8x512x1x1x16x64 : Shape := ⟨6, ![8, 512, 1, 1, 16, 64]⟩
abbrev S8x512x16x64 : Shape := ⟨4, ![8, 512, 16, 64]⟩
abbrev S8x1x512x16x64 : Shape := ⟨5, ![8, 1, 512, 16, 64]⟩
abbrev S8x2x512x16x64 : Shape := ⟨5, ![8, 2, 512, 16, 64]⟩
abbrev S8x2048x1x1x16x64 : Shape := ⟨6, ![8, 2048, 1, 1, 16, 64]⟩
abbrev S8x2048x16x64 : Shape := ⟨4, ![8, 2048, 16, 64]⟩
abbrev S8x1x2048x16x64 : Shape := ⟨5, ![8, 1, 2048, 16, 64]⟩
abbrev S8x2x2048x16x64 : Shape := ⟨5, ![8, 2, 2048, 16, 64]⟩
abbrev S8x4096x3584 : Shape := ⟨3, ![8, 4096, 3584]⟩
abbrev S8x4096x3072 : Shape := ⟨3, ![8, 4096, 3072]⟩
abbrev S8x4096x64 : Shape := ⟨3, ![8, 4096, 64]⟩
abbrev S8x4096x160 : Shape := ⟨3, ![8, 4096, 160]⟩
abbrev S8x4096x3360 : Shape := ⟨3, ![8, 4096, 3360]⟩
abbrev S8x4096x2048 : Shape := ⟨3, ![8, 4096, 2048]⟩

abbrev nBuf : Space → Nat
  | .hbm => 66
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x17696, .f32⟩
  | .hbm, ⟨3, _⟩ => ⟨S32768x1024, .f32⟩
  | .hbm, ⟨4, _⟩ => ⟨S1x1024, .f32⟩
  | .hbm, ⟨5, _⟩ => ⟨S1024x9216, .f32⟩
  | .hbm, ⟨6, _⟩ => ⟨S1024x3072, .f32⟩
  | .hbm, ⟨7, _⟩ => ⟨S1024x2048, .f32⟩
  | .hbm, ⟨8, _⟩ => ⟨S1024x3360, .f32⟩
  | .hbm, ⟨9, _⟩ => ⟨S1024x3072, .f32⟩
  | .hbm, ⟨10, _⟩ => ⟨S1024x64, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x64, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x160, .f32⟩
  | .hbm, ⟨19, _⟩ => ⟨S_, .i32⟩
  | .hbm, ⟨20, _⟩ => ⟨S_, .f32⟩
  | .hbm, ⟨21, _⟩ => ⟨S1024x256, .f32⟩
  | .hbm, ⟨22, _⟩ => ⟨S1024x3584, .f32⟩
  | .hbm, ⟨23, _⟩ => ⟨S1024x17920, .f32⟩
  | .hbm, ⟨24, _⟩ => ⟨S1024x17920, .bf16⟩
  | .hbm, ⟨25, _⟩ => ⟨S32768x17920, .f32⟩
  | .hbm, ⟨26, _⟩ => ⟨S8x4096x17920, .f32⟩
  | .hbm, ⟨27, _⟩ => ⟨S8x1x3584, .f32⟩
  | .hbm, ⟨28, _⟩ => ⟨S8x3584, .f32⟩
  | .hbm, ⟨29, _⟩ => ⟨S8x3072, .f32⟩
  | .hbm, ⟨30, _⟩ => ⟨S8x64, .f32⟩
  | .hbm, ⟨31, _⟩ => ⟨S8x64, .f32⟩
  | .hbm, ⟨32, _⟩ => ⟨S8x160, .f32⟩
  | .hbm, ⟨33, _⟩ => ⟨S8x3360, .f32⟩
  | .hbm, ⟨34, _⟩ => ⟨S8x4096x9216, .f32⟩
  | .hbm, ⟨35, _⟩ => ⟨S8x4096x3x3x16x64, .f32⟩
  | .hbm, ⟨36, _⟩ => ⟨S8x128x1x1x16x64, .f32⟩
  | .hbm, ⟨37, _⟩ => ⟨S8x128x16x64, .f32⟩
  | .hbm, ⟨38, _⟩ => ⟨S8x128x1x1x16x64, .f32⟩
  | .hbm, ⟨39, _⟩ => ⟨S8x128x16x64, .f32⟩
  | .hbm, ⟨40, _⟩ => ⟨S8x1x128x16x64, .f32⟩
  | .hbm, ⟨41, _⟩ => ⟨S8x1x128x16x64, .f32⟩
  | .hbm, ⟨42, _⟩ => ⟨S8x2x128x16x64, .f32⟩
  | .hbm, ⟨43, _⟩ => ⟨S8x512x1x1x16x64, .f32⟩
  | .hbm, ⟨44, _⟩ => ⟨S8x512x16x64, .f32⟩
  | .hbm, ⟨45, _⟩ => ⟨S8x512x1x1x16x64, .f32⟩
  | .hbm, ⟨46, _⟩ => ⟨S8x512x16x64, .f32⟩
  | .hbm, ⟨47, _⟩ => ⟨S8x1x512x16x64, .f32⟩
  | .hbm, ⟨48, _⟩ => ⟨S8x1x512x16x64, .f32⟩
  | .hbm, ⟨49, _⟩ => ⟨S8x2x512x16x64, .f32⟩
  | .hbm, ⟨50, _⟩ => ⟨S8x2048x1x1x16x64, .f32⟩
  | .hbm, ⟨51, _⟩ => ⟨S8x2048x16x64, .f32⟩
  | .hbm, ⟨52, _⟩ => ⟨S8x2048x1x1x16x64, .f32⟩
  | .hbm, ⟨53, _⟩ => ⟨S8x2048x16x64, .f32⟩
  | .hbm, ⟨54, _⟩ => ⟨S8x1x2048x16x64, .f32⟩
  | .hbm, ⟨55, _⟩ => ⟨S8x1x2048x16x64, .f32⟩
  | .hbm, ⟨56, _⟩ => ⟨S8x2x2048x16x64, .f32⟩
  | .hbm, ⟨57, _⟩ => ⟨S8x4096x3584, .f32⟩
  | .hbm, ⟨58, _⟩ => ⟨S8x4096x3072, .f32⟩
  | .hbm, ⟨59, _⟩ => ⟨S8x4096x64, .f32⟩
  | .hbm, ⟨60, _⟩ => ⟨S8x4096x64, .f32⟩
  | .hbm, ⟨61, _⟩ => ⟨S8x4096x160, .f32⟩
  | .hbm, ⟨62, _⟩ => ⟨S8x4096x3360, .f32⟩
  | .hbm, ⟨63, _⟩ => ⟨S8x4096x2048, .f32⟩
  | .hbm, ⟨64, _⟩ => ⟨S8x4096x9216, .f32⟩
  | .hbm, ⟨65, _⟩ => ⟨S8x4096x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8x4096x1024 : Shape := ⟨3, ![8, 4096, 1024]⟩
abbrev S1024 : Shape := ⟨1, ![1024]⟩
abbrev S1024x17696 : Shape := ⟨2, ![1024, 17696]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x17696 : Shape := ⟨3, ![8, 4096, 17696]⟩
abbrev S8x4096x3360 : Shape := ⟨3, ![8, 4096, 3360]⟩
abbrev S8x4096x2048 : Shape := ⟨3, ![8, 4096, 2048]⟩
abbrev S8x4096x9216 : Shape := ⟨3, ![8, 4096, 9216]⟩
abbrev S8x4096x3072 : Shape := ⟨3, ![8, 4096, 3072]⟩
abbrev S8x4096x3x3x16x64 : Shape := ⟨6, ![8, 4096, 3, 3, 16, 64]⟩
abbrev S8x4096x1x1x16x64 : Shape := ⟨6, ![8, 4096, 1, 1, 16, 64]⟩
abbrev S8x4096x16x64 : Shape := ⟨4, ![8, 4096, 16, 64]⟩
abbrev S8x128x16x64 : Shape := ⟨4, ![8, 128, 16, 64]⟩
abbrev S8x1x128x16x64 : Shape := ⟨5, ![8, 1, 128, 16, 64]⟩
abbrev S8x2x128x16x64 : Shape := ⟨5, ![8, 2, 128, 16, 64]⟩
abbrev S8x512x16x64 : Shape := ⟨4, ![8, 512, 16, 64]⟩
abbrev S8x1x512x16x64 : Shape := ⟨5, ![8, 1, 512, 16, 64]⟩
abbrev S8x2x512x16x64 : Shape := ⟨5, ![8, 2, 512, 16, 64]⟩
abbrev S8x2048x16x64 : Shape := ⟨4, ![8, 2048, 16, 64]⟩
abbrev S8x1x2048x16x64 : Shape := ⟨5, ![8, 1, 2048, 16, 64]⟩
abbrev S8x2x2048x16x64 : Shape := ⟨5, ![8, 2, 2048, 16, 64]⟩
abbrev S8x1x3360 : Shape := ⟨3, ![8, 1, 3360]⟩
abbrev S8x3360 : Shape := ⟨2, ![8, 3360]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x17696, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x17696, .f32⟩
  | .hbm, ⟨20, _⟩ => ⟨S8x4096x3360, .f32⟩
  | .hbm, ⟨21, _⟩ => ⟨S8x4096x2048, .f32⟩
  | .hbm, ⟨22, _⟩ => ⟨S8x4096x9216, .f32⟩
  | .hbm, ⟨23, _⟩ => ⟨S8x4096x3072, .f32⟩
  | .hbm, ⟨24, _⟩ => ⟨S8x4096x3x3x16x64, .f32⟩
  | .hbm, ⟨25, _⟩ => ⟨S8x4096x1x1x16x64, .f32⟩
  | .hbm, ⟨26, _⟩ => ⟨S8x4096x16x64, .f32⟩
  | .hbm, ⟨27, _⟩ => ⟨S8x4096x1x1x16x64, .f32⟩
  | .hbm, ⟨28, _⟩ => ⟨S8x4096x16x64, .f32⟩
  | .hbm, ⟨29, _⟩ => ⟨S8x128x16x64, .f32⟩
  | .hbm, ⟨30, _⟩ => ⟨S8x128x16x64, .f32⟩
  | .hbm, ⟨31, _⟩ => ⟨S8x1x128x16x64, .f32⟩
  | .hbm, ⟨32, _⟩ => ⟨S8x1x128x16x64, .f32⟩
  | .hbm, ⟨33, _⟩ => ⟨S8x2x128x16x64, .f32⟩
  | .hbm, ⟨34, _⟩ => ⟨S8x4096x1x1x16x64, .f32⟩
  | .hbm, ⟨35, _⟩ => ⟨S8x4096x16x64, .f32⟩
  | .hbm, ⟨36, _⟩ => ⟨S8x4096x1x1x16x64, .f32⟩
  | .hbm, ⟨37, _⟩ => ⟨S8x4096x16x64, .f32⟩
  | .hbm, ⟨38, _⟩ => ⟨S8x512x16x64, .f32⟩
  | .hbm, ⟨39, _⟩ => ⟨S8x512x16x64, .f32⟩
  | .hbm, ⟨40, _⟩ => ⟨S8x1x512x16x64, .f32⟩
  | .hbm, ⟨41, _⟩ => ⟨S8x1x512x16x64, .f32⟩
  | .hbm, ⟨42, _⟩ => ⟨S8x2x512x16x64, .f32⟩
  | .hbm, ⟨43, _⟩ => ⟨S8x4096x1x1x16x64, .f32⟩
  | .hbm, ⟨44, _⟩ => ⟨S8x4096x16x64, .f32⟩
  | .hbm, ⟨45, _⟩ => ⟨S8x4096x1x1x16x64, .f32⟩
  | .hbm, ⟨46, _⟩ => ⟨S8x4096x16x64, .f32⟩
  | .hbm, ⟨47, _⟩ => ⟨S8x2048x16x64, .f32⟩
  | .hbm, ⟨48, _⟩ => ⟨S8x2048x16x64, .f32⟩
  | .hbm, ⟨49, _⟩ => ⟨S8x1x2048x16x64, .f32⟩
  | .hbm, ⟨50, _⟩ => ⟨S8x1x2048x16x64, .f32⟩
  | .hbm, ⟨51, _⟩ => ⟨S8x2x2048x16x64, .f32⟩
  | .hbm, ⟨52, _⟩ => ⟨S8x1x3360, .f32⟩
  | .hbm, ⟨53, _⟩ => ⟨S8x3360, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Merge.lean ====
abbrev S32768x1024 : Shape := ⟨2, ![32768, 1024]⟩
abbrev S32768x17920 : Shape := ⟨2, ![32768, 17920]⟩
abbrev S3072 : Shape := ⟨1, ![3072]⟩
abbrev S3x1024x1024 : Shape := ⟨3, ![3, 1024, 1024]⟩
abbrev S1024x1024 : Shape := ⟨2, ![1024, 1024]⟩
abbrev S1x3072 : Shape := ⟨2, ![1, 3072]⟩
abbrev S256x1024 : Shape := ⟨2, ![256, 1024]⟩
abbrev S256x3072 : Shape := ⟨2, ![256, 3072]⟩
abbrev S1x1024x1024 : Shape := ⟨3, ![1, 1024, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x17920, .f32⟩
  | .hbm, ⟨5, _⟩ => ⟨S3072, .f32⟩
  | .hbm, ⟨6, _⟩ => ⟨S3x1024x1024, .f32⟩
  | .hbm, ⟨7, _⟩ => ⟨S1024x1024, .f32⟩
  | .hbm, ⟨8, _⟩ => ⟨S1x3072, .f32⟩
  | .hbm, ⟨9, _⟩ => ⟨S3x1024x1024, .bf16⟩
  | .hbm, ⟨10, _⟩ => ⟨S1024x1024, .bf16⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x3072, .f32⟩
  | .local _ .vmem, ⟨9, _⟩ => ⟨S256x3072, .f32⟩
  | .local _ .vmem, ⟨10, _⟩ => ⟨S1x3072, .f32⟩
  | .local _ .vmem, ⟨11, _⟩ => ⟨S3x1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x17920 : Shape := ⟨2, ![32768, 17920]⟩
abbrev S3072 : Shape := ⟨1, ![3072]⟩
abbrev S3x1024x1024 : Shape := ⟨3, ![3, 1024, 1024]⟩
abbrev S1024x1024 : Shape := ⟨2, ![1024, 1024]⟩
abbrev S32768x3072 : Shape := ⟨2, ![32768, 3072]⟩
abbrev S32768x1x1024 : Shape := ⟨3, ![32768, 1, 1024]⟩
abbrev S32768x3x1024 : Shape := ⟨3, ![32768, 3, 1024]⟩
abbrev S1x3072 : Shape := ⟨2, ![1, 3072]⟩
abbrev S_ : Shape := ⟨0, ![]⟩
abbrev S3x1024x32768 : Shape := ⟨3, ![3, 1024, 32768]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x17920, .f32⟩
  | .hbm, ⟨5, _⟩ => ⟨S3072, .f32⟩
  | .hbm, ⟨6, _⟩ => ⟨S3x1024x1024, .f32⟩
  | .hbm, ⟨7, _⟩ => ⟨S1024x1024, .f32⟩
  | .hbm, ⟨8, _⟩ => ⟨S32768x3072, .f32⟩
  | .hbm, ⟨9, _⟩ => ⟨S32768x1x1024, .f32⟩
  | .hbm, ⟨10, _⟩ => ⟨S32768x1x1024, .f32⟩
  | .hbm, ⟨11, _⟩ => ⟨S32768x1x1024, .f32⟩
  | .hbm, ⟨12, _⟩ => ⟨S32768x3x1024, .f32⟩
  | .hbm, ⟨13, _⟩ => ⟨S1x3072, .f32⟩
  | .hbm, ⟨14, _⟩ => ⟨S32768x3072, .f32⟩
  | .hbm, ⟨15, _⟩ => ⟨S32768x3072, .f32⟩
  | .hbm, ⟨16, _⟩ => ⟨S32768x3072, .f32⟩
  | .hbm, ⟨17, _⟩ => ⟨S32768x3072, .f32⟩
  | .hbm, ⟨18, _⟩ => ⟨S_, .f32⟩
  | .hbm, ⟨19, _⟩ => ⟨S32768x3072, .f32⟩
  | .hbm, ⟨20, _⟩ => ⟨S32768x3072, .f32⟩
  | .hbm, ⟨21, _⟩ => ⟨S_, .f32⟩
  | .hbm, ⟨22, _⟩ => ⟨S32768x3072, .f32⟩
  | .hbm, ⟨23, _⟩ => ⟨S32768x3072, .f32⟩
  | .hbm, ⟨24, _⟩ => ⟨S32768x3x1024, .f32⟩
  | .hbm, ⟨25, _⟩ => ⟨S3x1024x32768, .f32⟩
  | .hbm, ⟨26, _⟩ => ⟨S32768x3x1024, .f32⟩
  | .hbm, ⟨27, _⟩ => ⟨S32768x3x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== GmlpSample.lean ====
abbrev S32x8x17920 : Shape := ⟨3, ![32, 8, 17920]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S8x8x8 : Shape := ⟨3, ![8, 8, 8]⟩
abbrev S8x1024 : Shape := ⟨2, ![8, 1024]⟩
abbrev S32x8x1024 : Shape := ⟨3, ![32, 8, 1024]⟩
abbrev S1x8x2048 : Shape := ⟨3, ![1, 8, 2048]⟩
abbrev S1x8x1024 : Shape := ⟨3, ![1, 8, 1024]⟩
abbrev S8x2048 : Shape := ⟨2, ![8, 2048]⟩
abbrev S8 : Shape := ⟨1, ![8]⟩
abbrev S8x1 : Shape := ⟨2, ![8, 1]⟩
abbrev S8x8 : Shape := ⟨2, ![8, 8]⟩
abbrev S1x8x8 : Shape := ⟨3, ![1, 8, 8]⟩
abbrev S1x8x128 : Shape := ⟨3, ![1, 8, 128]⟩

abbrev nBuf : Space → Nat
  | .hbm => 14
  | .vmem => 10
  | .smem => 0
  | _ => 0

abbrev bufTy : (tb : Table) → Fin (tcTables nBuf tb) → BufTy
  | .hbm, ⟨0, _⟩ => ⟨S32x8x17920, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S128x8x128, .f32⟩
  | .hbm, ⟨9, _⟩ => ⟨S128x1024, .f32⟩
  | .hbm, ⟨10, _⟩ => ⟨S8x8x8, .f32⟩
  | .hbm, ⟨11, _⟩ => ⟨S8x1024, .f32⟩
  | .hbm, ⟨12, _⟩ => ⟨S32x8x1024, .f32⟩
  | .hbm, ⟨13, _⟩ => ⟨S32x8x1024, .f32⟩
  | .local _ .vmem, ⟨0, _⟩ => ⟨S1x8x2048, .f32⟩
  | .local _ .vmem, ⟨1, _⟩ => ⟨S1x8x2048, .f32⟩
  | .local _ .vmem, ⟨2, _⟩ => ⟨S1x1024, .f32⟩
  | .local _ .vmem, ⟨3, _⟩ => ⟨S1x1024, .f32⟩
  | .local _ .vmem, ⟨4, _⟩ => ⟨S8x8x8, .f32⟩
  | .local _ .vmem, ⟨5, _⟩ => ⟨S8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | _, _ => ⟨S32x8x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GmlpSampleRefIdeal.lean ====
abbrev S32x8x17920 : Shape := ⟨3, ![32, 8, 17920]⟩
abbrev S1024 : Shape := ⟨1, ![1024]⟩
abbrev S8x128x128 : Shape := ⟨3, ![8, 128, 128]⟩
abbrev S8x128 : Shape := ⟨2, ![8, 128]⟩
abbrev S32x8x2048 : Shape := ⟨3, ![32, 8, 2048]⟩
abbrev S_ : Shape := ⟨0, ![]⟩
abbrev S32x8x1024 : Shape := ⟨3, ![32, 8, 1024]⟩
abbrev S32x8 : Shape := ⟨2, ![32, 8]⟩
abbrev S32x8x1 : Shape := ⟨3, ![32, 8, 1]⟩
abbrev S1x1x1024 : Shape := ⟨3, ![1, 1, 1024]⟩
abbrev S128x128 : Shape := ⟨2, ![128, 128]⟩
abbrev S8x8x8 : Shape := ⟨3, ![8, 8, 8]⟩
abbrev S32x8x8x128 : Shape := ⟨4, ![32, 8, 8, 128]⟩
abbrev S8x32x128x8 : Shape := ⟨4, ![8, 32, 128, 8]⟩
abbrev S8x8 : Shape := ⟨2, ![8, 8]⟩
abbrev S8x8x1 : Shape := ⟨3, ![8, 8, 1]⟩
abbrev S1x8x8x1 : Shape := ⟨4, ![1, 8, 8, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x8x17920, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S32x8x2048, .f32⟩
  | .hbm, ⟨6, _⟩ => ⟨S_, .f32⟩
  | .hbm, ⟨7, _⟩ => ⟨S32x8x2048, .f32⟩
  | .hbm, ⟨8, _⟩ => ⟨S32x8x2048, .f32⟩
  | .hbm, ⟨9, _⟩ => ⟨S_, .f32⟩
  | .hbm, ⟨10, _⟩ => ⟨S32x8x2048, .f32⟩
  | .hbm, ⟨11, _⟩ => ⟨S32x8x2048, .f32⟩
  | .hbm, ⟨12, _⟩ => ⟨S32x8x2048, .f32⟩
  | .hbm, ⟨13, _⟩ => ⟨S_, .f32⟩
  | .hbm, ⟨14, _⟩ => ⟨S32x8x2048, .f32⟩
  | .hbm, ⟨15, _⟩ => ⟨S32x8x2048, .f32⟩
  | .hbm, ⟨16, _⟩ => ⟨S32x8x2048, .f32⟩
  | .hbm, ⟨17, _⟩ => ⟨S32x8x1024, .f32⟩
  | .hbm, ⟨18, _⟩ => ⟨S32x8x1024, .f32⟩
  | .hbm, ⟨19, _⟩ => ⟨S_, .f32⟩
  | .hbm, ⟨20, _⟩ => ⟨S32x8, .f32⟩
  | .hbm, ⟨21, _⟩ => ⟨S32x8x1, .f32⟩
  | .hbm, ⟨22, _⟩ => ⟨S_, .f32⟩
  | .hbm, ⟨23, _⟩ => ⟨S32x8x1, .f32⟩
  | .hbm, ⟨24, _⟩ => ⟨S32x8x1, .f32⟩
  | .hbm, ⟨25, _⟩ => ⟨S32x8x1024, .f32⟩
  | .hbm, ⟨26, _⟩ => ⟨S32x8x1024, .f32⟩
  | .hbm, ⟨27, _⟩ => ⟨S32x8x1024, .f32⟩
  | .hbm, ⟨28, _⟩ => ⟨S_, .f32⟩
  | .hbm, ⟨29, _⟩ => ⟨S32x8, .f32⟩
  | .hbm, ⟨30, _⟩ => ⟨S32x8x1, .f32⟩
  | .hbm, ⟨31, _⟩ => ⟨S_, .f32⟩
  | .hbm, ⟨32, _⟩ => ⟨S32x8x1, .f32⟩
  | .hbm, ⟨33, _⟩ => ⟨S32x8x1, .f32⟩
  | .hbm, ⟨34, _⟩ => ⟨S_, .f32⟩
  | .hbm, ⟨35, _⟩ => ⟨S32x8x1, .f32⟩
  | .hbm, ⟨36, _⟩ => ⟨S32x8x1, .f32⟩
  | .hbm, ⟨37, _⟩ => ⟨S32x8x1, .f32⟩
  | .hbm, ⟨38, _⟩ => ⟨S32x8x1024, .f32⟩
  | .hbm, ⟨39, _⟩ => ⟨S32x8x1024, .f32⟩
  | .hbm, ⟨40, _⟩ => ⟨S1x1x1024, .f32⟩
  | .hbm, ⟨41, _⟩ => ⟨S32x8x1024, .f32⟩
  | .hbm, ⟨42, _⟩ => ⟨S32x8x1024, .f32⟩
  | .hbm, ⟨43, _⟩ => ⟨S1x1x1024, .f32⟩
  | .hbm, ⟨44, _⟩ => ⟨S32x8x1024, .f32⟩
  | .hbm, ⟨45, _⟩ => ⟨S32x8x1024, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S8x128x128, .i1⟩
  | .hbm, ⟨53, _⟩ => ⟨S_, .f32⟩
  | .hbm, ⟨54, _⟩ => ⟨S8x128x128, .f32⟩
  | .hbm, ⟨55, _⟩ => ⟨S8x128x128, .f32⟩
  | .hbm, ⟨56, _⟩ => ⟨S8x8x8, .f32⟩
  | .hbm, ⟨57, _⟩ => ⟨S32x8x8x128, .f32⟩
  | .hbm, ⟨58, _⟩ => ⟨S8x32x128x8, .f32⟩
  | .hbm, ⟨59, _⟩ => ⟨S32x8x8x128, .f32⟩
  | .hbm, ⟨60, _⟩ => ⟨S8x8, .f32⟩
  | .hbm, ⟨61, _⟩ => ⟨S8x8, .f32⟩
  | .hbm, ⟨62, _⟩ => ⟨S8x8x1, .f32⟩
  | .hbm, ⟨63, _⟩ => ⟨S1x8x8x1, .f32⟩
  | .hbm, ⟨64, _⟩ => ⟨S32x8x8x128, .f32⟩
  | .hbm, ⟨65, _⟩ => ⟨S32x8x8x128, .f32⟩
  | .hbm, ⟨66, _⟩ => ⟨S32x8x1024, .f32⟩
  | .hbm, ⟨67, _⟩ => ⟨S32x8x1024, .f32⟩
  | _, _ => ⟨S32x8x17920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_cst : Ref sig .tc := ⟨.hbm, 53, rfl⟩
abbrev main_call0_v6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== MlpSample.lean ====
abbrev S256x1024 : Shape := ⟨2, ![256, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpSampleRefIdeal.lean ====
abbrev S256x1024 : Shape := ⟨2, ![256, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4096 : Shape := ⟨2, ![256, 4096]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x4096, .f32⟩
  | .hbm, ⟨22, _⟩ => ⟨S_, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== ProjSample.lean ====
abbrev S32x8x1024 : Shape := ⟨3, ![32, 8, 1024]⟩
abbrev S1024 : Shape := ⟨1, ![1024]⟩
abbrev S1024x17696 : Shape := ⟨2, ![1024, 17696]⟩
abbrev S32x2x128x16x64 : Shape := ⟨5, ![32, 2, 128, 16, 64]⟩
abbrev S32x2x512x16x64 : Shape := ⟨5, ![32, 2, 512, 16, 64]⟩
abbrev S32x2x2048x16x64 : Shape := ⟨5, ![32, 2, 2048, 16, 64]⟩
abbrev S256x1024 : Shape := ⟨2, ![256, 1024]⟩
abbrev S1x1024 : Shape := ⟨2, ![1, 1024]⟩
abbrev S1024x9216 : Shape := ⟨2, ![1024, 9216]⟩
abbrev S1024x3072 : Shape := ⟨2, ![1024, 3072]⟩
abbrev S1024x2048 : Shape := ⟨2, ![1024, 2048]⟩
abbrev S1024x3360 : Shape := ⟨2, ![1024, 3360]⟩
abbrev S1024x64 : Shape := ⟨2, ![1024, 64]⟩
abbrev S_ : Shape := ⟨0, ![]⟩
abbrev S1024x128 : Shape := ⟨2, ![1024, 128]⟩
abbrev S1024x160 : Shape := ⟨2, ![1024, 160]⟩
abbrev S1024x256 : Shape := ⟨2, ![1024, 256]⟩
abbrev S1024x3584 : Shape := ⟨2, ![1024, 3584]⟩
abbrev S1024x17920 : Shape := ⟨2, ![1024, 17920]⟩
abbrev S256x17920 : Shape := ⟨2, ![256, 17920]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S32x8x17920 : Shape := ⟨3, ![32, 8, 17920]⟩
abbrev S32x1x3584 : Shape := ⟨3, ![32, 1, 3584]⟩
abbrev S32x3584 : Shape := ⟨2, ![32, 3584]⟩
abbrev S32x3072 : Shape := ⟨2, ![32, 3072]⟩
abbrev S32x64 : Shape := ⟨2, ![32, 64]⟩
abbrev S32x160 : Shape := ⟨2, ![32, 160]⟩
abbrev S32x3360 : Shape := ⟨2, ![32, 3360]⟩
abbrev S32x8x9216 : Shape := ⟨3, ![32, 8, 9216]⟩
abbrev S32x8x3x3x16x64 : Shape := ⟨6, ![32, 8, 3, 3, 16, 64]⟩
abbrev S32x2x120x16x64 : Shape := ⟨5, ![32, 2, 120, 16, 64]⟩
abbrev S32x8x1x1x16x64 : Shape := ⟨6, ![32, 8, 1, 1, 16, 64]⟩
abbrev S32x8x16x64 : Shape := ⟨4, ![32, 8, 16, 64]⟩
abbrev S32x1x8x16x64 : Shape := ⟨5, ![32, 1, 8, 16, 64]⟩
abbrev S32x2x8x16x64 : Shape := ⟨5, ![32, 2, 8, 16, 64]⟩
abbrev S32x2x504x16x64 : Shape := ⟨5, ![32, 2, 504, 16, 64]⟩
abbrev S32x2x2040x16x64 : Shape := ⟨5, ![32, 2, 2040, 16, 64]⟩
abbrev S32x8x3584 : Shape := ⟨3, ![32, 8, 3584]⟩
abbrev S32x8x3072 : Shape := ⟨3, ![32, 8, 3072]⟩
abbrev S32x8x64 : Shape := ⟨3, ![32, 8, 64]⟩
abbrev S32x8x160 : Shape := ⟨3, ![32, 8, 160]⟩
abbrev S32x8x3360 : Shape := ⟨3, ![32, 8, 3360]⟩
abbrev S32x8x2048 : Shape := ⟨3, ![32, 8, 2048]⟩

abbrev nBuf : Space → Nat
  | .hbm => 75
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x17696, .f32⟩
  | .hbm, ⟨3, _⟩ => ⟨S32x2x128x16x64, .f32⟩
  | .hbm, ⟨4, _⟩ => ⟨S32x2x512x16x64, .f32⟩
  | .hbm, ⟨5, _⟩ => ⟨S32x2x2048x16x64, .f32⟩
  | .hbm, ⟨6, _⟩ => ⟨S256x1024, .f32⟩
  | .hbm, ⟨7, _⟩ => ⟨S1x1024, .f32⟩
  | .hbm, ⟨8, _⟩ => ⟨S1024x9216, .f32⟩
  | .hbm, ⟨9, _⟩ => ⟨S1024x3072, .f32⟩
  | .hbm, ⟨10, _⟩ => ⟨S1024x2048, .f32⟩
  | .hbm, ⟨11, _⟩ => ⟨S1024x3360, .f32⟩
  | .hbm, ⟨12, _⟩ => ⟨S1024x3072, .f32⟩
  | .hbm, ⟨13, _⟩ => ⟨S1024x64, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x64, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x160, .f32⟩
  | .hbm, ⟨22, _⟩ => ⟨S_, .i32⟩
  | .hbm, ⟨23, _⟩ => ⟨S_, .f32⟩
  | .hbm, ⟨24, _⟩ => ⟨S1024x256, .f32⟩
  | .hbm, ⟨25, _⟩ => ⟨S1024x3584, .f32⟩
  | .hbm, ⟨26, _⟩ => ⟨S1024x17920, .f32⟩
  | .hbm, ⟨27, _⟩ => ⟨S1024x17920, .bf16⟩
  | .hbm, ⟨28, _⟩ => ⟨S256x17920, .f32⟩
  | .hbm, ⟨29, _⟩ => ⟨S32x8x17920, .f32⟩
  | .hbm, ⟨30, _⟩ => ⟨S32x1x3584, .f32⟩
  | .hbm, ⟨31, _⟩ => ⟨S32x3584, .f32⟩
  | .hbm, ⟨32, _⟩ => ⟨S32x3072, .f32⟩
  | .hbm, ⟨33, _⟩ => ⟨S32x64, .f32⟩
  | .hbm, ⟨34, _⟩ => ⟨S32x64, .f32⟩
  | .hbm, ⟨35, _⟩ => ⟨S32x160, .f32⟩
  | .hbm, ⟨36, _⟩ => ⟨S32x3360, .f32⟩
  | .hbm, ⟨37, _⟩ => ⟨S32x8x9216, .f32⟩
  | .hbm, ⟨38, _⟩ => ⟨S32x8x3x3x16x64, .f32⟩
  | .hbm, ⟨39, _⟩ => ⟨S32x2x120x16x64, .f32⟩
  | .hbm, ⟨40, _⟩ => ⟨S32x8x1x1x16x64, .f32⟩
  | .hbm, ⟨41, _⟩ => ⟨S32x8x16x64, .f32⟩
  | .hbm, ⟨42, _⟩ => ⟨S32x8x1x1x16x64, .f32⟩
  | .hbm, ⟨43, _⟩ => ⟨S32x8x16x64, .f32⟩
  | .hbm, ⟨44, _⟩ => ⟨S32x1x8x16x64, .f32⟩
  | .hbm, ⟨45, _⟩ => ⟨S32x1x8x16x64, .f32⟩
  | .hbm, ⟨46, _⟩ => ⟨S32x2x8x16x64, .f32⟩
  | .hbm, ⟨47, _⟩ => ⟨S32x2x128x16x64, .f32⟩
  | .hbm, ⟨48, _⟩ => ⟨S32x2x504x16x64, .f32⟩
  | .hbm, ⟨49, _⟩ => ⟨S32x8x1x1x16x64, .f32⟩
  | .hbm, ⟨50, _⟩ => ⟨S32x8x16x64, .f32⟩
  | .hbm, ⟨51, _⟩ => ⟨S32x8x1x1x16x64, .f32⟩
  | .hbm, ⟨52, _⟩ => ⟨S32x8x16x64, .f32⟩
  | .hbm, ⟨53, _⟩ => ⟨S32x1x8x16x64, .f32⟩
  | .hbm, ⟨54, _⟩ => ⟨S32x1x8x16x64, .f32⟩
  | .hbm, ⟨55, _⟩ => ⟨S32x2x8x16x64, .f32⟩
  | .hbm, ⟨56, _⟩ => ⟨S32x2x512x16x64, .f32⟩
  | .hbm, ⟨57, _⟩ => ⟨S32x2x2040x16x64, .f32⟩
  | .hbm, ⟨58, _⟩ => ⟨S32x8x1x1x16x64, .f32⟩
  | .hbm, ⟨59, _⟩ => ⟨S32x8x16x64, .f32⟩
  | .hbm, ⟨60, _⟩ => ⟨S32x8x1x1x16x64, .f32⟩
  | .hbm, ⟨61, _⟩ => ⟨S32x8x16x64, .f32⟩
  | .hbm, ⟨62, _⟩ => ⟨S32x1x8x16x64, .f32⟩
  | .hbm, ⟨63, _⟩ => ⟨S32x1x8x16x64, .f32⟩
  | .hbm, ⟨64, _⟩ => ⟨S32x2x8x16x64, .f32⟩
  | .hbm, ⟨65, _⟩ => ⟨S32x2x2048x16x64, .f32⟩
  | .hbm, ⟨66, _⟩ => ⟨S32x8x3584, .f32⟩
  | .hbm, ⟨67, _⟩ => ⟨S32x8x3072, .f32⟩
  | .hbm, ⟨68, _⟩ => ⟨S32x8x64, .f32⟩
  | .hbm, ⟨69, _⟩ => ⟨S32x8x64, .f32⟩
  | .hbm, ⟨70, _⟩ => ⟨S32x8x160, .f32⟩
  | .hbm, ⟨71, _⟩ => ⟨S32x8x3360, .f32⟩
  | .hbm, ⟨72, _⟩ => ⟨S32x8x2048, .f32⟩
  | .hbm, ⟨73, _⟩ => ⟨S32x8x9216, .f32⟩
  | .hbm, ⟨74, _⟩ => ⟨S32x8x3072, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjSampleRefIdeal.lean ====
abbrev S32x8x1024 : Shape := ⟨3, ![32, 8, 1024]⟩
abbrev S1024 : Shape := ⟨1, ![1024]⟩
abbrev S1024x17696 : Shape := ⟨2, ![1024, 17696]⟩
abbrev S32x2x128x16x64 : Shape := ⟨5, ![32, 2, 128, 16, 64]⟩
abbrev S32x2x512x16x64 : Shape := ⟨5, ![32, 2, 512, 16, 64]⟩
abbrev S32x2x2048x16x64 : Shape := ⟨5, ![32, 2, 2048, 16, 64]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x17696 : Shape := ⟨3, ![32, 8, 17696]⟩
abbrev S32x8x3360 : Shape := ⟨3, ![32, 8, 3360]⟩
abbrev S32x8x2048 : Shape := ⟨3, ![32, 8, 2048]⟩
abbrev S32x8x9216 : Shape := ⟨3, ![32, 8, 9216]⟩
abbrev S32x8x3072 : Shape := ⟨3, ![32, 8, 3072]⟩
abbrev S32x8x3x3x16x64 : Shape := ⟨6, ![32, 8, 3, 3, 16, 64]⟩
abbrev S32x8x1x1x16x64 : Shape := ⟨6, ![32, 8, 1, 1, 16, 64]⟩
abbrev S32x8x16x64 : Shape := ⟨4, ![32, 8, 16, 64]⟩
abbrev S32x1x128x16x64 : Shape := ⟨5, ![32, 1, 128, 16, 64]⟩
abbrev S32x128x16x64 : Shape := ⟨4, ![32, 128, 16, 64]⟩
abbrev S32x136x16x64 : Shape := ⟨4, ![32, 136, 16, 64]⟩
abbrev S32x1x512x16x64 : Shape := ⟨5, ![32, 1, 512, 16, 64]⟩
abbrev S32x512x16x64 : Shape := ⟨4, ![32, 512, 16, 64]⟩
abbrev S32x520x16x64 : Shape := ⟨4, ![32, 520, 16, 64]⟩
abbrev S32x1x2048x16x64 : Shape := ⟨5, ![32, 1, 2048, 16, 64]⟩
abbrev S32x2048x16x64 : Shape := ⟨4, ![32, 2048, 16, 64]⟩
abbrev S32x2056x16x64 : Shape := ⟨4, ![32, 2056, 16, 64]⟩
abbrev S32x1x3360 : Shape := ⟨3, ![32, 1, 3360]⟩
abbrev S32x3360 : Shape := ⟨2, ![32, 3360]⟩

abbrev nBuf : Space → Nat
  | .hbm => 75
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x17696, .f32⟩
  | .hbm, ⟨3, _⟩ => ⟨S32x2x128x16x64, .f32⟩
  | .hbm, ⟨4, _⟩ => ⟨S32x2x512x16x64, .f32⟩
  | .hbm, ⟨5, _⟩ => ⟨S32x2x2048x16x64, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S32x8x17696, .f32⟩
  | .hbm, ⟨23, _⟩ => ⟨S32x8x3360, .f32⟩
  | .hbm, ⟨24, _⟩ => ⟨S32x8x2048, .f32⟩
  | .hbm, ⟨25, _⟩ => ⟨S32x8x9216, .f32⟩
  | .hbm, ⟨26, _⟩ => ⟨S32x8x3072, .f32⟩
  | .hbm, ⟨27, _⟩ => ⟨S32x8x3x3x16x64, .f32⟩
  | .hbm, ⟨28, _⟩ => ⟨S32x8x1x1x16x64, .f32⟩
  | .hbm, ⟨29, _⟩ => ⟨S32x8x16x64, .f32⟩
  | .hbm, ⟨30, _⟩ => ⟨S32x8x1x1x16x64, .f32⟩
  | .hbm, ⟨31, _⟩ => ⟨S32x8x16x64, .f32⟩
  | .hbm, ⟨32, _⟩ => ⟨S32x1x128x16x64, .f32⟩
  | .hbm, ⟨33, _⟩ => ⟨S32x128x16x64, .f32⟩
  | .hbm, ⟨34, _⟩ => ⟨S32x136x16x64, .f32⟩
  | .hbm, ⟨35, _⟩ => ⟨S32x1x128x16x64, .f32⟩
  | .hbm, ⟨36, _⟩ => ⟨S32x128x16x64, .f32⟩
  | .hbm, ⟨37, _⟩ => ⟨S32x136x16x64, .f32⟩
  | .hbm, ⟨38, _⟩ => ⟨S32x128x16x64, .f32⟩
  | .hbm, ⟨39, _⟩ => ⟨S32x128x16x64, .f32⟩
  | .hbm, ⟨40, _⟩ => ⟨S32x1x128x16x64, .f32⟩
  | .hbm, ⟨41, _⟩ => ⟨S32x1x128x16x64, .f32⟩
  | .hbm, ⟨42, _⟩ => ⟨S32x2x128x16x64, .f32⟩
  | .hbm, ⟨43, _⟩ => ⟨S32x8x1x1x16x64, .f32⟩
  | .hbm, ⟨44, _⟩ => ⟨S32x8x16x64, .f32⟩
  | .hbm, ⟨45, _⟩ => ⟨S32x8x1x1x16x64, .f32⟩
  | .hbm, ⟨46, _⟩ => ⟨S32x8x16x64, .f32⟩
  | .hbm, ⟨47, _⟩ => ⟨S32x1x512x16x64, .f32⟩
  | .hbm, ⟨48, _⟩ => ⟨S32x512x16x64, .f32⟩
  | .hbm, ⟨49, _⟩ => ⟨S32x520x16x64, .f32⟩
  | .hbm, ⟨50, _⟩ => ⟨S32x1x512x16x64, .f32⟩
  | .hbm, ⟨51, _⟩ => ⟨S32x512x16x64, .f32⟩
  | .hbm, ⟨52, _⟩ => ⟨S32x520x16x64, .f32⟩
  | .hbm, ⟨53, _⟩ => ⟨S32x512x16x64, .f32⟩
  | .hbm, ⟨54, _⟩ => ⟨S32x512x16x64, .f32⟩
  | .hbm, ⟨55, _⟩ => ⟨S32x1x512x16x64, .f32⟩
  | .hbm, ⟨56, _⟩ => ⟨S32x1x512x16x64, .f32⟩
  | .hbm, ⟨57, _⟩ => ⟨S32x2x512x16x64, .f32⟩
  | .hbm, ⟨58, _⟩ => ⟨S32x8x1x1x16x64, .f32⟩
  | .hbm, ⟨59, _⟩ => ⟨S32x8x16x64, .f32⟩
  | .hbm, ⟨60, _⟩ => ⟨S32x8x1x1x16x64, .f32⟩
  | .hbm, ⟨61, _⟩ => ⟨S32x8x16x64, .f32⟩
  | .hbm, ⟨62, _⟩ => ⟨S32x1x2048x16x64, .f32⟩
  | .hbm, ⟨63, _⟩ => ⟨S32x2048x16x64, .f32⟩
  | .hbm, ⟨64, _⟩ => ⟨S32x2056x16x64, .f32⟩
  | .hbm, ⟨65, _⟩ => ⟨S32x1x2048x16x64, .f32⟩
  | .hbm, ⟨66, _⟩ => ⟨S32x2048x16x64, .f32⟩
  | .hbm, ⟨67, _⟩ => ⟨S32x2056x16x64, .f32⟩
  | .hbm, ⟨68, _⟩ => ⟨S32x2048x16x64, .f32⟩
  | .hbm, ⟨69, _⟩ => ⟨S32x2048x16x64, .f32⟩
  | .hbm, ⟨70, _⟩ => ⟨S32x1x2048x16x64, .f32⟩
  | .hbm, ⟨71, _⟩ => ⟨S32x1x2048x16x64, .f32⟩
  | .hbm, ⟨72, _⟩ => ⟨S32x2x2048x16x64, .f32⟩
  | .hbm, ⟨73, _⟩ => ⟨S32x1x3360, .f32⟩
  | .hbm, ⟨74, _⟩ => ⟨S32x3360, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== Attn.lean ====
abbrev S32x8x9216 : Shape := ⟨3, ![32, 8, 9216]⟩
abbrev S32x2x128x16x64 : Shape := ⟨5, ![32, 2, 128, 16, 64]⟩
abbrev S32x2x512x16x64 : Shape := ⟨5, ![32, 2, 512, 16, 64]⟩
abbrev S32x2x2048x16x64 : Shape := ⟨5, ![32, 2, 2048, 16, 64]⟩
abbrev S16 : Shape := ⟨1, ![16]⟩
abbrev S_ : Shape := ⟨0, ![]⟩
abbrev S1x16x1 : Shape := ⟨3, ![1, 16, 1]⟩
abbrev S1x16x128 : Shape := ⟨3, ![1, 16, 128]⟩
abbrev S32x8x3x3x16x64 : Shape := ⟨6, ![32, 8, 3, 3, 16, 64]⟩
abbrev S32x2x128x1x16x64 : Shape := ⟨6, ![32, 2, 128, 1, 16, 64]⟩
abbrev S32x2x128x4x16x64 : Shape := ⟨6, ![32, 2, 128, 4, 16, 64]⟩
abbrev S32x2x128x16x16x64 : Shape := ⟨6, ![32, 2, 128, 16, 16, 64]⟩
abbrev S32x8x16x64 : Shape := ⟨4, ![32, 8, 16, 64]⟩
abbrev S1x8x128 : Shape := ⟨3, ![1, 8, 128]⟩
abbrev S1x8x3x3x8x64 : Shape := ⟨6, ![1, 8, 3, 3, 8, 64]⟩
abbrev S1x2x128x1x8x64 : Shape := ⟨6, ![1, 2, 128, 1, 8, 64]⟩
abbrev S1x2x128x4x8x64 : Shape := ⟨6, ![1, 2, 128, 4, 8, 64]⟩
abbrev S1x2x128x8x8x64 : Shape := ⟨6, ![1, 2, 128, 8, 8, 64]⟩
abbrev S1x8x8x64 : Shape := ⟨4, ![1, 8, 8, 64]⟩
abbrev S1x8x1 : Shape := ⟨3, ![1, 8, 1]⟩
abbrev S128x1x1 : Shape := ⟨3, ![128, 1, 1]⟩
abbrev S8x1x1 : Shape := ⟨3, ![8, 1, 1]⟩
abbrev S1x1x1x1x8x64 : Shape := ⟨6, ![1, 1, 1, 1, 8, 64]⟩
abbrev S8x64 : Shape := ⟨2, ![8, 64]⟩
abbrev S1x1x128x1x8x64 : Shape := ⟨6, ![1, 1, 128, 1, 8, 64]⟩
abbrev S128x8x64 : Shape := ⟨3, ![128, 8, 64]⟩
abbrev S1x8x1x1x8x64 : Shape := ⟨6, ![1, 8, 1, 1, 8, 64]⟩
abbrev S8x8x64 : Shape := ⟨3, ![8, 8, 64]⟩
abbrev S1x8x64 : Shape := ⟨3, ![1, 8, 64]⟩
abbrev S128x8 : Shape := ⟨2, ![128, 8]⟩
abbrev S128x8x1 : Shape := ⟨3, ![128, 8, 1]⟩
abbrev S8x8 : Shape := ⟨2, ![8, 8]⟩
abbrev S8x8x1 : Shape := ⟨3, ![8, 8, 1]⟩
abbrev S8x1 : Shape := ⟨2, ![8, 1]⟩
abbrev S1x1x8x64 : Shape := ⟨4, ![1, 1, 8, 64]⟩

abbrev nBuf : Space → Nat
  | .hbm => 25
  | .vmem => 12
  | .smem => 0
  | _ => 0

abbrev bufTy : (tb : Table) → Fin (tcTables nBuf tb) → BufTy
  | .hbm, ⟨0, _⟩ => ⟨S32x8x9216, .f32⟩
  | .hbm, ⟨1, _⟩ => ⟨S32x2x128x16x64, .f32⟩
  | .hbm, ⟨2, _⟩ => ⟨S32x2x512x16x64, .f32⟩
  | .hbm, ⟨3, _⟩ => ⟨S32x2x2048x16x64, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S1x16x1, .f32⟩
  | .hbm, ⟨19, _⟩ => ⟨S1x16x128, .f32⟩
  | .hbm, ⟨20, _⟩ => ⟨S32x8x3x3x16x64, .f32⟩
  | .hbm, ⟨21, _⟩ => ⟨S32x2x128x1x16x64, .f32⟩
  | .hbm, ⟨22, _⟩ => ⟨S32x2x128x4x16x64, .f32⟩
  | .hbm, ⟨23, _⟩ => ⟨S32x2x128x16x16x64, .f32⟩
  | .hbm, ⟨24, _⟩ => ⟨S32x8x16x64, .f32⟩
  | .local _ .vmem, ⟨0, _⟩ => ⟨S1x8x128, .f32⟩
  | .local _ .vmem, ⟨1, _⟩ => ⟨S1x8x128, .f32⟩
  | .local _ .vmem, ⟨2, _⟩ => ⟨S1x8x3x3x8x64, .f32⟩
  | .local _ .vmem, ⟨3, _⟩ => ⟨S1x8x3x3x8x64, .f32⟩
  | .local _ .vmem, ⟨4, _⟩ => ⟨S1x2x128x1x8x64, .f32⟩
  | .local _ .vmem, ⟨5, _⟩ => ⟨S1x2x128x1x8x64, .f32⟩
  | .local _ .vmem, ⟨6, _⟩ => ⟨S1x2x128x4x8x64, .f32⟩
  | .local _ .vmem, ⟨7, _⟩ => ⟨S1x2x128x4x8x64, .f32⟩
  | .local _ .vmem, ⟨8, _⟩ => ⟨S1x2x128x8x8x64, .f32⟩
  | .local _ .vmem, ⟨9, _⟩ => ⟨S1x2x128x8x8x64, .f32⟩
  | .local _ .vmem, ⟨10, _⟩ => ⟨S1x8x8x64, .f32⟩
  | .local _ .vmem, ⟨11, _⟩ => ⟨S1x8x8x64, .f32⟩
  | _, _ => ⟨S32x8x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x3x3x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x4x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x8x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S32x8x9216 : Shape := ⟨3, ![32, 8, 9216]⟩
abbrev S32x2x128x16x64 : Shape := ⟨5, ![32, 2, 128, 16, 64]⟩
abbrev S32x2x512x16x64 : Shape := ⟨5, ![32, 2, 512, 16, 64]⟩
abbrev S32x2x2048x16x64 : Shape := ⟨5, ![32, 2, 2048, 16, 64]⟩
abbrev S16 : Shape := ⟨1, ![16]⟩
abbrev S_ : Shape := ⟨0, ![]⟩
abbrev S32x8x3x3x16x64 : Shape := ⟨6, ![32, 8, 3, 3, 16, 64]⟩
abbrev S32x8x1x1x16x64 : Shape := ⟨6, ![32, 8, 1, 1, 16, 64]⟩
abbrev S32x8x16x64 : Shape := ⟨4, ![32, 8, 16, 64]⟩
abbrev S32x1x128x16x64 : Shape := ⟨5, ![32, 1, 128, 16, 64]⟩
abbrev S32x128x16x64 : Shape := ⟨4, ![32, 128, 16, 64]⟩
abbrev S32x136x16x64 : Shape := ⟨4, ![32, 136, 16, 64]⟩
abbrev S129 : Shape := ⟨1, ![129]⟩
abbrev S8 : Shape := ⟨1, ![8]⟩
abbrev S8x1 : Shape := ⟨2, ![8, 1]⟩
abbrev S1x129 : Shape := ⟨2, ![1, 129]⟩
abbrev S8x129 : Shape := ⟨2, ![8, 129]⟩
abbrev S8x129x1 : Shape := ⟨3, ![8, 129, 1]⟩
abbrev S32x8x129x16x64 : Shape := ⟨5, ![32, 8, 129, 16, 64]⟩
abbrev S16x1 : Shape := ⟨2, ![16, 1]⟩
abbrev S16x129 : Shape := ⟨2, ![16, 129]⟩
abbrev S32x16x8x129 : Shape := ⟨4, ![32, 16, 8, 129]⟩
abbrev S1x16x1x129 : Shape := ⟨4, ![1, 16, 1, 129]⟩
abbrev S1x1x8x129 : Shape := ⟨4, ![1, 1, 8, 129]⟩
abbrev S32x16x8 : Shape := ⟨3, ![32, 16, 8]⟩
abbrev S32x16x8x1 : Shape := ⟨4, ![32, 16, 8, 1]⟩
abbrev S32x8x16 : Shape := ⟨3, ![32, 8, 16]⟩
abbrev S32x1x512x16x64 : Shape := ⟨5, ![32, 1, 512, 16, 64]⟩
abbrev S32x512x16x64 : Shape := ⟨4, ![32, 512, 16, 64]⟩
abbrev S32x520x16x64 : Shape := ⟨4, ![32, 520, 16, 64]⟩
abbrev S32x1x2048x16x64 : Shape := ⟨5, ![32, 1, 2048, 16, 64]⟩
abbrev S32x2048x16x64 : Shape := ⟨4, ![32, 2048, 16, 64]⟩
abbrev S32x2056x16x64 : Shape := ⟨4, ![32, 2056, 16, 64]⟩
abbrev S1x32x8x16 : Shape := ⟨4, ![1, 32, 8, 16]⟩
abbrev S3x32x8x16 : Shape := ⟨4, ![3, 32, 8, 16]⟩
abbrev S3x32x8x16x1 : Shape := ⟨5, ![3, 32, 8, 16, 1]⟩
abbrev S1x32x8x16x64 : Shape := ⟨5, ![1, 32, 8, 16, 64]⟩
abbrev S3x32x8x16x64 : Shape := ⟨5, ![3, 32, 8, 16, 64]⟩

abbrev nBuf : Space → Nat
  | .hbm => 313
  | .vmem => 0
  | .smem => 0
  | _ => 0

abbrev hbmTy0_0 (i : Nat) : BufTy := match i % 128 with
  | 0 => ⟨S32x8x9216, .f32⟩
  | 1 => ⟨S32x2x128x16x64, .f32⟩
  | 2 => ⟨S32x2x512x16x64, .f32⟩
  | 3 => ⟨S32x2x2048x16x64, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S32x8x3x3x16x64, .f32⟩
  | 19 => ⟨S32x8x1x1x16x64, .f32⟩
  | 20 => ⟨S32x8x16x64, .f32⟩
  | 21 => ⟨S32x8x1x1x16x64, .f32⟩
  | 22 => ⟨S32x8x16x64, .f32⟩
  | 23 => ⟨S32x8x1x1x16x64, .f32⟩
  | 24 => ⟨S32x8x16x64, .f32⟩
  | 25 => ⟨S32x1x128x16x64, .f32⟩
  | 26 => ⟨S32x128x16x64, .f32⟩
  | 27 => ⟨S32x136x16x64, .f32⟩
  | 28 => ⟨S32x1x128x16x64, .f32⟩
  | 29 => ⟨S32x128x16x64, .f32⟩
  | 30 => ⟨S32x136x16x64, .f32⟩
  | 31 => ⟨S129, .i32⟩
  | 32 => ⟨S8, .i32⟩
  | 33 => ⟨S8x1, .i32⟩
  | 34 => ⟨S_, .i32⟩
  | 35 => ⟨S8x1, .i32⟩
  | 36 => ⟨S8x1, .i32⟩
  | 37 => ⟨S1x129, .i32⟩
  | 38 => ⟨S_, .i32⟩
  | 39 => ⟨S1x129, .i32⟩
  | 40 => ⟨S1x129, .i32⟩
  | 41 => ⟨S8x129, .i32⟩
  | 42 => ⟨S8x129, .i32⟩
  | 43 => ⟨S8x129, .i32⟩
  | 44 => ⟨S_, .i32⟩
  | 45 => ⟨S8x129, .i32⟩
  | 46 => ⟨S8x129, .i1⟩
  | 47 => ⟨S_, .i32⟩
  | 48 => ⟨S8x129, .i32⟩
  | 49 => ⟨S8x129, .i32⟩
  | 50 => ⟨S_, .i32⟩
  | 51 => ⟨S8x129, .i32⟩
  | 52 => ⟨S8x129, .i1⟩
  | 53 => ⟨S_, .i32⟩
  | 54 => ⟨S8x129, .i32⟩
  | 55 => ⟨S8x129, .i32⟩
  | 56 => ⟨S8x129, .i32⟩
  | 57 => ⟨S8x129x1, .i32⟩
  | 58 => ⟨S32x8x129x16x64, .f32⟩
  | 59 => ⟨S_, .i32⟩
  | 60 => ⟨S8x129, .i32⟩
  | 61 => ⟨S8x129, .i1⟩
  | 62 => ⟨S_, .i32⟩
  | 63 => ⟨S8x129, .i32⟩
  | 64 => ⟨S8x129, .i32⟩
  | 65 => ⟨S8x129, .i32⟩
  | 66 => ⟨S8x129x1, .i32⟩
  | 67 => ⟨S32x8x129x16x64, .f32⟩
  | 68 => ⟨S16x1, .f32⟩
  | 69 => ⟨S16x1, .f32⟩
  | 70 => ⟨S_, .i32⟩
  | 71 => ⟨S129, .i32⟩
  | 72 => ⟨S129, .i32⟩
  | 73 => ⟨S129, .f32⟩
  | 74 => ⟨S1x129, .f32⟩
  | 75 => ⟨S16x129, .f32⟩
  | 76 => ⟨S16x129, .f32⟩
  | 77 => ⟨S16x129, .f32⟩
  | 78 => ⟨S32x16x8x129, .f32⟩
  | 79 => ⟨S_, .f32⟩
  | 80 => ⟨S32x16x8x129, .f32⟩
  | 81 => ⟨S32x16x8x129, .f32⟩
  | 82 => ⟨S1x16x1x129, .f32⟩
  | 83 => ⟨S32x16x8x129, .f32⟩
  | 84 => ⟨S32x16x8x129, .f32⟩
  | 85 => ⟨S1x1x8x129, .i1⟩
  | 86 => ⟨S_, .f32⟩
  | 87 => ⟨S_, .f32⟩
  | 88 => ⟨S32x16x8x129, .i1⟩
  | 89 => ⟨S32x16x8x129, .f32⟩
  | 90 => ⟨S32x16x8x129, .f32⟩
  | 91 => ⟨S_, .f32⟩
  | 92 => ⟨S32x16x8, .f32⟩
  | 93 => ⟨S32x16x8x1, .f32⟩
  | 94 => ⟨S32x16x8x129, .f32⟩
  | 95 => ⟨S32x16x8x129, .f32⟩
  | 96 => ⟨S32x16x8x129, .f32⟩
  | 97 => ⟨S_, .f32⟩
  | 98 => ⟨S32x16x8, .f32⟩
  | 99 => ⟨S32x16x8, .f32⟩
  | 100 => ⟨S32x16x8, .f32⟩
  | 101 => ⟨S32x16x8, .f32⟩
  | 102 => ⟨S32x16x8x1, .f32⟩
  | 103 => ⟨S32x16x8x129, .f32⟩
  | 104 => ⟨S32x16x8x129, .f32⟩
  | 105 => ⟨S32x16x8x129, .f32⟩
  | 106 => ⟨S32x8x16x64, .f32⟩
  | 107 => ⟨S32x8x16, .f32⟩
  | 108 => ⟨S32x8x1x1x16x64, .f32⟩
  | 109 => ⟨S32x8x16x64, .f32⟩
  | 110 => ⟨S32x8x1x1x16x64, .f32⟩
  | 111 => ⟨S32x8x16x64, .f32⟩
  | 112 => ⟨S32x8x1x1x16x64, .f32⟩
  | 113 => ⟨S32x8x16x64, .f32⟩
  | 114 => ⟨S32x1x512x16x64, .f32⟩
  | 115 => ⟨S32x512x16x64, .f32⟩
  | 116 => ⟨S32x520x16x64, .f32⟩
  | 117 => ⟨S32x1x512x16x64, .f32⟩
  | 118 => ⟨S32x512x16x64, .f32⟩
  | 119 => ⟨S32x520x16x64, .f32⟩
  | 120 => ⟨S129, .i32⟩
  | 121 => ⟨S8, .i32⟩
  | 122 => ⟨S8x1, .i32⟩
  | 123 => ⟨S_, .i32⟩
  | 124 => ⟨S8x1, .i32⟩
  | 125 => ⟨S8x1, .i32⟩
  | 126 => ⟨S1x129, .i32⟩
  | 127 => ⟨S_, .i32⟩
  | _ => ⟨S32x8x9216, .f32⟩

abbrev hbmTy0_1 (i : Nat) : BufTy := match i % 128 with
  | 0 => ⟨S1x129, .i32⟩
  | 1 => ⟨S1x129, .i32⟩
  | 2 => ⟨S8x129, .i32⟩
  | 3 => ⟨S8x129, .i32⟩
  | 4 => ⟨S8x129, .i32⟩
  | 5 => ⟨S_, .i32⟩
  | 6 => ⟨S8x129, .i32⟩
  | 7 => ⟨S8x129, .i1⟩
  | 8 => ⟨S_, .i32⟩
  | 9 => ⟨S8x129, .i32⟩
  | 10 => ⟨S8x129, .i32⟩
  | 11 => ⟨S_, .i32⟩
  | 12 => ⟨S8x129, .i32⟩
  | 13 => ⟨S8x129, .i1⟩
  | 14 => ⟨S_, .i32⟩
  | 15 => ⟨S8x129, .i32⟩
  | 16 => ⟨S8x129, .i32⟩
  | 17 => ⟨S8x129, .i32⟩
  | 18 => ⟨S8x129x1, .i32⟩
  | 19 => ⟨S32x8x129x16x64, .f32⟩
  | 20 => ⟨S_, .i32⟩
  | 21 => ⟨S8x129, .i32⟩
  | 22 => ⟨S8x129, .i1⟩
  | 23 => ⟨S_, .i32⟩
  | 24 => ⟨S8x129, .i32⟩
  | 25 => ⟨S8x129, .i32⟩
  | 26 => ⟨S8x129, .i32⟩
  | 27 => ⟨S8x129x1, .i32⟩
  | 28 => ⟨S32x8x129x16x64, .f32⟩
  | 29 => ⟨S16x1, .f32⟩
  | 30 => ⟨S16x1, .f32⟩
  | 31 => ⟨S_, .i32⟩
  | 32 => ⟨S129, .i32⟩
  | 33 => ⟨S129, .i32⟩
  | 34 => ⟨S129, .f32⟩
  | 35 => ⟨S1x129, .f32⟩
  | 36 => ⟨S16x129, .f32⟩
  | 37 => ⟨S16x129, .f32⟩
  | 38 => ⟨S16x129, .f32⟩
  | 39 => ⟨S32x16x8x129, .f32⟩
  | 40 => ⟨S_, .f32⟩
  | 41 => ⟨S32x16x8x129, .f32⟩
  | 42 => ⟨S32x16x8x129, .f32⟩
  | 43 => ⟨S1x16x1x129, .f32⟩
  | 44 => ⟨S32x16x8x129, .f32⟩
  | 45 => ⟨S32x16x8x129, .f32⟩
  | 46 => ⟨S1x1x8x129, .i1⟩
  | 47 => ⟨S_, .f32⟩
  | 48 => ⟨S_, .f32⟩
  | 49 => ⟨S32x16x8x129, .i1⟩
  | 50 => ⟨S32x16x8x129, .f32⟩
  | 51 => ⟨S32x16x8x129, .f32⟩
  | 52 => ⟨S_, .f32⟩
  | 53 => ⟨S32x16x8, .f32⟩
  | 54 => ⟨S32x16x8x1, .f32⟩
  | 55 => ⟨S32x16x8x129, .f32⟩
  | 56 => ⟨S32x16x8x129, .f32⟩
  | 57 => ⟨S32x16x8x129, .f32⟩
  | 58 => ⟨S_, .f32⟩
  | 59 => ⟨S32x16x8, .f32⟩
  | 60 => ⟨S32x16x8, .f32⟩
  | 61 => ⟨S32x16x8, .f32⟩
  | 62 => ⟨S32x16x8, .f32⟩
  | 63 => ⟨S32x16x8x1, .f32⟩
  | 64 => ⟨S32x16x8x129, .f32⟩
  | 65 => ⟨S32x16x8x129, .f32⟩
  | 66 => ⟨S32x16x8x129, .f32⟩
  | 67 => ⟨S32x8x16x64, .f32⟩
  | 68 => ⟨S32x8x16, .f32⟩
  | 69 => ⟨S32x8x1x1x16x64, .f32⟩
  | 70 => ⟨S32x8x16x64, .f32⟩
  | 71 => ⟨S32x8x1x1x16x64, .f32⟩
  | 72 => ⟨S32x8x16x64, .f32⟩
  | 73 => ⟨S32x8x1x1x16x64, .f32⟩
  | 74 => ⟨S32x8x16x64, .f32⟩
  | 75 => ⟨S32x1x2048x16x64, .f32⟩
  | 76 => ⟨S32x2048x16x64, .f32⟩
  | 77 => ⟨S32x2056x16x64, .f32⟩
  | 78 => ⟨S32x1x2048x16x64, .f32⟩
  | 79 => ⟨S32x2048x16x64, .f32⟩
  | 80 => ⟨S32x2056x16x64, .f32⟩
  | 81 => ⟨S129, .i32⟩
  | 82 => ⟨S8, .i32⟩
  | 83 => ⟨S8x1, .i32⟩
  | 84 => ⟨S_, .i32⟩
  | 85 => ⟨S8x1, .i32⟩
  | 86 => ⟨S8x1, .i32⟩
  | 87 => ⟨S1x129, .i32⟩
  | 88 => ⟨S_, .i32⟩
  | 89 => ⟨S1x129, .i32⟩
  | 90 => ⟨S1x129, .i32⟩
  | 91 => ⟨S8x129, .i32⟩
  | 92 => ⟨S8x129, .i32⟩
  | 93 => ⟨S8x129, .i32⟩
  | 94 => ⟨S_, .i32⟩
  | 95 => ⟨S8x129, .i32⟩
  | 96 => ⟨S8x129, .i1⟩
  | 97 => ⟨S_, .i32⟩
  | 98 => ⟨S8x129, .i32⟩
  | 99 => ⟨S8x129, .i32⟩
  | 100 => ⟨S_, .i32⟩
  | 101 => ⟨S8x129, .i32⟩
  | 102 => ⟨S8x129, .i1⟩
  | 103 => ⟨S_, .i32⟩
  | 104 => ⟨S8x129, .i32⟩
  | 105 => ⟨S8x129, .i32⟩
  | 106 => ⟨S8x129, .i32⟩
  | 107 => ⟨S8x129x1, .i32⟩
  | 108 => ⟨S32x8x129x16x64, .f32⟩
  | 109 => ⟨S_, .i32⟩
  | 110 => ⟨S8x129, .i32⟩
  | 111 => ⟨S8x129, .i1⟩
  | 112 => ⟨S_, .i32⟩
  | 113 => ⟨S8x129, .i32⟩
  | 114 => ⟨S8x129, .i32⟩
  | 115 => ⟨S8x129, .i32⟩
  | 116 => ⟨S8x129x1, .i32⟩
  | 117 => ⟨S32x8x129x16x64, .f32⟩
  | 118 => ⟨S16x1, .f32⟩
  | 119 => ⟨S16x1, .f32⟩
  | 120 => ⟨S_, .i32⟩
  | 121 => ⟨S129, .i32⟩
  | 122 => ⟨S129, .i32⟩
  | 123 => ⟨S129, .f32⟩
  | 124 => ⟨S1x129, .f32⟩
  | 125 => ⟨S16x129, .f32⟩
  | 126 => ⟨S16x129, .f32⟩
  | 127 => ⟨S16x129, .f32⟩
  | _ => ⟨S32x8x9216, .f32⟩

abbrev hbmTy0_2 (i : Nat) : BufTy := match i % 128 with
  | 0 => ⟨S32x16x8x129, .f32⟩
  | 1 => ⟨S_, .f32⟩
  | 2 => ⟨S32x16x8x129, .f32⟩
  | 3 => ⟨S32x16x8x129, .f32⟩
  | 4 => ⟨S1x16x1x129, .f32⟩
  | 5 => ⟨S32x16x8x129, .f32⟩
  | 6 => ⟨S32x16x8x129, .f32⟩
  | 7 => ⟨S1x1x8x129, .i1⟩
  | 8 => ⟨S_, .f32⟩
  | 9 => ⟨S_, .f32⟩
  | 10 => ⟨S32x16x8x129, .i1⟩
  | 11 => ⟨S32x16x8x129, .f32⟩
  | 12 => ⟨S32x16x8x129, .f32⟩
  | 13 => ⟨S_, .f32⟩
  | 14 => ⟨S32x16x8, .f32⟩
  | 15 => ⟨S32x16x8x1, .f32⟩
  | 16 => ⟨S32x16x8x129, .f32⟩
  | 17 => ⟨S32x16x8x129, .f32⟩
  | 18 => ⟨S32x16x8x129, .f32⟩
  | 19 => ⟨S_, .f32⟩
  | 20 => ⟨S32x16x8, .f32⟩
  | 21 => ⟨S32x16x8, .f32⟩
  | 22 => ⟨S32x16x8, .f32⟩
  | 23 => ⟨S32x16x8, .f32⟩
  | 24 => ⟨S32x16x8x1, .f32⟩
  | 25 => ⟨S32x16x8x129, .f32⟩
  | 26 => ⟨S32x16x8x129, .f32⟩
  | 27 => ⟨S32x16x8x129, .f32⟩
  | 28 => ⟨S32x8x16x64, .f32⟩
  | 29 => ⟨S32x8x16, .f32⟩
  | 30 => ⟨S1x32x8x16, .f32⟩
  | 31 => ⟨S1x32x8x16, .f32⟩
  | 32 => ⟨S1x32x8x16, .f32⟩
  | 33 => ⟨S3x32x8x16, .f32⟩
  | 34 => ⟨S_, .f32⟩
  | 35 => ⟨S32x8x16, .f32⟩
  | 36 => ⟨S_, .f32⟩
  | 37 => ⟨S32x8x16, .f32⟩
  | 38 => ⟨S32x8x16, .f32⟩
  | 39 => ⟨S1x32x8x16, .f32⟩
  | 40 => ⟨S3x32x8x16, .f32⟩
  | 41 => ⟨S3x32x8x16, .f32⟩
  | 42 => ⟨S3x32x8x16, .f32⟩
  | 43 => ⟨S_, .f32⟩
  | 44 => ⟨S32x8x16, .f32⟩
  | 45 => ⟨S1x32x8x16, .f32⟩
  | 46 => ⟨S3x32x8x16, .f32⟩
  | 47 => ⟨S3x32x8x16, .f32⟩
  | 48 => ⟨S3x32x8x16x1, .f32⟩
  | 49 => ⟨S1x32x8x16x64, .f32⟩
  | 50 => ⟨S1x32x8x16x64, .f32⟩
  | 51 => ⟨S1x32x8x16x64, .f32⟩
  | 52 => ⟨S3x32x8x16x64, .f32⟩
  | 53 => ⟨S3x32x8x16x64, .f32⟩
  | 54 => ⟨S3x32x8x16x64, .f32⟩
  | 55 => ⟨S_, .f32⟩
  | 56 => ⟨S32x8x16x64, .f32⟩
  | _ => ⟨S32x8x9216, .f32⟩

abbrev hbmTy (i : Nat) : BufTy := match i / 128 with
  | 0 => hbmTy0_0 i
  | 1 => hbmTy0_1 i
  | 2 => hbmTy0_2 i
  | _ => ⟨S32x8x9216, .f32⟩

abbrev bufTy : (tb : Table) → Fin (tcTables nBuf tb) → BufTy
  | .hbm, ⟨i, _⟩ => hbmTy i
  | _, _ => ⟨S32x8x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_15 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_16 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_17 : Ref sig .tc := ⟨.hbm, 133, rfl⟩
abbrev main_v107 : Ref sig .tc := ⟨.hbm, 134, rfl⟩
abbrev main_v108 : Ref sig .tc := ⟨.hbm, 135, rfl⟩
abbrev main_c_18 : Ref sig .tc := ⟨.hbm, 136, rfl⟩
abbrev main_v109 : Ref sig .tc := ⟨.hbm, 137, rfl⟩
abbrev main_v110 : Ref sig .tc := ⟨.hbm, 138, rfl⟩
abbrev main_c_19 : Ref sig .tc := ⟨.hbm, 139, rfl⟩
abbrev main_v111 : Ref sig .tc := ⟨.hbm, 140, rfl⟩
abbrev main_v112 : Ref sig .tc := ⟨.hbm, 141, rfl⟩
abbrev main_c_20 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_c_21 : Ref sig .tc := ⟨.hbm, 148, rfl⟩
abbrev main_v118 : Ref sig .tc := ⟨.hbm, 149, rfl⟩
abbrev main_v119 : Ref sig .tc := ⟨.hbm, 150, rfl⟩
abbrev main_c_22 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_23 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_24 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_25 : Ref sig .tc := ⟨.hbm, 175, rfl⟩
abbrev main_call1_v0 : Ref sig .tc := ⟨.hbm, 176, rfl⟩
abbrev main_call1_v1 : Ref sig .tc := ⟨.hbm, 177, rfl⟩
abbrev main_call1_v2 : Ref sig .tc := ⟨.hbm, 178, rfl⟩
abbrev main_v141 : Ref sig .tc := ⟨.hbm, 179, rfl⟩
abbrev main_cst_26 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_27 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_c_28 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_c_29 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_c_30 : Ref sig .tc := ⟨.hbm, 222, rfl⟩
abbrev main_v180 : Ref sig .tc := ⟨.hbm, 223, rfl⟩
abbrev main_v181 : Ref sig .tc := ⟨.hbm, 224, rfl⟩
abbrev main_c_31 : Ref sig .tc := ⟨.hbm, 225, rfl⟩
abbrev main_v182 : Ref sig .tc := ⟨.hbm, 226, rfl⟩
abbrev main_v183 : Ref sig .tc := ⟨.hbm, 227, rfl⟩
abbrev main_c_32 : Ref sig .tc := ⟨.hbm, 228, rfl⟩
abbrev main_v184 : Ref sig .tc := ⟨.hbm, 229, rfl⟩
abbrev main_v185 : Ref sig .tc := ⟨.hbm, 230, rfl⟩
abbrev main_c_33 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_c_34 : Ref sig .tc := ⟨.hbm, 237, rfl⟩
abbrev main_v191 : Ref sig .tc := ⟨.hbm, 238, rfl⟩
abbrev main_v192 : Ref sig .tc := ⟨.hbm, 239, rfl⟩
abbrev main_c_35 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_c_36 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_cst_37 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_38 : Ref sig .tc := ⟨.hbm, 264, rfl⟩
abbrev main_call2_v0 : Ref sig .tc := ⟨.hbm, 265, rfl⟩
abbrev main_call2_v1 : Ref sig .tc := ⟨.hbm, 266, rfl⟩
abbrev main_call2_v2 : Ref sig .tc := ⟨.hbm, 267, rfl⟩
abbrev main_v214 : Ref sig .tc := ⟨.hbm, 268, rfl⟩
abbrev main_cst_39 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_cst_40 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_41 : Ref sig .tc := ⟨.hbm, 290, rfl⟩
abbrev main_v234 : Ref sig .tc := ⟨.hbm, 291, rfl⟩
abbrev main_cst_42 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_43 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_cst_44 : Ref sig .tc := ⟨.hbm, 311, rfl⟩
abbrev main_v252 : Ref sig .tc := ⟨.hbm, 312, rfl⟩

abbrev nD : Nat := 1
abbrev τ : Topo := Topo.v7x

variable {F : FTy → Type} [FloatOps F]
-- ==== Proof.GmlpBlock.lean ====
/-
  The spatial gating unit, one chunk of 128 rows at a time: what a point stores, the eight groups of 128 columns side by
  side.
-/
module

public import proofs.«01_k».proof.Proof.Gen.GmlpIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.GmlpBlock

open Cert.GmlpIdeal Cert.GmlpIdeal.Gen Idealize.ShloMosaic Idealize.ShloMosaic.TcCoe Idealize.SL.Sem

variable {F : FTy → Type} [FloatOps F]
variable (m : (ℓ : Loc nD τ sig) → Buf (Elt F) ℓ)

/-- What a point stores, from the two halves `u` and `v` of its rows, the groups' weights `x3` and their biases `x4`. -/
def stored (u v : FVec F S128x1024 .f32) (x3 : Vec F S8x128x128 .f32) (x4 : Vec F S128x1024 .f32) :
    Vec F S1x128x1024 .f32 :=
  View.canon
    [⟨Rect.unit ![0, 0, 896] ![1, 128, 128] inb_S1x128x1024_S1x128x128_0_0_896,
        k0_pay2 u v k0_pay6
          (View.ld x3 (Rect.unit ![7, 0, 0] ![1, 128, 128] inb_S8x128x128_S1x128x128_7_0_0))
          (View.ld x4 (Rect.unit ![0, 896] ![128, 128] inb_S128x1024_S128x128_0_896))⟩,
     ⟨Rect.unit ![0, 0, 768] ![1, 128, 128] inb_S1x128x1024_S1x128x128_0_0_768,
        k0_pay1 (k0_pay17 u v k0_pay6
          (View.ld x3 (Rect.unit ![6, 0, 0] ![1, 128, 128] inb_S8x128x128_S1x128x128_6_0_0))
          (View.ld x4 (Rect.unit ![0, 768] ![128, 128] inb_S128x1024_S128x128_0_768)))⟩,
     ⟨Rect.unit ![0, 0, 640] ![1, 128, 128] inb_S1x128x1024_S1x128x128_0_0_640,
        k0_pay16 u v k0_pay6
          (View.ld x3 (Rect.unit ![5, 0, 0] ![1, 128, 128] inb_S8x128x128_S1x128x128_5_0_0))
          (View.ld x4 (Rect.unit ![0, 640] ![128, 128] inb_S128x1024_S128x128_0_640))⟩,
     ⟨Rect.unit ![0, 0, 512] ![1, 128, 128] inb_S1x128x1024_S1x128x128_0_0_512,
        k0_pay15
          (k0_pay13 v k0_pay6 (View.ld x3 (Rect.unit ![4, 0, 0] ![1, 128, 128] inb_S8x128x128_S1x128x128_4_0_0)))
          (k0_pay14 u) (View.ld x4 (Rect.unit ![0, 512] ![128, 128] inb_S128x1024_S128x128_0_512))⟩,
     ⟨Rect.unit ![0, 0, 384] ![1, 128, 128] inb_S1x128x1024_S1x128x128_0_0_384,
        k0_pay12 u v k0_pay6
          (View.ld x3 (Rect.unit ![3, 0, 0] ![1, 128, 128] inb_S8x128x128_S1x128x128_3_0_0))
          (View.ld x4 (Rect.unit ![0, 384] ![128, 128] inb_S128x1024_S128x128_0_384))⟩,
     ⟨Rect.unit ![0, 0, 256] ![1, 128, 128] inb_S1x128x1024_S1x128x128_0_0_256,
        k0_pay11 u (k0_pay9 v)
          (k0_pay10 k0_pay6 (View.ld x3 (Rect.unit ![2, 0, 0] ![1, 128, 128] inb_S8x128x128_S1x128x128_2_0_0)))
          (View.ld x4 (Rect.unit ![0, 256] ![128, 128] inb_S128x1024_S128x128_0_256))⟩,
     ⟨Rect.unit ![0, 0, 128] ![1, 128, 128] inb_S1x128x1024_S1x128x128_0_0_128,
        k0_pay8 u v k0_pay6
          (View.ld x3 (Rect.unit ![1, 0, 0] ![1, 128, 128] inb_S8x128x128_S1x128x128_1_0_0))
          (View.ld x4 (Rect.unit ![0, 128] ![128, 128] inb_S128x1024_S128x128_0_128))⟩,
     ⟨Rect.unit ![0, 0, 0] ![1, 128, 128] inb_S1x128x1024_S1x128x128_0_0_0,
        k0_pay7 u v k0_pay6
          (View.ld x3 (Rect.unit ![0, 0, 0] ![1, 128, 128] inb_S8x128x128_S1x128x128_0_0_0))
          (View.ld x4 (Rect.unit ![0, 0] ![128, 128] inb_S128x1024_S128x128_0_0))⟩]

theorem out (c : Dev nD) (t : Fin cfg0.N) :
    outsAt0 m c t = stored (k0_pay4 (X0_0 m c t)) (k0_pay5 (X0_0 m c t) (iblk m c 1 t) (iblk m c 2 t)) (iblk m c 3 t)
      (iblk m c 4 t) := by
  unfold outsAt0
  frame_out

/-- Which block of each array a point works on. -/
theorem idx : ∀ t : Fin cfg0.N, win0_0.index t = ![t.val / 32, t.val % 32, 6] ∧ win0_1.index t = ![0, 0]
    ∧ win0_2.index t = ![0, 0] ∧ win0_3.index t = ![0, 0, 0] ∧ win0_4.index t = ![0, 0]
    ∧ win0_5.index t = ![t.val / 32, t.val % 32, 0] :=
  (by decide +kernel : ∀ t : Fin grid0.N, _)

end Cert.GmlpBlock

end
-- ==== Proof.GmlpEq.lean ====
/-
  The spatial gating unit, as a whole: the reference read at an index, what a point stores read at an index, and the
  equation of every block with the reference's.
-/
module

public import proofs.«01_k».proof.Defs
public import proofs.«01_k».proof.Proof.GmlpBlock
public import proofs.«01_k».proof.Proof.Gen.GmlpRefIdeal.Read

@[expose] public section

set_option maxRecDepth 16384

noncomputable section

namespace Cert.GmlpEq

open Cert.GmlpIdeal Cert.GmlpIdeal.Gen Idealize.ShloMosaic Idealize.ShloMosaic.TcCoe Idealize.SL.Sem

/-- The Gaussian error linear unit of one number. -/
def gelu (z : Ideal .f32) : Ideal .f32 :=
  Ideal.ofBits .f32 0x3F000000#32 * z * (1 + Ideal.erf (z * Ideal.ofBits .f32 0x3F3504F3#32))

/-- The mean of a row. -/
def mean (v : Fin 1024 → Ideal .f32) : Ideal .f32 :=
  Ideal.div (∑ l : Fin 1024, v l) (Ideal.ofBits .f32 0x44800000#32)

/-- Entry `k` of the row `v`, less the mean, divided by the deviation, scaled by `g` and shifted by `b`. -/
def normed (v g b : Fin 1024 → Ideal .f32) (k : Fin 1024) : Ideal .f32 :=
  (v k - mean v) * Ideal.rsqrt (mean (fun l => (v l - mean v) * (v l - mean v)) + Ideal.ofBits .f32 0x3727C5AC#32)
    * g k + b k

/-- Whether column `l` is at or before row `r`, as the comparison of the two numbers. -/
def causal (r l : Fin 128) : BitVec 1 := IntOp.cmpi CmpIPredicate.sge (BitVec.ofNat 32 r.val) (BitVec.ofNat 32 l.val)

/-- Masking a factor masks the product. -/
theorem masked (b : BitVec 1) (w v : Ideal .f32) : v * Scalar.select b w 0 = Scalar.select b (w * v) 0 := by
  unfold Scalar.select
  split
  · exact mul_comm _ _
  · exact mul_zero _

section Reference
open Cert.GmlpRefIdeal.Read

variable (x0 : FVec Ideal ⟨3, ![8, 4096, 17920]⟩ .f32) (x1 x2 : FVec Ideal ⟨1, ![1024]⟩ .f32)
  (x3 : FVec Ideal ⟨3, ![8, 128, 128]⟩ .f32) (x4 : FVec Ideal ⟨2, ![8, 128]⟩ .f32)

theorem reference_gelu (b : Fin 8) (r : Fin 4096) (q : Fin 2048) :
    val_main_v8 (F := Ideal) x0 (ix3 b r q) = gelu (x0 (ix3 b r ⟨12288 + q.val, by omega⟩)) := by
  rw [gelu]
  pointwise [val_main_v8, val_main_v7, val_main_v6, val_main_v5, val_main_v4, val_main_v3, val_main_v2,
    val_main_v1, val_main_v0, val_main_cst, val_main_cst_0, val_main_cst_1]

theorem reference_u (b : Fin 8) (r : Fin 4096) (k : Fin 1024) :
    val_main_v9 (F := Ideal) x0 (ix3 b r k) = gelu (x0 (ix3 b r ⟨12288 + k.val, by omega⟩)) := by
  pointwise [val_main_v9]
  rw [reference_gelu]

theorem reference_v (b : Fin 8) (r : Fin 4096) (k : Fin 1024) :
    val_main_v10 (F := Ideal) x0 (ix3 b r k) = gelu (x0 (ix3 b r ⟨12288 + (1024 + k.val), by omega⟩)) := by
  pointwise [val_main_v10]
  rw [reference_gelu]

theorem reference_normed (b : Fin 8) (r : Fin 4096) (k : Fin 1024) :
    val_main_v32 (F := Ideal) x0 x1 x2 (ix3 b r k) = normed (fun l => val_main_v10 (F := Ideal) x0 (ix3 b r l))
      (fun l => x1 (ix1 l)) (fun l => x2 (ix1 l)) k := by
  simp only [normed, mean]
  pointwise [val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11,
    val_main_cst_2, val_main_cst_3, val_main_cst_4, val_main_cst_5, val_main_cst_6]

theorem reference_mask (g : Fin 8) (r l : Fin 128) :
    val_main_v33 (F := Ideal) x3 (ix3 g r l) = Scalar.select (causal r l) (x3 (ix3 g r l)) 0 := by
  rw [causal]
  pointwise [val_main_v33, val_main_call0_v6, val_main_call0_cst, val_main_call0_v5, val_main_call0_v4,
    val_main_call0_v3, val_main_call0_v2, val_main_call0_v1, val_main_call0_v0, val_main_call0_c]
  simp only [IntOp.addi, BitVec.add_zero]

/-- The token mixing: row `r` of chunk `s` takes the rows at or before it in its chunk, weighted by its group. -/
theorem reference_token (b : Fin 8) (s : Fin 32) (r : Fin 128) (g : Fin 8) (q : Fin 128) :
    val_main_v36 (F := Ideal) x0 x1 x2 x3 (ix5 b s r g q) = ∑ l : Fin 128, Scalar.select (causal r l)
      (x3 (ix3 g r l) * val_main_v32 (F := Ideal) x0 x1 x2
        (ix3 b ⟨s.val * 128 + l.val, by omega⟩ ⟨g.val * 128 + q.val, by omega⟩)) 0 := by
  pointwise [val_main_v36, val_main_v35, val_main_v34]
  simp only [reference_mask, masked]

theorem reference (b : Fin 8) (i : Fin 4096) (k : Fin 1024) :
    val_main_v43 (F := Ideal) x0 x1 x2 x3 x4 (ix3 b i k) = val_main_v9 (F := Ideal) x0 (ix3 b i k)
      * (val_main_v36 (F := Ideal) x0 x1 x2 x3
          (ix5 b ⟨i.val / 128, by omega⟩ ⟨i.val % 128, by omega⟩ ⟨k.val / 128, by omega⟩ ⟨k.val % 128, by omega⟩)
        + x4 (ix2 ⟨k.val / 128, by omega⟩ ⟨i.val % 128, by omega⟩)) := by
  pointwise [val_main_v43, val_main_v42, val_main_v41, val_main_v40, val_main_v39, val_main_v38, val_main_v37]

end Reference

theorem kernel_gelu (x : Vec Ideal S1x128x2048 .f32) (r : Fin 128) (q : Fin 2048) :
    k0_pay3 x (ix2 r q) = gelu (x (ix3 0 r q)) := by
  rw [gelu]
  unfold_payloads
  pointwise
  rfl

theorem kernel_u (x : Vec Ideal S1x128x2048 .f32) (r : Fin 128) (k : Fin 1024) :
    k0_pay4 x (ix2 r k) = gelu (x (ix3 0 r ⟨k.val, by omega⟩)) := by
  unfold k0_pay4
  pointwise
  rw [kernel_gelu]

theorem kernel_v (x : Vec Ideal S1x128x2048 .f32) (g b : Vec Ideal S1x1024 .f32) (r : Fin 128) (k : Fin 1024) :
    k0_pay5 x g b (ix2 r k) = normed (fun l => gelu (x (ix3 0 r ⟨1024 + l.val, by omega⟩))) (fun l => g (ix2 0 l))
      (fun l => b (ix2 0 l)) k := by
  simp only [normed, mean]
  unfold k0_pay5
  pointwise
  simp only [kernel_gelu]

/-- What a point stores at row `r`, column `k`: the weights are those of the group `k` is in. -/
def mixed (u v : FVec Ideal S128x1024 .f32) (x3 : Vec Ideal S8x128x128 .f32) (x4 : Vec Ideal S128x1024 .f32)
    (r : Fin 128) (k : Fin 1024) : Ideal .f32 :=
  u (ix2 r k) * (∑ l : Fin 128, Scalar.select (causal r l)
    (x3 (ix3 ⟨k.val / 128, by omega⟩ r l) * v (ix2 l k)) 0 + x4 (ix2 r k))

/-- The same at column `q` of group `g`. -/
theorem mixed_group (u v : FVec Ideal S128x1024 .f32) (x3 : Vec Ideal S8x128x128 .f32) (x4 : Vec Ideal S128x1024 .f32)
    (g : Fin 8) (r q r' : Fin 128) (k k' : Fin 1024) (h1 : r'.val = r.val) (hk : k.val = 128 * g.val + q.val)
    (hk' : k'.val = 128 * g.val + q.val) :
    u (ix2 r k) * (∑ l : Fin 128, Scalar.select (causal r l) (x3 (ix3 g r l) * v (ix2 l k)) 0 + x4 (ix2 r k))
      = mixed u v x3 x4 r' k' := by
  obtain rfl : r' = r := Fin.ext h1
  obtain rfl : k' = k := Fin.ext (hk'.trans hk.symm)
  have e : (⟨k'.val / 128, by omega⟩ : Fin 8) = g := Fin.ext (by show k'.val / 128 = g.val; omega)
  rw [mixed, e]

theorem kernel (u v : FVec Ideal S128x1024 .f32) (x3 : Vec Ideal S8x128x128 .f32) (x4 : Vec Ideal S128x1024 .f32)
    (y : S1x128x1024.Idx) :
    GmlpBlock.stored (F := Ideal) u v x3 x4 y = mixed u v x3 x4 (y 1) (y 2) := by
  unfold GmlpBlock.stored
  canon_tiles x h
  all_goals
    unfold_payloads
    pointwise
  · exact mixed_group u v x3 x4 7 (x 1) (x 2) _ _ _ h1 rfl h2
  · exact mixed_group u v x3 x4 6 (x 1) (x 2) _ _ _ h1 rfl h2
  · exact mixed_group u v x3 x4 5 (x 1) (x 2) _ _ _ h1 rfl h2
  · exact mixed_group u v x3 x4 4 (x 1) (x 2) _ _ _ h1 rfl h2
  · exact mixed_group u v x3 x4 3 (x 1) (x 2) _ _ _ h1 rfl h2
  · exact mixed_group u v x3 x4 2 (x 1) (x 2) _ _ _ h1 rfl h2
  · exact mixed_group u v x3 x4 1 (x 1) (x 2) _ _ _ h1 rfl h2
  · exact mixed_group u v x3 x4 0 (x 1) (x 2) _ _ _ h1 (Nat.zero_add _).symm (h2.trans (Nat.zero_add _).symm)

variable (m : (ℓ : Loc nD τ sig) → Buf (Elt Ideal) ℓ)

/-- The gating unit of the launch's own arguments. -/
abbrev result (c : Dev nD) : Buf (Elt Ideal) ((c : Thread nD τ).loc main_v5) :=
  Cert.GmlpRefIdeal.Read.val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

section Reads
variable (c : Dev nD) (t : Fin cfg0.N) (r : Fin 128) (k : Fin 1024) (hb : t.val / 32 < 8)
  (h : 128 * (t.val % 32) + r.val < 4096)

theorem rows_read (q : Fin 2048) : X0_0 m c t (ix3 0 r q)
    = m ((c : Thread nD τ).loc main_arg0) (ix3 ⟨t.val / 32, hb⟩ ⟨128 * (t.val % 32) + r.val, h⟩ ⟨12288 + q.val, by omega⟩) := by
  obtain ⟨e0, e1, e2, e3, e4, e5⟩ := GmlpBlock.idx t
  unfold X0_0 Pipeline.Window.fill
  rw [dif_pos (moved0_0 t _)]
  blk_ext [iblk, V, e0]

theorem scale_read : iblk m c 1 t (ix2 0 k) = m ((c : Thread nD τ).loc main_arg1) (ix1 k) := by
  obtain ⟨e0, e1, e2, e3, e4, e5⟩ := GmlpBlock.idx t
  blk_point [iblk, V, e1]

theorem shift_read : iblk m c 2 t (ix2 0 k) = m ((c : Thread nD τ).loc main_arg2) (ix1 k) := by
  obtain ⟨e0, e1, e2, e3, e4, e5⟩ := GmlpBlock.idx t
  blk_point [iblk, V, e2]

theorem weight_read (g : Fin 8) (l : Fin 128) :
    iblk m c 3 t (ix3 g r l) = m ((c : Thread nD τ).loc main_arg3) (ix3 g r l) := by
  obtain ⟨e0, e1, e2, e3, e4, e5⟩ := GmlpBlock.idx t
  blk_ext [iblk, V, e3]

theorem bias_read : iblk m c 4 t (ix2 r k) = m ((c : Thread nD τ).loc main_arg4) (ix2 ⟨k.val / 128, by omega⟩ r) := by
  obtain ⟨e0, e1, e2, e3, e4, e5⟩ := GmlpBlock.idx t
  blk_point [iblk, V, e4]

theorem place : ((cfg0.win 5).blk t).view.emb (ix3 0 r k)
    = (ix3 ⟨t.val / 32, hb⟩ ⟨128 * (t.val % 32) + r.val, h⟩ k : S8x4096x1024.Idx) := by
  obtain ⟨e0, e1, e2, e3, e4, e5⟩ := GmlpBlock.idx t
  blk_ext [e5]

end Reads

theorem block (c : Dev nD) (t : Fin cfg0.N) (y : S1x128x1024.Idx) :
    outsAt0 m c t y = result m c (((cfg0.win 5).blk t).view.emb y) := by
  obtain ⟨z, r, k, rfl⟩ : ∃ (z : Fin 1) (r : Fin 128) (k : Fin 1024), y = ix3 z r k := ⟨y 0, y 1, y 2, eq_ix3 y⟩
  obtain rfl : z = 0 := Subsingleton.elim _ _
  have ht : t.val < 256 := lt_of_lt_of_eq t.isLt N_0
  have hb : t.val / 32 < 8 := by omega
  have h : ∀ l : Fin 128, 128 * (t.val % 32) + l.val < 4096 := fun l => by omega
  have e1 : (⟨(128 * (t.val % 32) + r.val) / 128, by omega⟩ : Fin 32) = ⟨t.val % 32, by omega⟩ := Fin.ext (by
    show (128 * (t.val % 32) + r.val) / 128 = t.val % 32
    omega)
  have e2 : (⟨(128 * (t.val % 32) + r.val) % 128, by omega⟩ : Fin 128) = r := Fin.ext (by
    show (128 * (t.val % 32) + r.val) % 128 = r.val
    omega)
  have e3 : ∀ l : Fin 128, (⟨t.val % 32 * 128 + l.val, by omega⟩ : Fin 4096) = ⟨128 * (t.val % 32) + l.val, h l⟩ :=
    fun l => Fin.ext (by
      show t.val % 32 * 128 + l.val = 128 * (t.val % 32) + l.val
      omega)
  have e4 : (⟨k.val / 128 * 128 + k.val % 128, by omega⟩ : Fin 1024) = k := Fin.ext (by
    show k.val / 128 * 128 + k.val % 128 = k.val
    omega)
  rw [place t r k hb (h r), result, reference, GmlpBlock.out, kernel]
  show mixed _ _ _ _ r k = _
  unfold mixed
  simp only [e1, e2, reference_token, e3, e4, kernel_u, kernel_v, reference_u, reference_normed, reference_v,
    rows_read m c t _ hb (h _), scale_read, shift_read, weight_read, bias_read]

/-- After the run the result array holds the gating unit: the blocks tile it, and each is the reference's. -/
theorem array (c : Dev nD) : (dats m 0 c).arrAt 5 cfg0.N = result m c :=
  (dats m 0 c).arrAt_eq_of_covers 5 _ (by decide +kernel) fun t hf y => by
    show (dats m 0 c).flushed 5 t y = _
    rw [Cert.GmlpIdeal.Value.flushed5]
    exact block m c t y

end Cert.GmlpEq

namespace Cert.GmlpEq

open Idealize.ShloMosaic Idealize.SL.Sem

/-- The kernel and the reference end with the same result, at exact arithmetic. -/
theorem algebraic : Cert.algebraic_GmlpIdeal_GmlpRefIdeal := by
  intro m ρ m' ρ' _ hagree
  refine ⟨fun c => result m c, ?_, ?_⟩
  · refine (θ_run _ _ _).mono (fun _ h c => ?_) (Cert.GmlpIdeal.Value.run_blocks m ρ)
    exact ⟨(h c).1.trans (array m c), (h c).2⟩
  · refine (θ_run _ _ _).mono (fun _ h c => ?_) (Cert.GmlpRefIdeal.Value.run (F := Ideal) m' ρ')
    obtain rfl : c = 0 := Subsingleton.elim _ _
    refine ⟨(h 0).1.trans ?_, (h 0).2⟩
    rw [Cert.GmlpRefIdeal.Read.val_main_v43_eq, (hagree 0).1, (hagree 0).2.1, (hagree 0).2.2.1, (hagree 0).2.2.2.1,
      (hagree 0).2.2.2.2]

end Cert.GmlpEq

end
-- ==== Proof.ProjBlock.lean ====
/-
  The projection (RMS norm, then a matrix product), one block at a time: what the body leaves in the block of the
  result and in the buffer that keeps the normalised rows, at the first column block of a row block and at the others.
-/
module

public import proofs.«01_k».proof.Proof.Gen.ProjIdeal.Frame
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.ProjBlock

open Cert.ProjIdeal Cert.ProjIdeal.Gen Idealize.ShloMosaic Idealize.ShloMosaic.TcCoe Idealize.SL.Sem

variable {F : FTy → Type} [FloatOps F]
variable (m : (ℓ : Loc nD τ sig) → Buf (Elt F) ℓ)

/-- At the first column block of a row block the body stores the product of the freshly normalised rows with the
    weight block. -/
theorem first_out (c : Dev nD) (t : Fin cfg0.N) (h0 : t.val % 35 = 0) :
    (outsAt0 m c t.val t.isLt).1 = k0_pay2 (k0_pay1 (iblk m c 0 t) (iblk m c 1 t)) (iblk m c 2 t) := by
  rw [outsAt0_A m c t h0]
  frame_out

/-- … and keeps the normalised rows. -/
theorem first_kept (c : Dev nD) (t : Fin cfg0.N) (h0 : t.val % 35 = 0) :
    (outsAt0 m c t.val t.isLt).2 = k0_pay1 (iblk m c 0 t) (iblk m c 1 t) := by
  rw [outsAt0_A m c t h0]
  frame_out

/-- At the other column blocks it multiplies the rows that the point before kept. -/
theorem later_out (c : Dev nD) (t : Fin cfg0.N) (h0 : ¬t.val % 35 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  frame_out
  simp only [read_unread_whole]

/-- … and leaves them as they were. -/
theorem later_kept (c : Dev nD) (t : Fin cfg0.N) (h0 : ¬t.val % 35 = 0) :
    (outsAt0 m c t.val t.isLt).2 = (outsAt0 m c (t.val - 1) (Nat.lt_of_le_of_lt (Nat.sub_le _ _) t.isLt)).2 := by
  rw [outsAt0_B m c t h0]
  rfl

/-- Which block of the rows, of the weight and of the result a point works on. -/
theorem idx : ∀ t : Fin cfg0.N, win0_0.index t = ![t.val / 35, 0] ∧ win0_1.index t = ![0, 0]
    ∧ win0_2.index t = ![0, t.val % 35] ∧ win0_3.index t = ![t.val / 35, t.val % 35] :=
  (by decide +kernel : ∀ t : Fin grid0.N, _)

/-- Within a row block the rows read are the same ones. -/
theorem rows_same (c : Dev nD) (t u : Fin cfg0.N) (h : t.val / 35 = u.val / 35) :
    (iblk m c 0 t : Vec F S1024x1024 .f32) = iblk m c 0 u := by
  obtain ⟨et, -, -, -⟩ := idx t
  obtain ⟨eu, -, -, -⟩ := idx u
  funext y
  blk_ext [iblk, V, et, eu, h]

/-- … and the scale of the norm is the same everywhere. -/
theorem scale_same (c : Dev nD) (t u : Fin cfg0.N) :
    (iblk m c 1 t : Vec F S1x1024 .f32) = iblk m c 1 u := by
  obtain ⟨-, et, -, -⟩ := idx t
  obtain ⟨-, eu, -, -⟩ := idx u
  funext y
  blk_ext [iblk, V, et, eu]

/-- So at every point the kept rows are the normalised rows of the point's own row block. -/
theorem kept (c : Dev nD) : ∀ (n : ℕ) (h : n < cfg0.N),
    (outsAt0 m c n h).2 = k0_pay1 (iblk m c 0 ⟨n, h⟩) (iblk m c 1 ⟨n, h⟩) := by
  intro n
  induction n with
  | zero => exact fun h => first_kept m c ⟨0, h⟩ rfl
  | succ n ih =>
    intro h
    by_cases h0 : (n + 1) % 35 = 0
    · exact first_kept m c ⟨n + 1, h⟩ h0
    · have e := later_kept m c ⟨n + 1, h⟩ h0
      simp only [Nat.add_sub_cancel] at e
      rw [e, ih, rows_same m c ⟨n, _⟩ ⟨n + 1, h⟩ (by show n / 35 = (n + 1) / 35; omega),
        scale_same m c ⟨n, _⟩ ⟨n + 1, h⟩]

/-- Every point leaves in its block the product of the normalised rows of its row block with its weight block. -/
theorem out (c : Dev nD) (t : Fin cfg0.N) :
    (outsAt0 m c t.val t.isLt).1 = k0_pay2 (k0_pay1 (iblk m c 0 t) (iblk m c 1 t)) (iblk m c 2 t) := by
  by_cases h0 : t.val % 35 = 0
  · exact first_out m c t h0
  · rw [later_out m c t h0, kept, rows_same m c ⟨t.val - 1, _⟩ t (by show (t.val - 1) / 35 = t.val / 35; omega),
      scale_same m c ⟨t.val - 1, _⟩ t]

end Cert.ProjBlock

end
-- ==== Proof.ProjTail.lean ====
/-
  The projection's host operations after the matrix product, read at an index of each result: every entry is one entry of
  the product.
-/
module

public import proofs.«01_k».proof.Proof.ProjBlock

@[expose] public section

set_option maxRecDepth 16384
set_option maxHeartbeats 4000000

noncomputable section

namespace Cert.ProjTail

open Cert.ProjIdeal Cert.ProjIdeal.Gen Idealize.ShloMosaic Idealize.ShloMosaic.TcCoe Idealize.SL.Sem

variable (W : Valuation τ sig (Elt Ideal))

/-- The product, as the operations find it. -/
abbrev product : Vec Ideal S32768x17920 .f32 := W (Proc.devRef .tc main_v16)

/-- The product's row of time `t` of sequence `b`. -/
def row (b : Fin 8) (t : Fin 4096) : Fin 32768 := ⟨b.val * 4096 + t.val, by omega⟩

/-- The product's column of the recurrence's column `j`: the two short ranges are padded to a multiple of 128. -/
def recurrent (j : Fin 3360) : Fin 17920 :=
  ⟨14336 + (if j.val < 3136 then j.val else if j.val < 3200 then j.val + 64 else j.val + 128), by split_ifs <;> omega⟩

/-- The product's column of head `h`, entry `d`, of the keys (`k = 0`) or values (`k = 1`) of the attention's group `g`. -/
def cached (g : Fin 3) (k : Fin 2) (h : Fin 16) (d : Fin 64) : Fin 17920 :=
  ⟨3072 * g.val + 1024 * (1 + k.val) + 64 * h.val + d.val, by omega⟩

/-- Two entries with the same coordinates. -/
theorem entry (A : Vec Ideal S32768x17920 .f32) {r r' : Fin 32768} {j j' : Fin 17920} (hr : r.val = r'.val) (hj : j.val = j'.val) :
    A (ix2 r j) = A (ix2 r' j') :=
  congrArg A (congrArg₂ ix2 (Fin.ext hr) (Fin.ext hj))

/-- The queries, keys and values are the product's first columns. -/
theorem attention (b : Fin 8) (t : Fin 4096) (j : Fin 9216) :
    (StableHlo.after hostOps1 W (Proc.devRef .tc main_v55) : Vec Ideal S8x4096x9216 .f32) (ix3 b t j)
      = product W (ix2 (row b t) ⟨j.val, by omega⟩) := by
  after_results_simp
  pointwise
  rfl

/-- The branches' gates are the columns after these. -/
theorem gate (b : Fin 8) (t : Fin 4096) (j : Fin 3072) :
    (StableHlo.after hostOps1 W (Proc.devRef .tc main_v56) : Vec Ideal S8x4096x3072 .f32) (ix3 b t j)
      = product W (ix2 (row b t) ⟨9216 + j.val, by omega⟩) := by
  after_results_simp
  pointwise
  rfl

/-- The gated branch's columns follow. -/
theorem gated (b : Fin 8) (t : Fin 4096) (j : Fin 2048) :
    (StableHlo.after hostOps1 W (Proc.devRef .tc main_v54) : Vec Ideal S8x4096x2048 .f32) (ix3 b t j)
      = product W (ix2 (row b t) ⟨12288 + j.val, by omega⟩) := by
  after_results_simp
  pointwise
  rfl

/-- The recurrence's columns are the last ones, without their padding. -/
theorem recurrence (b : Fin 8) (t : Fin 4096) (j : Fin 3360) :
    (StableHlo.after hostOps1 W (Proc.devRef .tc main_v53) : Vec Ideal S8x4096x3360 .f32) (ix3 b t j)
      = product W (ix2 (row b t) (recurrent j)) := by
  after_results_simp
  pointwise
  after_results_simp
  pointwise
  split_ifs <;> exact entry (product W) rfl (by simp only [recurrent]; split_ifs <;> omega)

/-- The last time's are kept apart. -/
theorem shift (b : Fin 8) (j : Fin 3360) :
    (StableHlo.after hostOps1 W (Proc.devRef .tc main_v24) : Vec Ideal S8x3360 .f32) (ix2 b j)
      = product W (ix2 (row b 4095) (recurrent j)) := by
  after_results_simp
  pointwise
  after_results_simp
  pointwise
  split_ifs <;> exact entry (product W) rfl (by simp only [recurrent]; split_ifs <;> omega)

end Cert.ProjTail

end
-- ==== Proof.ProjKv.lean ====
/-
  The keys and values that the projection keeps for the attention's three groups, read at an index.
-/
module

public import proofs.«01_k».proof.Proof.ProjTail

@[expose] public section

set_option maxRecDepth 16384
set_option maxHeartbeats 4000000

noncomputable section

namespace Cert.ProjTail

open Cert.ProjIdeal Cert.ProjIdeal.Gen Idealize.ShloMosaic Idealize.ShloMosaic.TcCoe Idealize.SL.Sem

variable (W : Valuation τ sig (Elt Ideal))

/-- The last 128 times' keys and values of group 0. -/
theorem kv128 (b : Fin 8) (k : Fin 2) (s : Fin 128) (h : Fin 16) (d : Fin 64) :
    (StableHlo.after hostOps1 W (Proc.devRef .tc main_v33) : Vec Ideal S8x2x128x16x64 .f32) (ix5 b k s h d)
      = product W (ix2 (row b ⟨3968 + s.val, by omega⟩) (cached 0 k h d)) := by
  after_results_simp
  pointwise
  split_ifs <;> exact entry (product W) rfl (by simp only [cached]; omega)

/-- The last 512 times' keys and values of group 1. -/
theorem kv512 (b : Fin 8) (k : Fin 2) (s : Fin 512) (h : Fin 16) (d : Fin 64) :
    (StableHlo.after hostOps1 W (Proc.devRef .tc main_v40) : Vec Ideal S8x2x512x16x64 .f32) (ix5 b k s h d)
      = product W (ix2 (row b ⟨3584 + s.val, by omega⟩) (cached 1 k h d)) := by
  after_results_simp
  pointwise
  split_ifs <;> exact entry (product W) rfl (by simp only [cached]; omega)

/-- The last 2048 times' keys and values of group 2. -/
theorem kv2048 (b : Fin 8) (k : Fin 2) (s : Fin 2048) (h : Fin 16) (d : Fin 64) :
    (StableHlo.after hostOps1 W (Proc.devRef .tc main_v47) : Vec Ideal S8x2x2048x16x64 .f32) (ix5 b k s h d)
      = product W (ix2 (row b ⟨2048 + s.val, by omega⟩) (cached 2 k h d)) := by
  after_results_simp
  pointwise
  split_ifs <;> exact entry (product W) rfl (by simp only [cached]; omega)

end Cert.ProjTail

end
-- ==== Proof.ProjWeight.lean ====
/-
  The weight with its columns in the product's order, read at an index.
-/
module

public import proofs.«01_k».proof.Proof.ProjBlock

@[expose] public section

set_option maxRecDepth 16384
set_option maxHeartbeats 4000000

noncomputable section

namespace Cert.ProjWeight

open Cert.ProjIdeal Cert.ProjIdeal.Gen Idealize.ShloMosaic Idealize.ShloMosaic.TcCoe Idealize.SL.Sem

variable (m : (ℓ : Loc nD τ sig) → Buf (Elt Ideal) ℓ)

/-- The product's column that holds the weight's column `j`. -/
def column (j : Fin 17696) : Fin 17920 :=
  ⟨if j.val < 3136 then 14336 + j.val else if j.val < 3200 then 14400 + j.val else if j.val < 3360 then 14464 + j.val
    else if j.val < 5408 then 8928 + j.val else j.val - 5408, by split_ifs <;> omega⟩

/-- There the region finds the weight's own column, whatever the order and the padding. -/
theorem weight (c : Dev nD) (k : Fin 1024) (j : Fin 17696) :
    (V m c main_v15 : Vec Ideal S1024x17920 .bf16) (ix2 k (column j)) = m ((c : Thread nD τ).loc main_arg2) (ix2 k j) := by
  have hs : (column j).val = if j.val < 3136 then 14336 + j.val else if j.val < 3200 then 14400 + j.val
    else if j.val < 3360 then 14464 + j.val else if j.val < 5408 then 8928 + j.val else j.val - 5408 := rfl
  generalize column j = s at hs
  simp only [V, V0, List.flatten_cons, List.flatten_nil, List.append_nil, List.cons_append, List.nil_append, hostOps0_1,
    hostOps0_3, hostOps0_5, StableHlo.TRef.unary, StableHlo.TRef.binary]
  after_results_simp
  pointwise
  after_results_simp
  pointwise
  after_results_simp
  simp only [StableHlo.TRef.toBuf, StableHlo.TRef.ofBuf, cast_eq]
  pointwise
  split_ifs at hs
  all_goals
    repeat' split
    all_goals first
      | omega
      | exact congrArg (m ((c : Thread nD τ).loc main_arg2)) (congrArg₂ ix2 rfl (Fin.ext (by simp only []; omega)))

end Cert.ProjWeight

end
-- ==== Proof.Stack.lean ====
/-
  Keys and values kept side by side: two arrays of rows, each cut from the same place on, stacked along a new axis, and
  read at an index. Stated for any number of sequences and of rows.
-/
module

public import Idealize.ShloMosaic.Lib.Pointwise
public import Idealize.ShloMosaic.Lib.Pipeline.Value
public import Idealize.ShloMosaic.Lib.Tactic

@[expose] public section

noncomputable section

namespace Cert.Stack

open Idealize.ShloMosaic

/-- `N` rows of 16 heads of 64 entries, for `B` sequences. -/
abbrev Rows (B N : ℕ) : Shape := ⟨4, ![B, N, 16, 64]⟩

/-- `r` such arrays for each sequence. -/
abbrev Stacked (B r N : ℕ) : Shape := ⟨5, ![B, r, N, 16, 64]⟩

variable {B N n : ℕ} {α : Type}

/-- One of the two, with its new axis. -/
abbrev cut (o : ℕ) (hs : (Rows B N).Slices ![0, o, 0, 0] (Rows B n))
    (hb : (Rows B n).BroadcastsInDim (Stacked B 1 n) ![0, 2, 3, 4]) (K : (Rows B N).Idx → α) : (Stacked B 1 n).Idx → α :=
  broadcastInDim (Stacked B 1 n) ![0, 2, 3, 4] hb (extractStridedSlice (Rows B n) ![0, o, 0, 0] K hs)

theorem cut_at (o : ℕ) (hs : (Rows B N).Slices ![0, o, 0, 0] (Rows B n))
    (hb : (Rows B n).BroadcastsInDim (Stacked B 1 n) ![0, 2, 3, 4]) (K : (Rows B N).Idx → α) (b : Fin B) (s : Fin n)
    (h : Fin 16) (d : Fin 64) (u : Fin N) (hu : u.val = o + s.val) :
    cut o hs hb K (ix5 b 0 s h d) = K (ix4 b u h d) := by
  refine (broadcastInDim_apply _ hb _ _ (ix4 b s h d) fun a => ?_).trans
    (extractStridedSlice_apply _ K hs _ (ix4 b u h d) fun a => ?_)
  · fin_cases a
    · show b.val = if B = 1 then 0 else b.val
      split <;> omega
    · show s.val = if n = 1 then 0 else s.val
      split <;> omega
    · rfl
    · rfl
  · fin_cases a
    · exact (Nat.zero_add _).symm
    · exact hu
    · exact (Nat.zero_add _).symm
    · exact (Nat.zero_add _).symm

/-- The stack at its first place is the first array from row `o` on, at its second place the second one. -/
theorem stack_at (o : ℕ) (hs : (Rows B N).Slices ![0, o, 0, 0] (Rows B n))
    (hb : (Rows B n).BroadcastsInDim (Stacked B 1 n) ![0, 2, 3, 4])
    (hc : Shape.Concatenates [Stacked B 1 n, Stacked B 1 n] (Stacked B 2 n) 1) (K K' : (Rows B N).Idx → α) (b : Fin B)
    (k : Fin 2) (s : Fin n) (h : Fin 16) (d : Fin 64) (u : Fin N) (hu : u.val = o + s.val) :
    concatenate (Stacked B 2 n) 1 [⟨Stacked B 1 n, cut o hs hb K⟩, ⟨Stacked B 1 n, cut o hs hb K'⟩] hc (ix5 b k s h d)
      = (if k = 0 then K else K') (ix4 b u h d) := by
  obtain rfl | rfl : k = 0 ∨ k = 1 := by omega
  · refine (concatenate_pair_apply_left _ _ _ hc _ rfl (ix5 b 0 s h d) fun a => ?_).trans (cut_at o hs hb K b s h d u hu)
    fin_cases a <;> rfl
  · refine (concatenate_pair_apply_right _ _ _ hc _ rfl rfl (ix5 b 0 s h d) (fun a ha => ?_) rfl).trans
      (cut_at o hs hb K' b s h d u hu)
    fin_cases a
    · rfl
    · exact absurd rfl ha
    · rfl
    · rfl
    · rfl

/-- One place of a stack of `n` rows, followed by `m` further rows. -/
abbrev joined {m : ℕ} (k : ℕ) (hk : (Stacked B 2 n).Slices ![0, k, 0, 0, 0] (Stacked B 1 n))
    (hr : (Stacked B 1 n).ShapeCasts (Rows B n)) (hj : Shape.Concatenates [Rows B n, Rows B m] (Rows B N) 1)
    (C : (Stacked B 2 n).Idx → α) (Z : (Rows B m).Idx → α) : (Rows B N).Idx → α :=
  concatenate (Rows B N) 1 [⟨Rows B n, shapeCast (Rows B n) (extractStridedSlice (Stacked B 1 n) ![0, k, 0, 0, 0] C hk) hr⟩,
    ⟨Rows B m, Z⟩] hj

/-- The first `n` rows are the stack's … -/
theorem joined_old {m : ℕ} (k : Fin 2) (hk : (Stacked B 2 n).Slices ![0, k.val, 0, 0, 0] (Stacked B 1 n))
    (hr : (Stacked B 1 n).ShapeCasts (Rows B n)) (hj : Shape.Concatenates [Rows B n, Rows B m] (Rows B N) 1)
    (C : (Stacked B 2 n).Idx → α) (Z : (Rows B m).Idx → α) (b : Fin B) (u : Fin N) (h : Fin 16) (d : Fin 64) (v : Fin n)
    (hv : v.val = u.val) : joined k.val hk hr hj C Z (ix4 b u h d) = C (ix5 b k v h d) := by
  refine (concatenate_pair_apply_left _ _ _ hj _ rfl (ix4 b v h d) fun a => ?_).trans
    ((shapeCast_apply _ hr _ (ix5 b 0 v h d) ?_).trans (extractStridedSlice_apply _ C hk _ (ix5 b k v h d) fun a => ?_))
  · fin_cases a
    · rfl
    · exact hv
    · rfl
    · rfl
  · rw [Shape.rowMajor_val_five, Shape.rowMajor_val_four]
    show ((((b.val * 1 + 0) * n + v.val) * 16 + h.val) * 64 + d.val) = ((b.val * n + v.val) * 16 + h.val) * 64 + d.val
    rw [Nat.mul_one, Nat.add_zero]
  · fin_cases a
    · exact (Nat.zero_add _).symm
    · exact (Nat.add_zero _).symm
    · exact (Nat.zero_add _).symm
    · exact (Nat.zero_add _).symm
    · exact (Nat.zero_add _).symm

/-- … and the others the further ones. -/
theorem joined_new {m : ℕ} (k : ℕ) (hk : (Stacked B 2 n).Slices ![0, k, 0, 0, 0] (Stacked B 1 n))
    (hr : (Stacked B 1 n).ShapeCasts (Rows B n)) (hj : Shape.Concatenates [Rows B n, Rows B m] (Rows B N) 1)
    (C : (Stacked B 2 n).Idx → α) (Z : (Rows B m).Idx → α) (b : Fin B) (u : Fin N) (h : Fin 16) (d : Fin 64) (v : Fin m)
    (hv : v.val + n = u.val) : joined k hk hr hj C Z (ix4 b u h d) = Z (ix4 b v h d) := by
  refine concatenate_pair_apply_right _ _ _ hj _ rfl rfl (ix4 b v h d) (fun a ha => ?_) hv
  fin_cases a
  · rfl
  · exact absurd rfl ha
  · rfl
  · rfl

/-- Row `s` of a cache of `n` rows after a step: the row eight places on, or one of the eight new rows at the end. -/
def kept (c : Fin n → α) (z : Fin 8 → α) (s : Fin n) : α :=
  if h : s.val + 8 < n then c ⟨s.val + 8, h⟩ else z ⟨s.val + 8 - n, by omega⟩

/-- The stack of the cached rows and the new ones from row 8 on is the cache after the step. -/
theorem kept_at (hk : (Stacked B 2 n).Slices ![0, 0, 0, 0, 0] (Stacked B 1 n))
    (hk' : (Stacked B 2 n).Slices ![0, 1, 0, 0, 0] (Stacked B 1 n)) (hr : (Stacked B 1 n).ShapeCasts (Rows B n))
    (hj : Shape.Concatenates [Rows B n, Rows B 8] (Rows B N) 1) (hs : (Rows B N).Slices ![0, 8, 0, 0] (Rows B n))
    (hb : (Rows B n).BroadcastsInDim (Stacked B 1 n) ![0, 2, 3, 4])
    (hc : Shape.Concatenates [Stacked B 1 n, Stacked B 1 n] (Stacked B 2 n) 1) (hN : N = n + 8)
    (C : (Stacked B 2 n).Idx → α) (Z Z' : (Rows B 8).Idx → α) (b : Fin B) (k : Fin 2) (s : Fin n) (h : Fin 16) (d : Fin 64) :
    concatenate (Stacked B 2 n) 1 [⟨Stacked B 1 n, cut 8 hs hb (joined 0 hk hr hj C Z)⟩,
        ⟨Stacked B 1 n, cut 8 hs hb (joined 1 hk' hr hj C Z')⟩] hc (ix5 b k s h d)
      = kept (fun s => C (ix5 b k s h d)) (fun t => (if k = 0 then Z else Z') (ix4 b t h d)) s := by
  subst hN
  rw [stack_at 8 hs hb hc _ _ b k s h d ⟨8 + s.val, by omega⟩ rfl, kept]
  obtain rfl | rfl : k = 0 ∨ k = 1 := by omega
  · rw [if_pos rfl, if_pos rfl]
    split
    · exact joined_old 0 hk hr hj C Z b _ h d _ (Nat.add_comm _ _)
    · exact joined_new 0 hk hr hj C Z b _ h d _ (by simp only []; omega)
  · rw [if_neg (by decide), if_neg (by decide)]
    split
    · exact joined_old 1 hk' hr hj C Z' b _ h d _ (Nat.add_comm _ _)
    · exact joined_new 1 hk' hr hj C Z' b _ h d _ (by simp only []; omega)

end Cert.Stack

end
-- ==== Proof.ProjRef.lean ====
/-
  The projection's reference, read at an index: the projected rows, and where in them each result comes from.
-/
module

public import proofs.«01_k».proof.Proof.Gen.ProjRefIdeal.Read
public import proofs.«01_k».proof.Proof.Stack
public import Idealize.ShloMosaic.Lib.Pointwise
public import Idealize.ShloMosaic.Lib.Tactic

@[expose] public section

set_option maxRecDepth 16384

noncomputable section

namespace Cert.ProjRef

open Cert.ProjRefIdeal Cert.ProjRefIdeal.Read Idealize.ShloMosaic

variable (x : FVec Ideal ⟨3, ![8, 4096, 1024]⟩ .f32) (g : FVec Ideal ⟨1, ![1024]⟩ .f32) (w : FVec Ideal ⟨2, ![1024, 17696]⟩ .f32)

/-- At `(b, t, j)`: the sum over `k` of the normalised, scaled entry `(b, t, k)` times the weight `(k, j)`. -/
theorem projected (b : Fin 8) (t : Fin 4096) (j : Fin 17696) :
    val_main_v13 (F := Ideal) x g w (ix3 b t j) = ∑ k : Fin 1024, x (ix3 b t k)
      * Ideal.rsqrt (Ideal.div (∑ l : Fin 1024, x (ix3 b t l) * x (ix3 b t l)) (Ideal.ofBits .f32 0x44800000#32)
        + Ideal.ofBits .f32 0x358637BD#32) * g (ix1 k) * w (ix2 k j) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]

theorem recurrence (b : Fin 8) (t : Fin 4096) (j : Fin 3360) :
    val_main_v14 (F := Ideal) x g w (ix3 b t j) = val_main_v13 (F := Ideal) x g w (ix3 b t ⟨j.val, by omega⟩) := by
  pointwise [val_main_v14]

theorem gated (b : Fin 8) (t : Fin 4096) (j : Fin 2048) :
    val_main_v15 (F := Ideal) x g w (ix3 b t j) = val_main_v13 (F := Ideal) x g w (ix3 b t ⟨3360 + j.val, by omega⟩) := by
  pointwise [val_main_v15]

theorem attention (b : Fin 8) (t : Fin 4096) (j : Fin 9216) :
    val_main_v16 (F := Ideal) x g w (ix3 b t j) = val_main_v13 (F := Ideal) x g w (ix3 b t ⟨5408 + j.val, by omega⟩) := by
  pointwise [val_main_v16]

theorem gate (b : Fin 8) (t : Fin 4096) (j : Fin 3072) :
    val_main_v17 (F := Ideal) x g w (ix3 b t j) = val_main_v13 (F := Ideal) x g w (ix3 b t ⟨14624 + j.val, by omega⟩) := by
  pointwise [val_main_v17]

theorem shift (b : Fin 8) (j : Fin 3360) :
    val_main_v47 (F := Ideal) x g w (ix2 b j) = val_main_v13 (F := Ideal) x g w (ix3 b 4095 ⟨j.val, by omega⟩) := by
  pointwise [val_main_v47, val_main_v46, val_main_v14]

/-- The projected column of head `h`, entry `d`, of the keys (`k = 0`) or values (`k = 1`) of the attention's group `i`. -/
def cached (i : Fin 3) (k : Fin 2) (h : Fin 16) (d : Fin 64) : Fin 17696 :=
  ⟨5408 + (3072 * i.val + 1024 * (1 + k.val) + 64 * h.val + d.val), by omega⟩

/-- The same column. -/
theorem same (b : Fin 8) (t : Fin 4096) {j j' : Fin 17696} (e : j.val = j'.val) :
    val_main_v13 (F := Ideal) x g w (ix3 b t j) = val_main_v13 (F := Ideal) x g w (ix3 b t j') := by
  rw [Fin.ext e]

/-- Group 0's keys and values at time `t`. -/
theorem heads0 (b : Fin 8) (k : Fin 2) (t : Fin 4096) (h : Fin 16) (d : Fin 64) :
    (if k = 0 then val_main_v20 (F := Ideal) x g w else val_main_v22 (F := Ideal) x g w) (ix4 b t h d)
      = val_main_v13 (F := Ideal) x g w (ix3 b t (cached 0 k h d)) := by
  obtain rfl | rfl : k = 0 ∨ k = 1 := by omega
  · rw [if_pos rfl]
    pointwise [val_main_v20, val_main_v19, val_main_v18, val_main_v16]
    exact same x g w b t (by simp only [cached, Fin.val_zero, Fin.val_one, Fin.val_two]; omega)
  · rw [if_neg (by decide)]
    pointwise [val_main_v22, val_main_v21, val_main_v18, val_main_v16]
    exact same x g w b t (by simp only [cached, Fin.val_zero, Fin.val_one, Fin.val_two]; omega)

/-- Group 1's. -/
theorem heads1 (b : Fin 8) (k : Fin 2) (t : Fin 4096) (h : Fin 16) (d : Fin 64) :
    (if k = 0 then val_main_v29 (F := Ideal) x g w else val_main_v31 (F := Ideal) x g w) (ix4 b t h d)
      = val_main_v13 (F := Ideal) x g w (ix3 b t (cached 1 k h d)) := by
  obtain rfl | rfl : k = 0 ∨ k = 1 := by omega
  · rw [if_pos rfl]
    pointwise [val_main_v29, val_main_v28, val_main_v18, val_main_v16]
    exact same x g w b t (by simp only [cached, Fin.val_zero, Fin.val_one, Fin.val_two]; omega)
  · rw [if_neg (by decide)]
    pointwise [val_main_v31, val_main_v30, val_main_v18, val_main_v16]
    exact same x g w b t (by simp only [cached, Fin.val_zero, Fin.val_one, Fin.val_two]; omega)

/-- Group 2's. -/
theorem heads2 (b : Fin 8) (k : Fin 2) (t : Fin 4096) (h : Fin 16) (d : Fin 64) :
    (if k = 0 then val_main_v38 (F := Ideal) x g w else val_main_v40 (F := Ideal) x g w) (ix4 b t h d)
      = val_main_v13 (F := Ideal) x g w (ix3 b t (cached 2 k h d)) := by
  obtain rfl | rfl : k = 0 ∨ k = 1 := by omega
  · rw [if_pos rfl]
    pointwise [val_main_v38, val_main_v37, val_main_v18, val_main_v16]
    exact same x g w b t (by simp only [cached, Fin.val_zero, Fin.val_one, Fin.val_two]; omega)
  · rw [if_neg (by decide)]
    pointwise [val_main_v40, val_main_v39, val_main_v18, val_main_v16]
    exact same x g w b t (by simp only [cached, Fin.val_zero, Fin.val_one, Fin.val_two]; omega)

/-- Group 0 keeps the last 128 times. -/
theorem kv128 (b : Fin 8) (k : Fin 2) (s : Fin 128) (h : Fin 16) (d : Fin 64) :
    val_main_v27 (F := Ideal) x g w (ix5 b k s h d)
      = val_main_v13 (F := Ideal) x g w (ix3 b ⟨3968 + s.val, by omega⟩ (cached 0 k h d)) := by
  unfold val_main_v27 val_main_v26 val_main_v25 val_main_v24 val_main_v23
  exact (Stack.stack_at 3968 _ _ _ _ _ b k s h d ⟨3968 + s.val, by omega⟩ rfl).trans (heads0 x g w b k _ h d)

/-- Group 1 keeps the last 512 times. -/
theorem kv512 (b : Fin 8) (k : Fin 2) (s : Fin 512) (h : Fin 16) (d : Fin 64) :
    val_main_v36 (F := Ideal) x g w (ix5 b k s h d)
      = val_main_v13 (F := Ideal) x g w (ix3 b ⟨3584 + s.val, by omega⟩ (cached 1 k h d)) := by
  unfold val_main_v36 val_main_v35 val_main_v34 val_main_v33 val_main_v32
  exact (Stack.stack_at 3584 _ _ _ _ _ b k s h d ⟨3584 + s.val, by omega⟩ rfl).trans (heads1 x g w b k _ h d)

/-- Group 2 keeps the last 2048 times. -/
theorem kv2048 (b : Fin 8) (k : Fin 2) (s : Fin 2048) (h : Fin 16) (d : Fin 64) :
    val_main_v45 (F := Ideal) x g w (ix5 b k s h d)
      = val_main_v13 (F := Ideal) x g w (ix3 b ⟨2048 + s.val, by omega⟩ (cached 2 k h d)) := by
  unfold val_main_v45 val_main_v44 val_main_v43 val_main_v42 val_main_v41
  exact (Stack.stack_at 2048 _ _ _ _ _ b k s h d ⟨2048 + s.val, by omega⟩ rfl).trans (heads2 x g w b k _ h d)

end Cert.ProjRef

end
-- ==== Proof.ProjEq.lean ====
/-
  The projection, as a whole: the product's entries are the reference's, whichever order its columns are in, and so are
  the results cut out of it.
-/
module

public import proofs.«01_k».proof.Defs
public import proofs.«01_k».proof.Proof.ProjKv
public import proofs.«01_k».proof.Proof.ProjWeight
public import proofs.«01_k».proof.Proof.ProjRef

@[expose] public section

set_option maxRecDepth 16384

noncomputable section

namespace Cert.ProjEq

open Cert.ProjIdeal Cert.ProjIdeal.Gen Idealize.ShloMosaic Idealize.ShloMosaic.TcCoe Idealize.SL.Sem
open Cert.ProjTail (row entry recurrent cached)
open Cert.ProjWeight (column)

variable (m : (ℓ : Loc nD τ sig) → Buf (Elt Ideal) ℓ)

/-- The rows, the scale and the weight as the region finds them. -/
def X (c : Dev nD) : FVec Ideal S32768x1024 .f32 := V m c main_v0
def G (c : Dev nD) : FVec Ideal S1x1024 .f32 := V m c main_v1
def Y (c : Dev nD) : FVec Ideal S1024x17920 .bf16 := V m c main_v15

/-- The product of the normalised rows with the reordered weight. -/
def normed (x : FVec Ideal S32768x1024 .f32) (g : FVec Ideal S1x1024 .f32) (y : FVec Ideal S1024x17920 .bf16) :
    FVec Ideal S32768x17920 .f32 := fun i =>
  ∑ k : Fin 1024, x (ix2 (i 0) k)
      * Ideal.rsqrt (Ideal.div (∑ l : Fin 1024, x (ix2 (i 0) l) * x (ix2 (i 0) l)) (Ideal.ofBits .f32 0x44800000#32)
        + Ideal.ofBits .f32 0x358637BD#32) * g (ix2 0 k) * y (ix2 k (i 1))

abbrev result (c : Dev nD) : Buf (Elt Ideal) ((c : Thread nD τ).loc main_v16) := normed (X m c) (G m c) (Y m c)

theorem rows_read (c : Dev nD) (t : Fin cfg0.N) (r : Fin 1024) (k : Fin 1024) (h : 1024 * (t.val / 35) + r.val < 32768) :
    iblk m c 0 t (ix2 r k) = X m c (ix2 ⟨1024 * (t.val / 35) + r.val, h⟩ k) := by
  obtain ⟨e0, e1, e2, e3⟩ := ProjBlock.idx t
  blk_ext [iblk, X, e0]

theorem scale_read (c : Dev nD) (t : Fin cfg0.N) (k : Fin 1024) :
    iblk m c 1 t (ix2 0 k) = G m c (ix2 0 k) := by
  obtain ⟨e0, e1, e2, e3⟩ := ProjBlock.idx t
  blk_ext [iblk, G, e1]

theorem weight_read (c : Dev nD) (t : Fin cfg0.N) (k : Fin 1024) (j : Fin 512) (h : 512 * (t.val % 35) + j.val < 17920) :
    iblk m c 2 t (ix2 k j) = Y m c (ix2 k ⟨512 * (t.val % 35) + j.val, h⟩) := by
  obtain ⟨e0, e1, e2, e3⟩ := ProjBlock.idx t
  blk_ext [iblk, Y, e2]

theorem place (t : Fin cfg0.N) (r : Fin 1024) (j : Fin 512) (h : 1024 * (t.val / 35) + r.val < 32768)
    (h' : 512 * (t.val % 35) + j.val < 17920) :
    ((cfg0.win 3).blk t).view.emb (ix2 r j) = (ix2 ⟨1024 * (t.val / 35) + r.val, h⟩ ⟨512 * (t.val % 35) + j.val, h'⟩ : S32768x17920.Idx) := by
  obtain ⟨e0, e1, e2, e3⟩ := ProjBlock.idx t
  blk_ext [e3]

theorem block (c : Dev nD) (t : Fin cfg0.N) (y : S1024x512.Idx) :
    k0_pay2 (k0_pay1 (iblk m c 0 t) (iblk m c 1 t)) (iblk m c 2 t) y = result m c (((cfg0.win 3).blk t).view.emb y) := by
  obtain ⟨r, j, rfl⟩ : ∃ (r : Fin 1024) (j : Fin 512), y = ix2 r j := ⟨y 0, y 1, eq_ix2 y⟩
  have ht : t.val < 1120 := lt_of_lt_of_eq t.isLt N_0
  have h : 1024 * (t.val / 35) + r.val < 32768 := by omega
  have h' : 512 * (t.val % 35) + j.val < 17920 := by omega
  rw [place t r j h h', result, normed]
  unfold_payloads
  pointwise
  simp only [rows_read m c t _ _ h, scale_read, weight_read m c t _ _ h']

theorem flushes : ∀ t : Fin cfg0.N, (cfg0.win 3).flush t = true :=
  (by decide +kernel : ∀ t : Fin grid0.N, _)

/-- Every entry of the product is in some point's block. -/
theorem covered (i : S32768x17920.Idx) :
    ∃ t : Fin cfg0.N, (cfg0.win 3).flush t = true ∧ i ∈ ((cfg0.win 3).blk t).view.set := by
  obtain ⟨r, j, rfl⟩ : ∃ (r : Fin 32768) (j : Fin 17920), i = ix2 r j := ⟨i 0, i 1, eq_ix2 i⟩
  have h : 35 * (r.val / 1024) + j.val / 512 < cfg0.N := lt_of_lt_of_eq (by omega) N_0.symm
  refine ⟨⟨35 * (r.val / 1024) + j.val / 512, h⟩, flushes _, ?_⟩
  have e := place ⟨35 * (r.val / 1024) + j.val / 512, h⟩ ⟨r.val % 1024, by omega⟩ ⟨j.val % 512, by omega⟩
    (by simp only []; omega) (by simp only []; omega)
  rw [(congrArg₂ ix2 (Fin.ext (by simp only []; omega)) (Fin.ext (by simp only []; omega)) : ix2 r j = _).trans e.symm]
  exact View.emb_mem_set _ _

/-- After the run the array holds that product. -/
theorem array (c : Dev nD) : (dats m 0 c).arrAt 3 cfg0.N = result m c :=
  (dats m 0 c).arrAt_eq_of_cover 3 _ (fun t _ => by
    show (cfg0.win 3).cut (grid0.coords t) ((dats m 0 c).after 3 t) = _
    rw [after0_3, ProjBlock.out]
    exact funext fun y => block m c t y) covered

theorem normed_at (x : FVec Ideal S32768x1024 .f32) (g : FVec Ideal S1x1024 .f32) (y : FVec Ideal S1024x17920 .bf16)
    (r : Fin 32768) (j : Fin 17920) : normed x g y (ix2 r j) = ∑ k : Fin 1024, x (ix2 r k)
      * Ideal.rsqrt (Ideal.div (∑ l : Fin 1024, x (ix2 r l) * x (ix2 r l)) (Ideal.ofBits .f32 0x44800000#32)
        + Ideal.ofBits .f32 0x358637BD#32) * g (ix2 0 k) * y (ix2 k j) := rfl

/-- The rows are the sequences', one after the other. -/
theorem rows (c : Dev nD) (b : Fin 8) (t : Fin 4096) (k : Fin 1024) :
    X m c (ix2 (row b t) k) = m ((c : Thread nD τ).loc main_arg0) (ix3 b t k) := by
  simp only [X, V, V0, List.flatten_cons, List.flatten_nil, List.append_nil, List.cons_append, List.nil_append]
  after_results_simp
  pointwise
  have e : (row b t).val / 4096 = b.val := by simp only [row]; omega
  have e' : (row b t).val % 4096 = t.val := by simp only [row]; omega
  simp only [e, e']

theorem scale (c : Dev nD) (k : Fin 1024) : G m c (ix2 0 k) = m ((c : Thread nD τ).loc main_arg1) (ix1 k) := by
  simp only [G, V, V0, List.flatten_cons, List.flatten_nil, List.append_nil, List.cons_append, List.nil_append]
  after_results_simp
  pointwise

theorem weight (c : Dev nD) (k : Fin 1024) (j : Fin 17696) :
    Y m c (ix2 k (column j)) = m ((c : Thread nD τ).loc main_arg2) (ix2 k j) := ProjWeight.weight m c k j

/-- The buffers after the region. -/
abbrev W (c : Dev nD) : Valuation τ sig (Elt Ideal) :=
  Pipeline.withArrays spec0 c (V0 m c) fun w => (dats m 0 c).arrAt w cfg0.N

/-- The projected rows of the reference, from the launch's own arguments. -/
abbrev projected (c : Dev nD) (b : Fin 8) (t : Fin 4096) (j : Fin 17696) : Elt Ideal .f32 :=
  Cert.ProjRefIdeal.Read.val_main_v13 (F := Ideal) (m ((c : Thread nD τ).loc main_arg0)) (m ((c : Thread nD τ).loc main_arg1))
    (m ((c : Thread nD τ).loc main_arg2)) (ix3 b t j)

/-- The product's entry is the reference's, at the place that the column order gives it. -/
theorem product (c : Dev nD) (b : Fin 8) (t : Fin 4096) (j : Fin 17696) :
    ProjTail.product (W m c) (ix2 (row b t) (column j)) = projected m c b t j := by
  have e : ProjTail.product (W m c) = result m c := (Pipeline.withArrays_arr spec0 launch0.win.arr_inj c _ _ 3).trans (array m c)
  rw [e, projected, ProjRef.projected, result, normed_at]
  simp only [rows, scale, weight]

/-- The same, for a column of the product given by its own place. -/
theorem product_at (c : Dev nD) (b : Fin 8) (t : Fin 4096) (j : Fin 17696) (p : Fin 17920) (e : p.val = (column j).val) :
    ProjTail.product (W m c) (ix2 (row b t) p) = projected m c b t j := by
  rw [Fin.ext e]
  exact product m c b t j

/-- What the host operations after the region leave in a buffer. -/
theorem tail (c : Dev nD) (b : Ref sig .tc) :
    Pipeline.afterTail₀ cfgs (dats m) 0 (V0 m) [hostOps1] c b = StableHlo.after hostOps1 (W m c) (Proc.devRef .tc b) := by
  show StableHlo.after (hostOps1 ++ []) _ _ = _
  rw [List.append_nil]

theorem later (j : Fin 17696) (h : 5408 ≤ j.val) : (column j).val = j.val - 5408 := by
  simp only [column]
  split_ifs <;> omega

/-- So the run leaves that in every buffer that is not the region's own. -/
theorem left (r : PUnit × MemSt nD τ sig (Elt Ideal))
    (h : Pipeline.FramePost cfgs (dats m) 0 (Pipeline.afterTail₀ cfgs (dats m) 0 (V0 m) [hostOps1]) r) (c : Dev nD) (b : Ref sig .tc)
    (hb : b ∈ Pipeline.restRefs sig spec0) :
    r.2.mem ((c.tc : Thread nD τ).loc b) = StableHlo.after hostOps1 (W m c) (Proc.devRef .tc b) :=
  ((h c).2 b hb).trans (tail m c b)

/-! Each result is the reference's. -/

theorem attention (c : Dev nD) : StableHlo.after hostOps1 (W m c) (Proc.devRef .tc main_v55)
    = Cert.ProjRefIdeal.Read.val_main_v16 (F := Ideal) (m ((c : Thread nD τ).loc main_arg0)) (m ((c : Thread nD τ).loc main_arg1)) (m ((c : Thread nD τ).loc main_arg2)) := by
  funext y
  obtain ⟨b, t, j, rfl⟩ : ∃ (b : Fin 8) (t : Fin 4096) (j : Fin 9216), y = ix3 b t j := ⟨y 0, y 1, y 2, eq_ix3 y⟩
  rw [ProjTail.attention, ProjRef.attention]
  exact product_at m c _ _ _ _ (by simp only [column]; split_ifs <;> omega)

theorem gate (c : Dev nD) : StableHlo.after hostOps1 (W m c) (Proc.devRef .tc main_v56)
    = Cert.ProjRefIdeal.Read.val_main_v17 (F := Ideal) (m ((c : Thread nD τ).loc main_arg0)) (m ((c : Thread nD τ).loc main_arg1)) (m ((c : Thread nD τ).loc main_arg2)) := by
  funext y
  obtain ⟨b, t, j, rfl⟩ : ∃ (b : Fin 8) (t : Fin 4096) (j : Fin 3072), y = ix3 b t j := ⟨y 0, y 1, y 2, eq_ix3 y⟩
  rw [ProjTail.gate, ProjRef.gate]
  exact product_at m c _ _ _ _ (by simp only [column]; split_ifs <;> omega)

theorem gated (c : Dev nD) : StableHlo.after hostOps1 (W m c) (Proc.devRef .tc main_v54)
    = Cert.ProjRefIdeal.Read.val_main_v15 (F := Ideal) (m ((c : Thread nD τ).loc main_arg0)) (m ((c : Thread nD τ).loc main_arg1)) (m ((c : Thread nD τ).loc main_arg2)) := by
  funext y
  obtain ⟨b, t, j, rfl⟩ : ∃ (b : Fin 8) (t : Fin 4096) (j : Fin 2048), y = ix3 b t j := ⟨y 0, y 1, y 2, eq_ix3 y⟩
  rw [ProjTail.gated, ProjRef.gated]
  exact product_at m c _ _ _ _ (by simp only [column]; split_ifs <;> omega)

theorem recurrence (c : Dev nD) : StableHlo.after hostOps1 (W m c) (Proc.devRef .tc main_v53)
    = Cert.ProjRefIdeal.Read.val_main_v14 (F := Ideal) (m ((c : Thread nD τ).loc main_arg0)) (m ((c : Thread nD τ).loc main_arg1)) (m ((c : Thread nD τ).loc main_arg2)) := by
  funext y
  obtain ⟨b, t, j, rfl⟩ : ∃ (b : Fin 8) (t : Fin 4096) (j : Fin 3360), y = ix3 b t j := ⟨y 0, y 1, y 2, eq_ix3 y⟩
  rw [ProjTail.recurrence, ProjRef.recurrence]
  exact product_at m c _ _ _ _ (by simp only [column, recurrent]; split_ifs <;> omega)

theorem shift (c : Dev nD) : StableHlo.after hostOps1 (W m c) (Proc.devRef .tc main_v24)
    = Cert.ProjRefIdeal.Read.val_main_v47 (F := Ideal) (m ((c : Thread nD τ).loc main_arg0)) (m ((c : Thread nD τ).loc main_arg1)) (m ((c : Thread nD τ).loc main_arg2)) := by
  funext y
  obtain ⟨b, j, rfl⟩ : ∃ (b : Fin 8) (j : Fin 3360), y = ix2 b j := ⟨y 0, y 1, eq_ix2 y⟩
  rw [ProjTail.shift, ProjRef.shift]
  exact product_at m c _ _ _ _ (by simp only [column, recurrent]; split_ifs <;> omega)

theorem kv128 (c : Dev nD) : StableHlo.after hostOps1 (W m c) (Proc.devRef .tc main_v33)
    = Cert.ProjRefIdeal.Read.val_main_v27 (F := Ideal) (m ((c : Thread nD τ).loc main_arg0)) (m ((c : Thread nD τ).loc main_arg1)) (m ((c : Thread nD τ).loc main_arg2)) := by
  funext y
  obtain ⟨b, k, s, h, d, rfl⟩ : ∃ (b : Fin 8) (k : Fin 2) (s : Fin 128) (h : Fin 16) (d : Fin 64), y = ix5 b k s h d := ⟨y 0, y 1, y 2, y 3, y 4, eq_ix5 y⟩
  rw [ProjTail.kv128, ProjRef.kv128]
  exact product_at m c _ _ _ _ (by rw [later _ (Nat.le_add_right _ _)]; simp only [cached, ProjRef.cached]; omega)

theorem kv512 (c : Dev nD) : StableHlo.after hostOps1 (W m c) (Proc.devRef .tc main_v40)
    = Cert.ProjRefIdeal.Read.val_main_v36 (F := Ideal) (m ((c : Thread nD τ).loc main_arg0)) (m ((c : Thread nD τ).loc main_arg1)) (m ((c : Thread nD τ).loc main_arg2)) := by
  funext y
  obtain ⟨b, k, s, h, d, rfl⟩ : ∃ (b : Fin 8) (k : Fin 2) (s : Fin 512) (h : Fin 16) (d : Fin 64), y = ix5 b k s h d := ⟨y 0, y 1, y 2, y 3, y 4, eq_ix5 y⟩
  rw [ProjTail.kv512, ProjRef.kv512]
  exact product_at m c _ _ _ _ (by rw [later _ (Nat.le_add_right _ _)]; simp only [cached, ProjRef.cached]; omega)

theorem kv2048 (c : Dev nD) : StableHlo.after hostOps1 (W m c) (Proc.devRef .tc main_v47)
    = Cert.ProjRefIdeal.Read.val_main_v45 (F := Ideal) (m ((c : Thread nD τ).loc main_arg0)) (m ((c : Thread nD τ).loc main_arg1)) (m ((c : Thread nD τ).loc main_arg2)) := by
  funext y
  obtain ⟨b, k, s, h, d, rfl⟩ : ∃ (b : Fin 8) (k : Fin 2) (s : Fin 2048) (h : Fin 16) (d : Fin 64), y = ix5 b k s h d := ⟨y 0, y 1, y 2, y 3, y 4, eq_ix5 y⟩
  rw [ProjTail.kv2048, ProjRef.kv2048]
  exact product_at m c _ _ _ _ (by rw [later _ (Nat.le_add_right _ _)]; simp only [cached, ProjRef.cached]; omega)

end Cert.ProjEq

namespace Cert.ProjEq

open Idealize.ShloMosaic Idealize.SL.Sem

/-- From the same arguments the kernel's idealization and the reference end with the same eight arrays. -/
theorem algebraic : Cert.algebraic_ProjIdeal_ProjRefIdeal := by
  intro m ρ m' ρ' _ hagree
  refine ⟨fun c => StableHlo.after Cert.ProjIdeal.Gen.hostOps1 (W m c) (Proc.devRef .tc Cert.ProjIdeal.main_v53),
    fun c => StableHlo.after Cert.ProjIdeal.Gen.hostOps1 (W m c) (Proc.devRef .tc Cert.ProjIdeal.main_v54),
    fun c => StableHlo.after Cert.ProjIdeal.Gen.hostOps1 (W m c) (Proc.devRef .tc Cert.ProjIdeal.main_v55),
    fun c => StableHlo.after Cert.ProjIdeal.Gen.hostOps1 (W m c) (Proc.devRef .tc Cert.ProjIdeal.main_v56),
    fun c => StableHlo.after Cert.ProjIdeal.Gen.hostOps1 (W m c) (Proc.devRef .tc Cert.ProjIdeal.main_v24),
    fun c => StableHlo.after Cert.ProjIdeal.Gen.hostOps1 (W m c) (Proc.devRef .tc Cert.ProjIdeal.main_v33),
    fun c => StableHlo.after Cert.ProjIdeal.Gen.hostOps1 (W m c) (Proc.devRef .tc Cert.ProjIdeal.main_v40),
    fun c => StableHlo.after Cert.ProjIdeal.Gen.hostOps1 (W m c) (Proc.devRef .tc Cert.ProjIdeal.main_v47), ?_, ?_⟩
  · refine (θ_run _ _ _).mono (fun _ h c => ?_) (θ_run_and (Cert.ProjIdeal.Gen.run_main m ρ) (Cert.ProjIdeal.Gen.unchanged m ρ))
    exact ⟨left m _ h.1 c Cert.ProjIdeal.main_v53 (Pipeline.mem_restRefs_of _ (by decide) (by decide)),
      left m _ h.1 c Cert.ProjIdeal.main_v54 (Pipeline.mem_restRefs_of _ (by decide) (by decide)),
      left m _ h.1 c Cert.ProjIdeal.main_v55 (Pipeline.mem_restRefs_of _ (by decide) (by decide)),
      left m _ h.1 c Cert.ProjIdeal.main_v56 (Pipeline.mem_restRefs_of _ (by decide) (by decide)),
      left m _ h.1 c Cert.ProjIdeal.main_v24 (Pipeline.mem_restRefs_of _ (by decide) (by decide)),
      left m _ h.1 c Cert.ProjIdeal.main_v33 (Pipeline.mem_restRefs_of _ (by decide) (by decide)),
      left m _ h.1 c Cert.ProjIdeal.main_v40 (Pipeline.mem_restRefs_of _ (by decide) (by decide)),
      left m _ h.1 c Cert.ProjIdeal.main_v47 (Pipeline.mem_restRefs_of _ (by decide) (by decide)), h.2 c⟩
  · refine (θ_run _ _ _).mono (fun _ h c => ?_) (Cert.ProjRefIdeal.Value.run (F := Ideal) m' ρ')
    obtain rfl : c = 0 := Subsingleton.elim _ _
    obtain ⟨h0, h1, h2, h3, h4, h5, h6, h7, hargs⟩ := h 0
    obtain ⟨a0, a1, a2⟩ := hagree 0
    refine ⟨h0.trans ?_, h1.trans ?_, h2.trans ?_, h3.trans ?_, h4.trans ?_, h5.trans ?_, h6.trans ?_, h7.trans ?_, hargs⟩
    · rw [Cert.ProjRefIdeal.Read.val_main_v14_eq, a0, a1, a2]; exact (recurrence m 0).symm
    · rw [Cert.ProjRefIdeal.Read.val_main_v15_eq, a0, a1, a2]; exact (gated m 0).symm
    · rw [Cert.ProjRefIdeal.Read.val_main_v16_eq, a0, a1, a2]; exact (attention m 0).symm
    · rw [Cert.ProjRefIdeal.Read.val_main_v17_eq, a0, a1, a2]; exact (gate m 0).symm
    · rw [Cert.ProjRefIdeal.Read.val_main_v47_eq, a0, a1, a2]; exact (shift m 0).symm
    · rw [Cert.ProjRefIdeal.Read.val_main_v27_eq, a0, a1, a2]; exact (kv128 m 0).symm
    · rw [Cert.ProjRefIdeal.Read.val_main_v36_eq, a0, a1, a2]; exact (kv512 m 0).symm
    · rw [Cert.ProjRefIdeal.Read.val_main_v45_eq, a0, a1, a2]; exact (kv2048 m 0).symm

end Cert.ProjEq

end
-- ==== Proof.MergeBlock.lean ====
/-
  The gated merge of the three branches and its output projection, one block of rows at a time: what a point stores.
-/
module

public import proofs.«01_k».proof.Proof.Gen.MergeIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.MergeBlock

open Cert.MergeIdeal Cert.MergeIdeal.Gen Idealize.ShloMosaic Idealize.ShloMosaic.TcCoe Idealize.SL.Sem

variable {F : FTy → Type} [FloatOps F]
variable (m : (ℓ : Loc nD τ sig) → Buf (Elt F) ℓ)

/-- What a point stores: from its rows `x0` and the three branches' rows `x1 … x3`, the gates' columns `x4` and
    biases `x5` (three thirds each), the branch weights `x6` and the output weight `x7`. -/
def stored (x0 x1 x2 x3 : Vec F S256x1024 .f32) (x4 : Vec F S256x3072 .f32) (x5 : Vec F S1x3072 .f32)
    (x6 : Vec F S3x1024x1024 .bf16) (x7 : Vec F S1024x1024 .bf16) : FVec F S256x1024 .f32 :=
  k0_pay1
    (k0_pay2 x1 (View.ld x6 (Rect.unit ![0, 0, 0] ![1, 1024, 1024] inb_S3x1024x1024_S1x1024x1024_0_0_0))
      (View.ld x4 (Rect.unit ![0, 0] ![256, 1024] inb_S256x3072_S256x1024_0_0))
      (View.ld x5 (Rect.unit ![0, 0] ![1, 1024] inb_S1x3072_S1x1024_0_0)) x2
      (View.ld x6 (Rect.unit ![1, 0, 0] ![1, 1024, 1024] inb_S3x1024x1024_S1x1024x1024_1_0_0))
      (View.ld x4 (Rect.unit ![0, 1024] ![256, 1024] inb_S256x3072_S256x1024_0_1024))
      (View.ld x5 (Rect.unit ![0, 1024] ![1, 1024] inb_S1x3072_S1x1024_0_1024)))
    (k0_pay3 x3 (View.ld x6 (Rect.unit ![2, 0, 0] ![1, 1024, 1024] inb_S3x1024x1024_S1x1024x1024_2_0_0)))
    (View.ld x4 (Rect.unit ![0, 2048] ![256, 1024] inb_S256x3072_S256x1024_0_2048))
    (View.ld x5 (Rect.unit ![0, 2048] ![1, 1024] inb_S1x3072_S1x1024_0_2048)) x0 x7

theorem out (c : Dev nD) (t : Fin cfg0.N) :
    outsAt0 m c t = stored (iblk m c 0 t) (iblk m c 1 t) (iblk m c 2 t) (iblk m c 3 t) (X0_4 m c t) (iblk m c 5 t)
      (iblk m c 6 t) (iblk m c 7 t) := by
  unfold outsAt0
  frame_out
  rfl

/-- Which block of each array a point works on. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 3]
    ∧ win0_5.index t = ![0, 0] ∧ win0_6.index t = ![0, 0, 0] ∧ win0_7.index t = ![0, 0] ∧ win0_8.index t = ![t.val, 0] :=
  (by decide +kernel : ∀ t : Fin grid0.N, _)

end Cert.MergeBlock

end
-- ==== Proof.MergeEq.lean ====
/-
  The gated merge, as a whole: the reference read at an index, what a point stores read at an index, and the equation of
  every block with the reference's.
-/
module

public import proofs.«01_k».proof.Defs
public import proofs.«01_k».proof.Proof.MergeBlock
public import proofs.«01_k».proof.Proof.Gen.MergeRefIdeal.Read

@[expose] public section

set_option maxRecDepth 16384

noncomputable section

namespace Cert.MergeEq

open Cert.MergeIdeal Cert.MergeIdeal.Gen Idealize.ShloMosaic Idealize.ShloMosaic.TcCoe Idealize.SL.Sem

section Reference
open Cert.MergeRefIdeal.Read

variable (x0 x1 x2 x3 : FVec Ideal ⟨2, ![32768, 1024]⟩ .f32) (x4 : FVec Ideal ⟨2, ![32768, 17920]⟩ .f32)
  (x5 : FVec Ideal ⟨1, ![3072]⟩ .f32) (x6 : FVec Ideal ⟨3, ![3, 1024, 1024]⟩ .f32)
  (x7 : FVec Ideal ⟨2, ![1024, 1024]⟩ .f32)

/-- Branch `n`'s gate at `(r, d)`: the logistic function of its column of the gates' columns, plus its bias. -/
theorem reference_gate (r : Fin 32768) (n : Fin 3) (d : Fin 1024) :
    val_main_v14 (F := Ideal) x4 x5 (ix3 r n d) = Ideal.logistic
      (x4 (ix2 r ⟨9216 + (n.val * 1024 + d.val), by omega⟩) + x5 (ix1 ⟨n.val * 1024 + d.val, by omega⟩)) := by
  pointwise [val_main_v14]
  pointwise [val_main_v13, val_main_v12, val_main_v11, val_main_v10, val_main_v9, val_main_v8,
    val_main_v7, val_main_v6, val_main_v5, val_main_v0, val_main_cst, val_main_cst_0]
  rfl

/-- Branch `n` times its weight, at `(r, d)`. -/
theorem reference_branch (r : Fin 32768) (n : Fin 3) (d : Fin 1024) :
    val_main_v16 (F := Ideal) x1 x2 x3 x6 (ix3 r n d)
      = ∑ k : Fin 1024, (if n.val < 1 then x1 (ix2 r k) else if n.val - 1 < 1 then x2 (ix2 r k) else x3 (ix2 r k))
        * x6 (ix3 n k d) := by
  pointwise [val_main_v16, val_main_v15, val_main_v4, val_main_v3, val_main_v2, val_main_v1]
  exact Finset.sum_congr rfl fun k _ => mul_comm _ _

/-- The gated sum of the three branches at `(r, d)`. -/
theorem reference_mixed (r : Fin 32768) (d : Fin 1024) :
    val_main_v18 (F := Ideal) x1 x2 x3 x4 x5 x6 (ix2 r d)
      = (∑ k : Fin 1024, x1 (ix2 r k) * x6 (ix3 0 k d))
          * Ideal.logistic (x4 (ix2 r ⟨9216 + (d.val), by omega⟩) + x5 (ix1 ⟨d.val, by omega⟩))
        + (∑ k : Fin 1024, x2 (ix2 r k) * x6 (ix3 1 k d))
          * Ideal.logistic (x4 (ix2 r ⟨9216 + (1024 + d.val), by omega⟩) + x5 (ix1 ⟨1024 + d.val, by omega⟩))
        + (∑ k : Fin 1024, x3 (ix2 r k) * x6 (ix3 2 k d))
          * Ideal.logistic (x4 (ix2 r ⟨9216 + (2048 + d.val), by omega⟩) + x5 (ix1 ⟨2048 + d.val, by omega⟩)) := by
  pointwise [val_main_v18, val_main_v17, val_main_cst_1]
  rw [Fin.sum_univ_three]
  simp only [reference_branch, reference_gate]
  have e0 : (0 : Fin 3).val * 1024 = 0 := rfl
  have e1 : (1 : Fin 3).val * 1024 = 1024 := rfl
  have e2 : (2 : Fin 3).val * 1024 = 2048 := rfl
  simp only [e0, e1, e2, Nat.zero_add]
  rfl

theorem reference (r : Fin 32768) (j : Fin 1024) :
    val_main_v20 (F := Ideal) x0 x1 x2 x3 x4 x5 x6 x7 (ix2 r j)
      = x0 (ix2 r j) + ∑ d : Fin 1024, val_main_v18 (F := Ideal) x1 x2 x3 x4 x5 x6 (ix2 r d) * x7 (ix2 d j) := by
  pointwise [val_main_v20, val_main_v19]

end Reference

theorem kernel (x0 x1 x2 x3 : Vec Ideal S256x1024 .f32) (x4 : Vec Ideal S256x3072 .f32) (x5 : Vec Ideal S1x3072 .f32)
    (x6 : Vec Ideal S3x1024x1024 .bf16) (x7 : Vec Ideal S1024x1024 .bf16) (r : Fin 256) (j : Fin 1024) :
    MergeBlock.stored (F := Ideal) x0 x1 x2 x3 x4 x5 x6 x7 (ix2 r j) = x0 (ix2 r j) + ∑ d : Fin 1024,
      ((∑ k : Fin 1024, x1 (ix2 r k) * x6 (ix3 0 k d))
          * Ideal.logistic (x4 (ix2 r ⟨d.val, by omega⟩) + x5 (ix2 0 ⟨d.val, by omega⟩))
        + (∑ k : Fin 1024, x2 (ix2 r k) * x6 (ix3 1 k d))
          * Ideal.logistic (x4 (ix2 r ⟨1024 + d.val, by omega⟩) + x5 (ix2 0 ⟨1024 + d.val, by omega⟩))
        + (∑ k : Fin 1024, x3 (ix2 r k) * x6 (ix3 2 k d))
          * Ideal.logistic (x4 (ix2 r ⟨2048 + d.val, by omega⟩) + x5 (ix2 0 ⟨2048 + d.val, by omega⟩)))
      * x7 (ix2 d j) := by
  unfold MergeBlock.stored
  unfold_payloads
  pointwise

variable (m : (ℓ : Loc nD τ sig) → Buf (Elt Ideal) ℓ)

/-- The merge of the launch's own arguments. -/
abbrev result (c : Dev nD) : Buf (Elt Ideal) ((c : Thread nD τ).loc main_v3) :=
  Cert.MergeRefIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

section Reads
variable (c : Dev nD) (t : Fin cfg0.N) (r : Fin 256) (k : Fin 1024) (h : 256 * t.val + r.val < 32768)

theorem rows_read : iblk m c 0 t (ix2 r k) = m ((c : Thread nD τ).loc main_arg0) (ix2 ⟨256 * t.val + r.val, h⟩ k) := by
  obtain ⟨e0, e1, e2, e3, e4, e5, e6, e7, e8⟩ := MergeBlock.idx t
  blk_ext [iblk, V, e0]

theorem first_read : iblk m c 1 t (ix2 r k) = m ((c : Thread nD τ).loc main_arg1) (ix2 ⟨256 * t.val + r.val, h⟩ k) := by
  obtain ⟨e0, e1, e2, e3, e4, e5, e6, e7, e8⟩ := MergeBlock.idx t
  blk_ext [iblk, V, e1]

theorem second_read : iblk m c 2 t (ix2 r k) = m ((c : Thread nD τ).loc main_arg2) (ix2 ⟨256 * t.val + r.val, h⟩ k) := by
  obtain ⟨e0, e1, e2, e3, e4, e5, e6, e7, e8⟩ := MergeBlock.idx t
  blk_ext [iblk, V, e2]

theorem third_read : iblk m c 3 t (ix2 r k) = m ((c : Thread nD τ).loc main_arg3) (ix2 ⟨256 * t.val + r.val, h⟩ k) := by
  obtain ⟨e0, e1, e2, e3, e4, e5, e6, e7, e8⟩ := MergeBlock.idx t
  blk_ext [iblk, V, e3]

theorem gates_read (q : Fin 3072) :
    X0_4 m c t (ix2 r q) = m ((c : Thread nD τ).loc main_arg4) (ix2 ⟨256 * t.val + r.val, h⟩ ⟨9216 + q.val, by omega⟩) := by
  obtain ⟨e0, e1, e2, e3, e4, e5, e6, e7, e8⟩ := MergeBlock.idx t
  unfold X0_4 Pipeline.Window.fill
  rw [dif_pos (moved0_4 t _)]
  blk_ext [iblk, V, e4]

theorem bias_read (q : Fin 3072) : iblk m c 5 t (ix2 0 q) = m ((c : Thread nD τ).loc main_arg5) (ix1 q) := by
  obtain ⟨e0, e1, e2, e3, e4, e5, e6, e7, e8⟩ := MergeBlock.idx t
  blk_point [iblk, V, e5]

theorem branch_read (n : Fin 3) (j : Fin 1024) :
    iblk m c 6 t (ix3 n k j) = m ((c : Thread nD τ).loc main_arg6) (ix3 n k j) := by
  obtain ⟨e0, e1, e2, e3, e4, e5, e6, e7, e8⟩ := MergeBlock.idx t
  blk_point [iblk, V, e6]

theorem weight_read (j : Fin 1024) : iblk m c 7 t (ix2 k j) = m ((c : Thread nD τ).loc main_arg7) (ix2 k j) := by
  obtain ⟨e0, e1, e2, e3, e4, e5, e6, e7, e8⟩ := MergeBlock.idx t
  blk_point [iblk, V, e7]

theorem place : ((cfg0.win 8).blk t).view.emb (ix2 r k) = (ix2 ⟨256 * t.val + r.val, h⟩ k : S32768x1024.Idx) := by
  obtain ⟨e0, e1, e2, e3, e4, e5, e6, e7, e8⟩ := MergeBlock.idx t
  blk_ext [e8]

end Reads

theorem block (c : Dev nD) (t : Fin cfg0.N) (y : S256x1024.Idx) :
    outsAt0 m c t y = result m c (((cfg0.win 8).blk t).view.emb y) := by
  obtain ⟨r, j, rfl⟩ : ∃ (r : Fin 256) (j : Fin 1024), y = ix2 r j := ⟨y 0, y 1, eq_ix2 y⟩
  have ht : t.val < 128 := lt_of_lt_of_eq t.isLt N_0
  have h : 256 * t.val + r.val < 32768 := by omega
  rw [place t r j h, result, reference, MergeBlock.out, kernel]
  simp only [reference_mixed, rows_read m c t _ _ h, first_read m c t _ _ h, second_read m c t _ _ h,
    third_read m c t _ _ h, gates_read m c t _ h, bias_read, branch_read, weight_read]

/-- After the run the result array holds the merge: the blocks tile it, and each is the reference's. -/
theorem array (c : Dev nD) : (dats m 0 c).arrAt 8 cfg0.N = result m c :=
  (dats m 0 c).arrAt_eq_of_covers 8 _ (by decide +kernel) fun t hf y => by
    show (dats m 0 c).flushed 8 t y = _
    rw [Cert.MergeIdeal.Value.flushed8]
    exact block m c t y

end Cert.MergeEq

namespace Cert.MergeEq

open Idealize.ShloMosaic Idealize.SL.Sem

/-- The kernel and the reference end with the same result, at exact arithmetic. -/
theorem algebraic : Cert.algebraic_MergeIdeal_MergeRefIdeal := by
  intro m ρ m' ρ' _ hagree
  refine ⟨fun c => result m c, ?_, ?_⟩
  · refine (θ_run _ _ _).mono (fun _ h c => ?_) (Cert.MergeIdeal.Value.run_blocks m ρ)
    exact ⟨(h c).1.trans (array m c), (h c).2⟩
  · refine (θ_run _ _ _).mono (fun _ h c => ?_) (Cert.MergeRefIdeal.Value.run (F := Ideal) m' ρ')
    obtain rfl : c = 0 := Subsingleton.elim _ _
    refine ⟨(h 0).1.trans ?_, (h 0).2⟩
    rw [Cert.MergeRefIdeal.Read.val_main_v20_eq, (hagree 0).1, (hagree 0).2.1, (hagree 0).2.2.1, (hagree 0).2.2.2.1,
      (hagree 0).2.2.2.2.1, (hagree 0).2.2.2.2.2.1, (hagree 0).2.2.2.2.2.2.1, (hagree 0).2.2.2.2.2.2.2]

end Cert.MergeEq

end
-- ==== Proof.MlpBlock.lean ====
/-
  The feed-forward layer (RMS norm, squared-relu of one product, a second product, the residual, the final RMS norm),
  one block of rows at a time, its hidden columns in four parts: what each point leaves in the kept normalised rows, in
  the running sum and in the result's block.
-/
module

public import proofs.«01_k».proof.Proof.Gen.MlpIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.MlpBlock

open Cert.MlpIdeal Cert.MlpIdeal.Gen Idealize.ShloMosaic Idealize.ShloMosaic.TcCoe Idealize.SL.Sem

variable {F : FTy → Type} [FloatOps F]
variable (m : (ℓ : Loc nD τ sig) → Buf (Elt F) ℓ)

/-- The first part of a row block keeps the normalised rows. -/
theorem first_kept (c : Dev nD) (t : Fin cfg0.N) (h0 : t.val % 4 = 0) :
    (outsAt0 m c t.val t.isLt).2.1 = k0_pay1 (iblk m c 0 t) (iblk m c 1 t) := by
  rw [outsAt0_A m c t h0 (by omega)]
  frame_out

/-- … and starts the running sum at its own contribution. -/
theorem first_sum (c : Dev nD) (t : Fin cfg0.N) (h0 : t.val % 4 = 0) :
    (outsAt0 m c t.val t.isLt).2.2
      = k0_pay3 (k0_pay1 (iblk m c 0 t) (iblk m c 1 t)) (iblk m c 2 t) (k0_pay2 (F := F)) (iblk m c 3 t) := by
  rw [outsAt0_A m c t h0 (by omega)]
  frame_out

/-- The later parts leave the kept rows as they were. -/
theorem later_kept (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]
    rfl
  · rw [outsAt0_B m c t h0 h1]
    rfl

/-- … and add their contribution, computed from the kept rows, to the running sum. -/
theorem later_sum (c : Dev nD) (t : Fin cfg0.N) (h0 : ¬t.val % 4 = 0) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  by_cases h1 : t.val % 4 = 3
  · rw [outsAt0_C m c t h0 h1]
    frame_out
    simp only [read_unread_whole]
  · rw [outsAt0_B m c t h0 h1]
    frame_out
    simp only [read_unread_whole]

/-- The last part stores the residual plus the running sum, normalised. -/
theorem last_out (c : Dev nD) (t : Fin cfg0.N) (h1 : t.val % 4 = 3) :
    (outsAt0 m c t.val t.isLt).1 = k0_pay4 (iblk m c 0 t) (outsAt0 m c t.val t.isLt).2.2 (iblk m c 4 t) := by
  rw [later_sum m c t (by omega), outsAt0_C m c t (by omega) h1]
  frame_out
  simp only [read_unread_whole]

/-- Which block of each array a point works on. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- Within a row block the rows read are the same ones. -/
theorem rows_same (c : Dev nD) (t u : Fin cfg0.N) (h : t.val / 4 = u.val / 4) :
    (iblk m c 0 t : Vec F S512x1024 .f32) = iblk m c 0 u := by
  have et := (idx t).1
  have eu := (idx u).1
  funext y
  blk_ext [iblk, V, et, eu, h]

/-- … and the scale of the norm is the same everywhere. -/
theorem scale_same (c : Dev nD) (t u : Fin cfg0.N) :
    (iblk m c 1 t : Vec F S1x1024 .f32) = iblk m c 1 u := by
  have et := (idx t).2.1
  have eu := (idx u).2.1
  funext y
  blk_ext [iblk, V, et, eu]

/-- So at every point the kept rows are the normalised rows of the point's own row block. -/
theorem kept (c : Dev nD) : ∀ (n : ℕ) (h : n < cfg0.N),
    (outsAt0 m c n h).2.1 = k0_pay1 (iblk m c 0 ⟨n, h⟩) (iblk m c 1 ⟨n, h⟩) := by
  intro n
  induction n with
  | zero => exact fun h => first_kept m c ⟨0, h⟩ rfl
  | succ n ih =>
    intro h
    by_cases h0 : (n + 1) % 4 = 0
    · exact first_kept m c ⟨n + 1, h⟩ h0
    · have e := later_kept m c ⟨n + 1, h⟩ h0
      simp only [Nat.add_sub_cancel] at e
      rw [e, ih, rows_same m c ⟨n, _⟩ ⟨n + 1, h⟩ (by show n / 4 = (n + 1) / 4; omega),
        scale_same m c ⟨n, _⟩ ⟨n + 1, h⟩]

end Cert.MlpBlock

end
-- ==== Proof.MlpEq.lean ====
/-
  The feed-forward layer, as a whole: the reference read at an index, what each part adds to the running sum, and the
  equation of every block with the reference's.
-/
module

public import proofs.«01_k».proof.Defs
public import proofs.«01_k».proof.Proof.MlpBlock
public import proofs.«01_k».proof.Proof.Gen.MlpRefIdeal.Read

@[expose] public section

set_option maxRecDepth 16384

noncomputable section

namespace Cert.MlpEq

open Cert.MlpIdeal Cert.MlpIdeal.Gen Idealize.ShloMosaic Idealize.ShloMosaic.TcCoe Idealize.SL.Sem

/-- Entry `k` of the row `x`, divided by the row's root mean square and scaled by `g`. -/
def normed (x g : Fin 1024 → Ideal .f32) (k : Fin 1024) : Ideal .f32 :=
  x k * Ideal.rsqrt (Ideal.div (∑ l : Fin 1024, x l * x l) (Ideal.ofBits .f32 0x44800000#32)
    + Ideal.ofBits .f32 0x358637BD#32) * g k

/-- One hidden entry: the positive part of the product of a normalised row with one column, squared. -/
def hidden (n w : Fin 1024 → Ideal .f32) : Ideal .f32 :=
  max (∑ k : Fin 1024, n k * w k) 0 * max (∑ k : Fin 1024, n k * w k) 0

section Reference
open Cert.MlpRefIdeal.Read

variable (x : FVec Ideal ⟨2, ![32768, 1024]⟩ .f32) (g : FVec Ideal ⟨1, ![1024]⟩ .f32)
  (wu : FVec Ideal ⟨2, ![1024, 4096]⟩ .f32) (wd : FVec Ideal ⟨2, ![4096, 1024]⟩ .f32) (gf : FVec Ideal ⟨1, ![1024]⟩ .f32)

theorem reference_normed (r : Fin 32768) (k : Fin 1024) :
    val_main_v12 (F := Ideal) x g (ix2 r k) = normed (fun l => x (ix2 r l)) (fun l => g (ix1 l)) k := by
  rw [normed]
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]

theorem reference_hidden (r : Fin 32768) (l : Fin 4096) :
    val_main_v15 (F := Ideal) x g wu (ix2 r l)
      = hidden (normed (fun k => x (ix2 r k)) (fun k => g (ix1 k))) (fun k => wu (ix2 k l)) := by
  rw [hidden]
  pointwise [val_main_v15, val_main_v14, val_main_call0_v0, val_main_call0_cst, val_main_v13]
  simp only [reference_normed]

theorem reference_sum (r : Fin 32768) (j : Fin 1024) :
    val_main_v17 (F := Ideal) x g wu wd (ix2 r j)
      = x (ix2 r j) + ∑ l : Fin 4096, val_main_v15 (F := Ideal) x g wu (ix2 r l) * wd (ix2 l j) := by
  pointwise [val_main_v17, val_main_v16]

theorem reference (r : Fin 32768) (j : Fin 1024) :
    val_main_v30 (F := Ideal) x g wu wd gf (ix2 r j)
      = normed (fun l => val_main_v17 (F := Ideal) x g wu wd (ix2 r l)) (fun l => gf (ix1 l)) j := by
  rw [normed]
  pointwise [val_main_v30, val_main_v29, val_main_v28, val_main_v27, val_main_v26, val_main_v25, val_main_v24,
    val_main_v23, val_main_v22, val_main_v21, val_main_v20, val_main_v19, val_main_v18, val_main_cst_2, val_main_cst_3,
    val_main_cst_4]

end Reference

theorem kernel_normed (x : FVec Ideal S512x1024 .f32) (g : FVec Ideal S1x1024 .f32) (r : Fin 512) (k : Fin 1024) :
    k0_pay1 (F := Ideal) x g (ix2 r k) = normed (fun l => x (ix2 r l)) (fun l => g (ix2 0 l)) k := by
  rw [normed]
  unfold_payloads
  pointwise

theorem kernel_out (x acc : FVec Ideal S512x1024 .f32) (g : FVec Ideal S1x1024 .f32) (r : Fin 512) (k : Fin 1024) :
    k0_pay4 x acc g (ix2 r k) = normed (fun l => x (ix2 r l) + acc (ix2 r l)) (fun l => g (ix2 0 l)) k := by
  rw [normed]
  unfold_payloads
  pointwise

/-- One part adds, at `(r, k)`, its own hidden entries times the second weight. -/
theorem kernel_part (xn : FVec Ideal S512x1024 .bf16) (wu : FVec Ideal S1024x1024 .bf16) (acc : FVec Ideal S512x1024 .f32)
    (wd : FVec Ideal S1024x1024 .bf16) (r : Fin 512) (k : Fin 1024) :
    k0_pay3 (F := Ideal) xn wu acc wd (ix2 r k) = acc (ix2 r k)
      + ∑ l : Fin 1024, hidden (fun i => xn (ix2 r i)) (fun i => wu (ix2 i l)) * wd (ix2 l k) := by
  simp only [hidden]
  unfold_payloads
  pointwise

theorem kernel_zero (r : Fin 512) (k : Fin 1024) : k0_pay2 (F := Ideal) (ix2 r k) = 0 := by
  unfold_payloads
  pointwise

variable (m : (ℓ : Loc nD τ sig) → Buf (Elt Ideal) ℓ)

/-- The layer of the launch's own arguments. -/
abbrev result (c : Dev nD) : Buf (Elt Ideal) ((c : Thread nD τ).loc main_v4) :=
  Cert.MlpRefIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem rows_read (c : Dev nD) (t : Fin cfg0.N) (r : Fin 512) (k : Fin 1024) (h : 512 * (t.val / 4) + r.val < 32768) :
    iblk m c 0 t (ix2 r k) = m ((c : Thread nD τ).loc main_arg0) (ix2 ⟨512 * (t.val / 4) + r.val, h⟩ k) := by
  obtain ⟨e0, e1, e2, e3, e4, e5⟩ := MlpBlock.idx t
  blk_ext [iblk, V, e0]

theorem scale_read (c : Dev nD) (t : Fin cfg0.N) (k : Fin 1024) :
    iblk m c 1 t (ix2 0 k) = m ((c : Thread nD τ).loc main_arg1) (ix1 k) := by
  obtain ⟨e0, e1, e2, e3, e4, e5⟩ := MlpBlock.idx t
  blk_point [iblk, V, e1]

theorem up_read (c : Dev nD) (t : Fin cfg0.N) (k : Fin 1024) (l : Fin 1024) (h : t.val % 4 * 1024 + l.val < 4096) :
    iblk m c 2 t (ix2 k l) = m ((c : Thread nD τ).loc main_arg2) (ix2 k ⟨t.val % 4 * 1024 + l.val, h⟩) := by
  obtain ⟨e0, e1, e2, e3, e4, e5⟩ := MlpBlock.idx t
  blk_point [iblk, V, e2]

theorem down_read (c : Dev nD) (t : Fin cfg0.N) (l : Fin 1024) (j : Fin 1024) (h : t.val % 4 * 1024 + l.val < 4096) :
    iblk m c 3 t (ix2 l j) = m ((c : Thread nD τ).loc main_arg3) (ix2 ⟨t.val % 4 * 1024 + l.val, h⟩ j) := by
  obtain ⟨e0, e1, e2, e3, e4, e5⟩ := MlpBlock.idx t
  blk_point [iblk, V, e3]

theorem final_read (c : Dev nD) (t : Fin cfg0.N) (k : Fin 1024) :
    iblk m c 4 t (ix2 0 k) = m ((c : Thread nD τ).loc main_arg4) (ix1 k) := by
  obtain ⟨e0, e1, e2, e3, e4, e5⟩ := MlpBlock.idx t
  blk_point [iblk, V, e4]

theorem place (t : Fin cfg0.N) (r : Fin 512) (j : Fin 1024) (h : 512 * (t.val / 4) + r.val < 32768) :
    ((cfg0.win 5).blk t).view.emb (ix2 r j) = (ix2 ⟨512 * (t.val / 4) + r.val, h⟩ j : S32768x1024.Idx) := by
  obtain ⟨e0, e1, e2, e3, e4, e5⟩ := MlpBlock.idx t
  blk_ext [e5]

/-- What the part of point `t` adds to the running sum. -/
def part (c : Dev nD) (t : Fin cfg0.N) (y : S512x1024.Idx) : Ideal .f32 :=
  ∑ l : Fin 1024, hidden (normed (fun i => iblk m c 0 t (ix2 (y 0) i)) (fun i => iblk m c 1 t (ix2 0 i)))
    (fun i => iblk m c 2 t (ix2 i l)) * iblk m c 3 t (ix2 l (y 1))

theorem part_first (c : Dev nD) (t : Fin cfg0.N) (h0 : t.val % 4 = 0) (y : S512x1024.Idx) :
    (outsAt0 m c t.val t.isLt).2.2 y = 0 + part m c t y := by
  obtain ⟨r, j, rfl⟩ : ∃ (r : Fin 512) (j : Fin 1024), y = ix2 r j := ⟨y 0, y 1, eq_ix2 y⟩
  rw [MlpBlock.first_sum m c t h0, kernel_part, kernel_zero]
  simp only [kernel_normed]
  rfl

theorem part_later (c : Dev nD) (t : Fin cfg0.N) (h0 : ¬t.val % 4 = 0) (y : S512x1024.Idx) :
    (outsAt0 m c t.val t.isLt).2.2 y
      = (outsAt0 m c (t.val - 1) (Nat.lt_of_le_of_lt (Nat.sub_le _ _) t.isLt)).2.2 y + part m c t y := by
  obtain ⟨r, j, rfl⟩ : ∃ (r : Fin 512) (j : Fin 1024), y = ix2 r j := ⟨y 0, y 1, eq_ix2 y⟩
  rw [MlpBlock.later_sum m c t h0, kernel_part, ← MlpBlock.later_kept m c t h0, MlpBlock.kept]
  simp only [kernel_normed]
  rfl

/-- At the last part of a row block the running sum is the whole second product. -/
theorem whole_sum (c : Dev nD) (t : Fin cfg0.N) (h1 : t.val % 4 = 3) (r : Fin 512) (j : Fin 1024)
    (h : 512 * (t.val / 4) + r.val < 32768) :
    (outsAt0 m c t.val t.isLt).2.2 (ix2 r j)
      = ∑ l : Fin 4096, Cert.MlpRefIdeal.Read.val_main_v15 (F := Ideal) (m ((c : Thread nD τ).loc main_arg0))
          (m ((c : Thread nD τ).loc main_arg1)) (m ((c : Thread nD τ).loc main_arg2)) (ix2 ⟨512 * (t.val / 4) + r.val, h⟩ l)
        * m ((c : Thread nD τ).loc main_arg3) (ix2 l j) := by
  rw [Pipeline.eq_sum_fin_of_reset_step_apply_of_flush (fun n h => (outsAt0 m c n h).2.2) 4 (fun _ => 0) (part m c)
    (part_first m c) (part_later m c) t h1 (ix2 r j), zero_add]
  simp only [part]
  refine Fin.sum_mul_add_congr fun s k hl => ?_
  have hs := s.isLt
  have hd : (4 * (t.val / 4) + s.val) / 4 = t.val / 4 := by omega
  have hm : (4 * (t.val / 4) + s.val) % 4 = s.val := by omega
  rw [reference_hidden]
  have hu := fun i => up_read m c ⟨4 * (t.val / 4) + s.val, Pipeline.run_point_lt_of_flush t h1 s⟩ i k (by simp only [hm]; exact hl)
  have hw := down_read m c ⟨4 * (t.val / 4) + s.val, Pipeline.run_point_lt_of_flush t h1 s⟩ k j (by simp only [hm]; exact hl)
  have hx := fun i => rows_read m c ⟨4 * (t.val / 4) + s.val, Pipeline.run_point_lt_of_flush t h1 s⟩ r i (by simp only [hd]; exact h)
  simp only [hm, hd] at hu hw hx
  simp only [ix2_0, ix2_1, hu, hw, hx, scale_read]

theorem block (c : Dev nD) (t : Fin cfg0.N) (h1 : t.val % 4 = 3) (y : S512x1024.Idx) :
    k0_pay4 (iblk m c 0 t) (outsAt0 m c t.val t.isLt).2.2 (iblk m c 4 t) y
      = result m c (((cfg0.win 5).blk t).view.emb y) := by
  obtain ⟨r, j, rfl⟩ : ∃ (r : Fin 512) (j : Fin 1024), y = ix2 r j := ⟨y 0, y 1, eq_ix2 y⟩
  have ht : t.val < 256 := lt_of_lt_of_eq t.isLt N_0
  have h : 512 * (t.val / 4) + r.val < 32768 := by omega
  rw [place t r j h, result, reference, kernel_out]
  simp only [reference_sum, rows_read m c t _ _ h, final_read, whole_sum m c t h1 _ _ h]

/-- After the run the result array holds the layer: the blocks tile it, and each is the reference's. -/
theorem array (c : Dev nD) : (dats m 0 c).arrAt 5 cfg0.N = result m c :=
  (dats m 0 c).arrAt_eq_of_cover 5 _ (fun t hf => by
    have h1 := (flush0_5 t).mp hf
    rw [Cert.MlpIdeal.Value.flushed5, MlpBlock.last_out m c t h1]
    exact funext fun y => block m c t h1 y) (fun i => (Cert.MlpIdeal.Value.covered_iff5 i).2 (by
      have h0 : (i 0).val < 32768 := (i 0).isLt
      have h1 : (i 1).val < 1024 := (i 1).isLt
      omega))

end Cert.MlpEq

namespace Cert.MlpEq

open Idealize.ShloMosaic Idealize.SL.Sem

/-- The kernel and the reference end with the same result, at exact arithmetic. -/
theorem algebraic : Cert.algebraic_MlpIdeal_MlpRefIdeal := by
  intro m ρ m' ρ' _ hagree
  refine ⟨fun c => result m c, ?_, ?_⟩
  · refine (θ_run _ _ _).mono (fun _ h c => ?_) (Cert.MlpIdeal.Value.run_blocks m ρ)
    exact ⟨(h c).1.trans (array m c), (h c).2⟩
  · refine (θ_run _ _ _).mono (fun _ h c => ?_) (Cert.MlpRefIdeal.Value.run (F := Ideal) m' ρ')
    obtain rfl : c = 0 := Subsingleton.elim _ _
    refine ⟨(h 0).1.trans ?_, (h 0).2⟩
    rw [Cert.MlpRefIdeal.Read.val_main_v30_eq, (hagree 0).1, (hagree 0).2.1, (hagree 0).2.2.1, (hagree 0).2.2.2.1,
      (hagree 0).2.2.2.2]

end Cert.MlpEq

end
-- ==== Proof.GmlpSampleBlock.lean ====
/-
  The spatial gating unit of the sample group, one sequence of 8 rows at a time: what a point stores, the eight groups of
  128 columns side by side, and the normalised rows.
-/
module

public import proofs.«01_k».proof.Proof.Gen.GmlpSampleIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.GmlpSampleBlock

open Cert.GmlpSampleIdeal Cert.GmlpSampleIdeal.Gen Idealize.ShloMosaic Idealize.ShloMosaic.TcCoe Idealize.SL.Sem

variable {F : FTy → Type} [FloatOps F]
variable (m : (ℓ : Loc nD τ sig) → Buf (Elt F) ℓ)

/-- What a point stores, from the two halves `u` and `v` of its rows, the groups' weights `x3` and their biases `x4`. -/
def stored (u v : FVec F S8x1024 .f32) (x3 : Vec F S8x8x8 .f32) (x4 : Vec F S8x1024 .f32) :
    Vec F S1x8x1024 .f32 :=
  View.canon
    [⟨Rect.unit ![0, 0, 896] ![1, 8, 128] inb_S1x8x1024_S1x8x128_0_0_896,
        k0_pay2 u v k0_pay7
          (View.ld x3 (Rect.unit ![7, 0, 0] ![1, 8, 8] inb_S8x8x8_S1x8x8_7_0_0))
          (View.ld x4 (Rect.unit ![0, 896] ![8, 128] inb_S8x1024_S8x128_0_896))⟩,
     ⟨Rect.unit ![0, 0, 768] ![1, 8, 128] inb_S1x8x1024_S1x8x128_0_0_768,
        k0_pay1
          (k0_pay16 v k0_pay7 (View.ld x3 (Rect.unit ![6, 0, 0] ![1, 8, 8] inb_S8x8x8_S1x8x8_6_0_0)))
          (k0_pay17 u) (View.ld x4 (Rect.unit ![0, 768] ![8, 128] inb_S8x1024_S8x128_0_768))⟩,
     ⟨Rect.unit ![0, 0, 640] ![1, 8, 128] inb_S1x8x1024_S1x8x128_0_0_640,
        k0_pay15 u v k0_pay7
          (View.ld x3 (Rect.unit ![5, 0, 0] ![1, 8, 8] inb_S8x8x8_S1x8x8_5_0_0))
          (View.ld x4 (Rect.unit ![0, 640] ![8, 128] inb_S8x1024_S8x128_0_640))⟩,
     ⟨Rect.unit ![0, 0, 512] ![1, 8, 128] inb_S1x8x1024_S1x8x128_0_0_512,
        k0_pay14 u
          (k0_pay12 k0_pay7 (View.ld x3 (Rect.unit ![4, 0, 0] ![1, 8, 8] inb_S8x8x8_S1x8x8_4_0_0)))
          (k0_pay13 v) (View.ld x4 (Rect.unit ![0, 512] ![8, 128] inb_S8x1024_S8x128_0_512))⟩,
     ⟨Rect.unit ![0, 0, 384] ![1, 8, 128] inb_S1x8x1024_S1x8x128_0_0_384,
        k0_pay11 u v k0_pay7
          (View.ld x3 (Rect.unit ![3, 0, 0] ![1, 8, 8] inb_S8x8x8_S1x8x8_3_0_0))
          (View.ld x4 (Rect.unit ![0, 384] ![8, 128] inb_S8x1024_S8x128_0_384))⟩,
     ⟨Rect.unit ![0, 0, 256] ![1, 8, 128] inb_S1x8x1024_S1x8x128_0_0_256,
        k0_pay10 u v k0_pay7
          (View.ld x3 (Rect.unit ![2, 0, 0] ![1, 8, 8] inb_S8x8x8_S1x8x8_2_0_0))
          (View.ld x4 (Rect.unit ![0, 256] ![8, 128] inb_S8x1024_S8x128_0_256))⟩,
     ⟨Rect.unit ![0, 0, 128] ![1, 8, 128] inb_S1x8x1024_S1x8x128_0_0_128,
        k0_pay9 u v
          (View.ld x3 (Rect.unit ![1, 0, 0] ![1, 8, 8] inb_S8x8x8_S1x8x8_1_0_0))
          (View.ld x4 (Rect.unit ![0, 128] ![8, 128] inb_S8x1024_S8x128_0_128))⟩,
     ⟨Rect.unit ![0, 0, 0] ![1, 8, 128] inb_S1x8x1024_S1x8x128_0_0_0,
        k0_pay8 u v
          (View.ld x3 (Rect.unit ![0, 0, 0] ![1, 8, 8] inb_S8x8x8_S1x8x8_0_0_0))
          (View.ld x4 (Rect.unit ![0, 0] ![8, 128] inb_S8x1024_S8x128_0_0))⟩]

theorem out (c : Dev nD) (t : Fin cfg0.N) :
    (outsAt0 m c t).1 = stored (k0_pay4 (X0_0 m c t)) (k0_pay5 (X0_0 m c t) (iblk m c 1 t) (iblk m c 2 t))
      (iblk m c 3 t) (iblk m c 4 t) := by
  unfold outsAt0
  dsimp only
  frame_out

theorem rows (c : Dev nD) (t : Fin cfg0.N) :
    (outsAt0 m c t).2 = k0_pay6 (X0_0 m c t) (iblk m c 1 t) (iblk m c 2 t) := by
  unfold outsAt0
  dsimp only
  frame_out

/-- Which block of each array a point works on. -/
theorem idx : ∀ t : Fin cfg0.N, win0_0.index t = ![t.val, 0, 6] ∧ win0_1.index t = ![0, 0]
    ∧ win0_2.index t = ![0, 0] ∧ win0_3.index t = ![0, 0, 0] ∧ win0_4.index t = ![0, 0]
    ∧ win0_5.index t = ![t.val, 0, 0] ∧ win0_6.index t = ![t.val, 0, 0] :=
  (by decide +kernel : ∀ t : Fin grid0.N, _)

end Cert.GmlpSampleBlock

end
-- ==== Proof.GmlpSampleEq.lean ====
/-
  The spatial gating unit of the sample group, as a whole: the reference read at an index, what a point stores read at an
  index, and the equation of every block of the two results with the reference's.
-/
module

public import proofs.«01_k».proof.Defs
public import proofs.«01_k».proof.Proof.GmlpEq
public import proofs.«01_k».proof.Proof.GmlpSampleBlock
public import proofs.«01_k».proof.Proof.Gen.GmlpSampleRefIdeal.Read

@[expose] public section

set_option maxRecDepth 16384

noncomputable section

namespace Cert.GmlpSampleEq

open Cert.GmlpSampleIdeal Cert.GmlpSampleIdeal.Gen Idealize.ShloMosaic Idealize.ShloMosaic.TcCoe Idealize.SL.Sem

open Cert.GmlpEq (gelu mean normed masked)

/-- Whether column `l` is at or before row `r`, as the comparison of the two numbers. -/
def causal (r l : Fin 8) : BitVec 1 := IntOp.cmpi CmpIPredicate.sge (BitVec.ofNat 32 r.val) (BitVec.ofNat 32 l.val)

section Reference
open Cert.GmlpSampleRefIdeal.Read

variable (x0 : FVec Ideal ⟨3, ![32, 8, 17920]⟩ .f32) (x1 x2 : FVec Ideal ⟨1, ![1024]⟩ .f32)
  (x3 : FVec Ideal ⟨3, ![8, 128, 128]⟩ .f32) (x4 : FVec Ideal ⟨2, ![8, 128]⟩ .f32)

theorem reference_gelu (b : Fin 32) (r : Fin 8) (q : Fin 2048) :
    val_main_v8 (F := Ideal) x0 (ix3 b r q) = gelu (x0 (ix3 b r ⟨12288 + q.val, by omega⟩)) := by
  rw [gelu]
  pointwise [val_main_v8, val_main_v7, val_main_v6, val_main_v5, val_main_v4, val_main_v3, val_main_v2,
    val_main_v1, val_main_v0, val_main_cst, val_main_cst_0, val_main_cst_1]

theorem reference_u (b : Fin 32) (r : Fin 8) (k : Fin 1024) :
    val_main_v9 (F := Ideal) x0 (ix3 b r k) = gelu (x0 (ix3 b r ⟨12288 + k.val, by omega⟩)) := by
  pointwise [val_main_v9]
  rw [reference_gelu]

theorem reference_v (b : Fin 32) (r : Fin 8) (k : Fin 1024) :
    val_main_v10 (F := Ideal) x0 (ix3 b r k) = gelu (x0 (ix3 b r ⟨12288 + (1024 + k.val), by omega⟩)) := by
  pointwise [val_main_v10]
  rw [reference_gelu]

theorem reference_normed (b : Fin 32) (r : Fin 8) (k : Fin 1024) :
    val_main_v32 (F := Ideal) x0 x1 x2 (ix3 b r k) = normed (fun l => val_main_v10 (F := Ideal) x0 (ix3 b r l))
      (fun l => x1 (ix1 l)) (fun l => x2 (ix1 l)) k := by
  simp only [normed, mean]
  pointwise [val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11,
    val_main_cst_2, val_main_cst_3, val_main_cst_4, val_main_cst_5, val_main_cst_6]

/-- The weight of row `l` in row `r`: the lower triangle's, of the first eight rows and columns. -/
theorem reference_mask (g : Fin 8) (r l : Fin 8) :
    val_main_v34 (F := Ideal) x3 (ix3 g r l)
      = Scalar.select (causal r l) (x3 (ix3 g ⟨r.val, by omega⟩ ⟨l.val, by omega⟩)) 0 := by
  rw [causal]
  pointwise [val_main_v34, val_main_v33, val_main_call0_v6, val_main_call0_cst, val_main_call0_v5, val_main_call0_v4,
    val_main_call0_v3, val_main_call0_v2, val_main_call0_v1, val_main_call0_v0, val_main_call0_c]
  simp only [IntOp.addi, BitVec.add_zero]

/-- The token mixing: row `r` takes the rows at or before it, weighted by its group. -/
theorem reference_token (b : Fin 32) (r : Fin 8) (g : Fin 8) (q : Fin 128) :
    val_main_v37 (F := Ideal) x0 x1 x2 x3 (ix4 b r g q) = ∑ l : Fin 8, Scalar.select (causal r l)
      (x3 (ix3 g ⟨r.val, by omega⟩ ⟨l.val, by omega⟩) * val_main_v32 (F := Ideal) x0 x1 x2
        (ix3 b l ⟨g.val * 128 + q.val, by omega⟩)) 0 := by
  pointwise [val_main_v37, val_main_v36, val_main_v35]
  simp only [reference_mask, masked]

theorem reference (b : Fin 32) (i : Fin 8) (k : Fin 1024) :
    val_main_v45 (F := Ideal) x0 x1 x2 x3 x4 (ix3 b i k) = val_main_v9 (F := Ideal) x0 (ix3 b i k)
      * (val_main_v37 (F := Ideal) x0 x1 x2 x3 (ix4 b i ⟨k.val / 128, by omega⟩ ⟨k.val % 128, by omega⟩)
        + x4 (ix2 ⟨k.val / 128, by omega⟩ ⟨i.val, by omega⟩)) := by
  pointwise [val_main_v45, val_main_v44, val_main_v43, val_main_v42, val_main_v41, val_main_v40, val_main_v39,
    val_main_v38]

end Reference

theorem kernel_gelu (x : Vec Ideal S1x8x2048 .f32) (r : Fin 8) (q : Fin 2048) :
    k0_pay3 x (ix2 r q) = gelu (x (ix3 0 r q)) := by
  rw [gelu]
  unfold_payloads
  pointwise
  rfl

theorem kernel_u (x : Vec Ideal S1x8x2048 .f32) (r : Fin 8) (k : Fin 1024) :
    k0_pay4 x (ix2 r k) = gelu (x (ix3 0 r ⟨k.val, by omega⟩)) := by
  unfold k0_pay4
  pointwise
  rw [kernel_gelu]

theorem kernel_v (x : Vec Ideal S1x8x2048 .f32) (g b : Vec Ideal S1x1024 .f32) (r : Fin 8) (k : Fin 1024) :
    k0_pay5 x g b (ix2 r k) = normed (fun l => gelu (x (ix3 0 r ⟨1024 + l.val, by omega⟩))) (fun l => g (ix2 0 l))
      (fun l => b (ix2 0 l)) k := by
  simp only [normed, mean]
  unfold k0_pay5
  pointwise
  simp only [kernel_gelu]

theorem kernel_rows (x : Vec Ideal S1x8x2048 .f32) (g b : Vec Ideal S1x1024 .f32) (r : Fin 8) (k : Fin 1024) :
    k0_pay6 x g b (ix3 0 r k) = k0_pay5 x g b (ix2 r k) := by
  unfold k0_pay6
  pointwise

/-- What a point stores at row `r`, column `k`: the weights are those of the group `k` is in. -/
def mixed (u v : FVec Ideal S8x1024 .f32) (x3 : Vec Ideal S8x8x8 .f32) (x4 : Vec Ideal S8x1024 .f32)
    (r : Fin 8) (k : Fin 1024) : Ideal .f32 :=
  u (ix2 r k) * (∑ l : Fin 8, Scalar.select (causal r l)
    (x3 (ix3 ⟨k.val / 128, by omega⟩ r l) * v (ix2 l k)) 0 + x4 (ix2 r k))

/-- The same at column `q` of group `g`. -/
theorem mixed_group (u v : FVec Ideal S8x1024 .f32) (x3 : Vec Ideal S8x8x8 .f32) (x4 : Vec Ideal S8x1024 .f32)
    (g r r' : Fin 8) (q : Fin 128) (k k' : Fin 1024) (h1 : r'.val = r.val) (hk : k.val = 128 * g.val + q.val)
    (hk' : k'.val = 128 * g.val + q.val) :
    u (ix2 r k) * (∑ l : Fin 8, Scalar.select (causal r l) (x3 (ix3 g r l) * v (ix2 l k)) 0 + x4 (ix2 r k))
      = mixed u v x3 x4 r' k' := by
  obtain rfl : r' = r := Fin.ext h1
  obtain rfl : k' = k := Fin.ext (hk'.trans hk.symm)
  have e : (⟨k'.val / 128, by omega⟩ : Fin 8) = g := Fin.ext (by show k'.val / 128 = g.val; omega)
  rw [mixed, e]

theorem kernel (u v : FVec Ideal S8x1024 .f32) (x3 : Vec Ideal S8x8x8 .f32) (x4 : Vec Ideal S8x1024 .f32)
    (y : S1x8x1024.Idx) :
    GmlpSampleBlock.stored (F := Ideal) u v x3 x4 y = mixed u v x3 x4 (y 1) (y 2) := by
  unfold GmlpSampleBlock.stored
  canon_tiles x h
  all_goals
    unfold_payloads
    pointwise
  · exact mixed_group u v x3 x4 7 (x 1) _ (x 2) _ _ h1 rfl h2
  · exact mixed_group u v x3 x4 6 (x 1) _ (x 2) _ _ h1 rfl h2
  · exact mixed_group u v x3 x4 5 (x 1) _ (x 2) _ _ h1 rfl h2
  · exact mixed_group u v x3 x4 4 (x 1) _ (x 2) _ _ h1 rfl h2
  · exact mixed_group u v x3 x4 3 (x 1) _ (x 2) _ _ h1 rfl h2
  · exact mixed_group u v x3 x4 2 (x 1) _ (x 2) _ _ h1 rfl h2
  · exact mixed_group u v x3 x4 1 (x 1) _ (x 2) _ _ h1 rfl h2
  · exact mixed_group u v x3 x4 0 (x 1) _ (x 2) _ _ h1 (Nat.zero_add _).symm (h2.trans (Nat.zero_add _).symm)

variable (m : (ℓ : Loc nD τ sig) → Buf (Elt Ideal) ℓ)

/-- The gating unit of the launch's own arguments. -/
abbrev result (c : Dev nD) : Buf (Elt Ideal) ((c : Thread nD τ).loc main_v7_0) :=
  Cert.GmlpSampleRefIdeal.Read.val_main_v45 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

/-- The normalised second half of the launch's own rows. -/
abbrev rows (c : Dev nD) : Buf (Elt Ideal) ((c : Thread nD τ).loc main_v7_1) :=
  Cert.GmlpSampleRefIdeal.Read.val_main_v32 (F := Ideal) (m ((c : Thread nD τ).loc main_arg0))
    (m ((c : Thread nD τ).loc main_arg1)) (m ((c : Thread nD τ).loc main_arg2))

section Reads
variable (c : Dev nD) (t : Fin cfg0.N) (r : Fin 8) (k : Fin 1024) (hb : t.val < 32)

theorem rows_read (q : Fin 2048) : X0_0 m c t (ix3 0 r q)
    = m ((c : Thread nD τ).loc main_arg0) (ix3 ⟨t.val, hb⟩ r ⟨12288 + q.val, by omega⟩) := by
  obtain ⟨e0, e1, e2, e3, e4, e5, e6⟩ := GmlpSampleBlock.idx t
  unfold X0_0 Pipeline.Window.fill
  rw [dif_pos (moved0_0 t _)]
  blk_ext [iblk, V, e0]

theorem scale_read : iblk m c 1 t (ix2 0 k) = m ((c : Thread nD τ).loc main_arg1) (ix1 k) := by
  obtain ⟨e0, e1, e2, e3, e4, e5, e6⟩ := GmlpSampleBlock.idx t
  blk_point [iblk, V, e1]

theorem shift_read : iblk m c 2 t (ix2 0 k) = m ((c : Thread nD τ).loc main_arg2) (ix1 k) := by
  obtain ⟨e0, e1, e2, e3, e4, e5, e6⟩ := GmlpSampleBlock.idx t
  blk_point [iblk, V, e2]

theorem weight_read (g : Fin 8) (l : Fin 8) : iblk m c 3 t (ix3 g r l)
    = m ((c : Thread nD τ).loc main_arg3) (ix3 g ⟨r.val, by omega⟩ ⟨l.val, by omega⟩) := by
  obtain ⟨e0, e1, e2, e3, e4, e5, e6⟩ := GmlpSampleBlock.idx t
  blk_point [iblk, V, e3]

theorem bias_read : iblk m c 4 t (ix2 r k)
    = m ((c : Thread nD τ).loc main_arg4) (ix2 ⟨k.val / 128, by omega⟩ ⟨r.val, by omega⟩) := by
  obtain ⟨e0, e1, e2, e3, e4, e5, e6⟩ := GmlpSampleBlock.idx t
  blk_point [iblk, V, e4]

theorem place : ((cfg0.win 5).blk t).view.emb (ix3 0 r k) = (ix3 ⟨t.val, hb⟩ r k : S32x8x1024.Idx) := by
  obtain ⟨e0, e1, e2, e3, e4, e5, e6⟩ := GmlpSampleBlock.idx t
  blk_ext [e5]

theorem place_rows : ((cfg0.win 6).blk t).view.emb (ix3 0 r k) = (ix3 ⟨t.val, hb⟩ r k : S32x8x1024.Idx) := by
  obtain ⟨e0, e1, e2, e3, e4, e5, e6⟩ := GmlpSampleBlock.idx t
  blk_ext [e6]

end Reads

theorem block (c : Dev nD) (t : Fin cfg0.N) (y : S1x8x1024.Idx) :
    (outsAt0 m c t).1 y = result m c (((cfg0.win 5).blk t).view.emb y) := by
  obtain ⟨z, r, k, rfl⟩ : ∃ (z : Fin 1) (r : Fin 8) (k : Fin 1024), y = ix3 z r k := ⟨y 0, y 1, y 2, eq_ix3 y⟩
  obtain rfl : z = 0 := Subsingleton.elim _ _
  have hb : t.val < 32 := lt_of_lt_of_eq t.isLt N_0
  have e4 : (⟨k.val / 128 * 128 + k.val % 128, by omega⟩ : Fin 1024) = k := Fin.ext (by
    show k.val / 128 * 128 + k.val % 128 = k.val
    omega)
  rw [place t r k hb, result, reference, GmlpSampleBlock.out, kernel]
  show mixed _ _ _ _ r k = _
  unfold mixed
  simp only [reference_token, e4, kernel_u, kernel_v, reference_u, reference_normed, reference_v,
    rows_read m c t _ hb, scale_read, shift_read, weight_read, bias_read]

theorem block_rows (c : Dev nD) (t : Fin cfg0.N) (y : S1x8x1024.Idx) :
    (outsAt0 m c t).2 y = rows m c (((cfg0.win 6).blk t).view.emb y) := by
  obtain ⟨z, r, k, rfl⟩ : ∃ (z : Fin 1) (r : Fin 8) (k : Fin 1024), y = ix3 z r k := ⟨y 0, y 1, y 2, eq_ix3 y⟩
  obtain rfl : z = 0 := Subsingleton.elim _ _
  have hb : t.val < 32 := lt_of_lt_of_eq t.isLt N_0
  rw [place_rows t r k hb, rows, reference_normed, GmlpSampleBlock.rows, kernel_rows, kernel_v]
  simp only [reference_v, rows_read m c t _ hb, scale_read, shift_read]

/-- After the run the first result array holds the gating unit: the blocks tile it, and each is the reference's. -/
theorem array (c : Dev nD) : (dats m 0 c).arrAt 5 cfg0.N = result m c :=
  (dats m 0 c).arrAt_eq_of_covers 5 _ (by decide +kernel) fun t hf y => by
    show (dats m 0 c).flushed 5 t y = _
    rw [Cert.GmlpSampleIdeal.Value.flushed5]
    exact block m c t y

/-- And the second the normalised rows. -/
theorem array_rows (c : Dev nD) : (dats m 0 c).arrAt 6 cfg0.N = rows m c :=
  (dats m 0 c).arrAt_eq_of_covers 6 _ (by decide +kernel) fun t hf y => by
    show (dats m 0 c).flushed 6 t y = _
    rw [Cert.GmlpSampleIdeal.Value.flushed6]
    exact block_rows m c t y

end Cert.GmlpSampleEq

namespace Cert.GmlpSampleEq

open Idealize.ShloMosaic Idealize.SL.Sem

/-- The kernel and the reference end with the same two results, at exact arithmetic. -/
theorem algebraic : Cert.algebraic_GmlpSampleIdeal_GmlpSampleRefIdeal := by
  intro m ρ m' ρ' _ hagree
  refine ⟨fun c => result m c, fun c => rows m c, ?_, ?_⟩
  · refine (θ_run _ _ _).mono (fun _ h c => ?_) (Cert.GmlpSampleIdeal.Value.run_blocks m ρ)
    exact ⟨(h c).1.trans (array m c), (h c).2.1.trans (array_rows m c), (h c).2.2⟩
  · refine (θ_run _ _ _).mono (fun _ h c => ?_) (Cert.GmlpSampleRefIdeal.Value.run (F := Ideal) m' ρ')
    obtain rfl : c = 0 := Subsingleton.elim _ _
    refine ⟨(h 0).1.trans ?_, (h 0).2.1.trans ?_, (h 0).2.2⟩
    · rw [Cert.GmlpSampleRefIdeal.Read.val_main_v45_eq, (hagree 0).1, (hagree 0).2.1, (hagree 0).2.2.1,
        (hagree 0).2.2.2.1, (hagree 0).2.2.2.2]
    · rw [Cert.GmlpSampleRefIdeal.Read.val_main_v32_eq, (hagree 0).1, (hagree 0).2.1, (hagree 0).2.2.1]

end Cert.GmlpSampleEq

end
-- ==== Proof.MlpSampleBlock.lean ====
/-
  The feed-forward layer of the sample group's 256 rows (one block of rows), its hidden columns in four parts: what each point leaves in the kept normalised rows, in
  the running sum and in the result's block.
-/
module

public import proofs.«01_k».proof.Proof.Gen.MlpSampleIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.MlpSampleBlock

open Cert.MlpSampleIdeal Cert.MlpSampleIdeal.Gen Idealize.ShloMosaic Idealize.ShloMosaic.TcCoe Idealize.SL.Sem

variable {F : FTy → Type} [FloatOps F]
variable (m : (ℓ : Loc nD τ sig) → Buf (Elt F) ℓ)

/-- The first part of a row block keeps the normalised rows. -/
theorem first_kept (c : Dev nD) (t : Fin cfg0.N) (h0 : t.val % 4 = 0) :
    (outsAt0 m c t.val t.isLt).2.1 = k0_pay1 (iblk m c 0 t) (iblk m c 1 t) := by
  rw [outsAt0_A m c t h0 (by omega)]
  frame_out

/-- … and starts the running sum at its own contribution. -/
theorem first_sum (c : Dev nD) (t : Fin cfg0.N) (h0 : t.val % 4 = 0) :
    (outsAt0 m c t.val t.isLt).2.2
      = k0_pay3 (k0_pay1 (iblk m c 0 t) (iblk m c 1 t)) (iblk m c 2 t) (k0_pay2 (F := F)) (iblk m c 3 t) := by
  rw [outsAt0_A m c t h0 (by omega)]
  frame_out

/-- The later parts leave the kept rows as they were. -/
theorem later_kept (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]
    rfl
  · rw [outsAt0_B m c t h0 h1]
    rfl

/-- … and add their contribution, computed from the kept rows, to the running sum. -/
theorem later_sum (c : Dev nD) (t : Fin cfg0.N) (h0 : ¬t.val % 4 = 0) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  by_cases h1 : t.val % 4 = 3
  · rw [outsAt0_C m c t h0 h1]
    frame_out
    simp only [read_unread_whole]
  · rw [outsAt0_B m c t h0 h1]
    frame_out
    simp only [read_unread_whole]

/-- The last part stores the residual plus the running sum, normalised. -/
theorem last_out (c : Dev nD) (t : Fin cfg0.N) (h1 : t.val % 4 = 3) :
    (outsAt0 m c t.val t.isLt).1 = k0_pay4 (iblk m c 0 t) (outsAt0 m c t.val t.isLt).2.2 (iblk m c 4 t) := by
  rw [later_sum m c t (by omega), outsAt0_C m c t (by omega) h1]
  frame_out
  simp only [read_unread_whole]

/-- Which block of each array a point works on. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- Within a row block the rows read are the same ones. -/
theorem rows_same (c : Dev nD) (t u : Fin cfg0.N) (h : t.val / 4 = u.val / 4) :
    (iblk m c 0 t : Vec F S256x1024 .f32) = iblk m c 0 u := by
  have et := (idx t).1
  have eu := (idx u).1
  funext y
  blk_ext [iblk, V, et, eu, h]

/-- … and the scale of the norm is the same everywhere. -/
theorem scale_same (c : Dev nD) (t u : Fin cfg0.N) :
    (iblk m c 1 t : Vec F S1x1024 .f32) = iblk m c 1 u := by
  have et := (idx t).2.1
  have eu := (idx u).2.1
  funext y
  blk_ext [iblk, V, et, eu]

/-- So at every point the kept rows are the normalised rows of the point's own row block. -/
theorem kept (c : Dev nD) : ∀ (n : ℕ) (h : n < cfg0.N),
    (outsAt0 m c n h).2.1 = k0_pay1 (iblk m c 0 ⟨n, h⟩) (iblk m c 1 ⟨n, h⟩) := by
  intro n
  induction n with
  | zero => exact fun h => first_kept m c ⟨0, h⟩ rfl
  | succ n ih =>
    intro h
    by_cases h0 : (n + 1) % 4 = 0
    · exact first_kept m c ⟨n + 1, h⟩ h0
    · have e := later_kept m c ⟨n + 1, h⟩ h0
      simp only [Nat.add_sub_cancel] at e
      rw [e, ih, rows_same m c ⟨n, _⟩ ⟨n + 1, h⟩ (by show n / 4 = (n + 1) / 4; omega),
        scale_same m c ⟨n, _⟩ ⟨n + 1, h⟩]

end Cert.MlpSampleBlock

end
-- ==== Proof.MlpSampleEq.lean ====
/-
  The feed-forward layer of the sample group, as a whole: the reference read at an index, what each part adds to the running sum, and the
  equation of every block with the reference's.
-/
module

public import proofs.«01_k».proof.Defs
public import proofs.«01_k».proof.Proof.MlpEq
public import proofs.«01_k».proof.Proof.MlpSampleBlock
public import proofs.«01_k».proof.Proof.Gen.MlpSampleRefIdeal.Read

@[expose] public section

set_option maxRecDepth 16384

noncomputable section

namespace Cert.MlpSampleEq

open Cert.MlpSampleIdeal Cert.MlpSampleIdeal.Gen Idealize.ShloMosaic Idealize.ShloMosaic.TcCoe Idealize.SL.Sem

open Cert.MlpEq (normed)

section Reference
open Cert.MlpSampleRefIdeal.Read

variable (x : FVec Ideal ⟨2, ![256, 1024]⟩ .f32) (g : FVec Ideal ⟨1, ![1024]⟩ .f32)
  (wu : FVec Ideal ⟨2, ![1024, 4096]⟩ .f32) (wd : FVec Ideal ⟨2, ![4096, 1024]⟩ .f32) (gf : FVec Ideal ⟨1, ![1024]⟩ .f32)

theorem reference_normed (r : Fin 256) (k : Fin 1024) :
    val_main_v12 (F := Ideal) x g (ix2 r k) = normed (fun l => x (ix2 r l)) (fun l => g (ix1 l)) k := by
  rw [normed]
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]

theorem reference_hidden (r : Fin 256) (l : Fin 4096) :
    val_main_v15 (F := Ideal) x g wu (ix2 r l)
      = MlpEq.hidden (normed (fun k => x (ix2 r k)) (fun k => g (ix1 k))) (fun k => wu (ix2 k l)) := by
  rw [MlpEq.hidden]
  pointwise [val_main_v15, val_main_v14, val_main_call0_v0, val_main_call0_cst, val_main_v13]
  simp only [reference_normed]

theorem reference_sum (r : Fin 256) (j : Fin 1024) :
    val_main_v17 (F := Ideal) x g wu wd (ix2 r j)
      = x (ix2 r j) + ∑ l : Fin 4096, val_main_v15 (F := Ideal) x g wu (ix2 r l) * wd (ix2 l j) := by
  pointwise [val_main_v17, val_main_v16]

theorem reference (r : Fin 256) (j : Fin 1024) :
    val_main_v30 (F := Ideal) x g wu wd gf (ix2 r j)
      = normed (fun l => val_main_v17 (F := Ideal) x g wu wd (ix2 r l)) (fun l => gf (ix1 l)) j := by
  rw [normed]
  pointwise [val_main_v30, val_main_v29, val_main_v28, val_main_v27, val_main_v26, val_main_v25, val_main_v24,
    val_main_v23, val_main_v22, val_main_v21, val_main_v20, val_main_v19, val_main_v18, val_main_cst_2, val_main_cst_3,
    val_main_cst_4]

end Reference

theorem kernel_normed (x : FVec Ideal S256x1024 .f32) (g : FVec Ideal S1x1024 .f32) (r : Fin 256) (k : Fin 1024) :
    k0_pay1 (F := Ideal) x g (ix2 r k) = normed (fun l => x (ix2 r l)) (fun l => g (ix2 0 l)) k := by
  rw [normed]
  unfold_payloads
  pointwise

theorem kernel_out (x acc : FVec Ideal S256x1024 .f32) (g : FVec Ideal S1x1024 .f32) (r : Fin 256) (k : Fin 1024) :
    k0_pay4 x acc g (ix2 r k) = normed (fun l => x (ix2 r l) + acc (ix2 r l)) (fun l => g (ix2 0 l)) k := by
  rw [normed]
  unfold_payloads
  pointwise

/-- One part adds, at `(r, k)`, its own hidden entries times the second weight. -/
theorem kernel_part (xn : FVec Ideal S256x1024 .bf16) (wu : FVec Ideal S1024x1024 .bf16) (acc : FVec Ideal S256x1024 .f32)
    (wd : FVec Ideal S1024x1024 .bf16) (r : Fin 256) (k : Fin 1024) :
    k0_pay3 (F := Ideal) xn wu acc wd (ix2 r k) = acc (ix2 r k)
      + ∑ l : Fin 1024, MlpEq.hidden (fun i => xn (ix2 r i)) (fun i => wu (ix2 i l)) * wd (ix2 l k) := by
  simp only [MlpEq.hidden]
  unfold_payloads
  pointwise

theorem kernel_zero (r : Fin 256) (k : Fin 1024) : k0_pay2 (F := Ideal) (ix2 r k) = 0 := by
  unfold_payloads
  pointwise

variable (m : (ℓ : Loc nD τ sig) → Buf (Elt Ideal) ℓ)

/-- The layer of the launch's own arguments. -/
abbrev result (c : Dev nD) : Buf (Elt Ideal) ((c : Thread nD τ).loc main_v4) :=
  Cert.MlpSampleRefIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem rows_read (c : Dev nD) (t : Fin cfg0.N) (r : Fin 256) (k : Fin 1024) (h : 256 * (t.val / 4) + r.val < 256) :
    iblk m c 0 t (ix2 r k) = m ((c : Thread nD τ).loc main_arg0) (ix2 ⟨256 * (t.val / 4) + r.val, h⟩ k) := by
  obtain ⟨e0, e1, e2, e3, e4, e5⟩ := MlpSampleBlock.idx t
  blk_ext [iblk, V, e0]

theorem scale_read (c : Dev nD) (t : Fin cfg0.N) (k : Fin 1024) :
    iblk m c 1 t (ix2 0 k) = m ((c : Thread nD τ).loc main_arg1) (ix1 k) := by
  obtain ⟨e0, e1, e2, e3, e4, e5⟩ := MlpSampleBlock.idx t
  blk_point [iblk, V, e1]

theorem up_read (c : Dev nD) (t : Fin cfg0.N) (k : Fin 1024) (l : Fin 1024) (h : t.val % 4 * 1024 + l.val < 4096) :
    iblk m c 2 t (ix2 k l) = m ((c : Thread nD τ).loc main_arg2) (ix2 k ⟨t.val % 4 * 1024 + l.val, h⟩) := by
  obtain ⟨e0, e1, e2, e3, e4, e5⟩ := MlpSampleBlock.idx t
  blk_point [iblk, V, e2]

theorem down_read (c : Dev nD) (t : Fin cfg0.N) (l : Fin 1024) (j : Fin 1024) (h : t.val % 4 * 1024 + l.val < 4096) :
    iblk m c 3 t (ix2 l j) = m ((c : Thread nD τ).loc main_arg3) (ix2 ⟨t.val % 4 * 1024 + l.val, h⟩ j) := by
  obtain ⟨e0, e1, e2, e3, e4, e5⟩ := MlpSampleBlock.idx t
  blk_point [iblk, V, e3]

theorem final_read (c : Dev nD) (t : Fin cfg0.N) (k : Fin 1024) :
    iblk m c 4 t (ix2 0 k) = m ((c : Thread nD τ).loc main_arg4) (ix1 k) := by
  obtain ⟨e0, e1, e2, e3, e4, e5⟩ := MlpSampleBlock.idx t
  blk_point [iblk, V, e4]

theorem place (t : Fin cfg0.N) (r : Fin 256) (j : Fin 1024) (h : 256 * (t.val / 4) + r.val < 256) :
    ((cfg0.win 5).blk t).view.emb (ix2 r j) = (ix2 ⟨256 * (t.val / 4) + r.val, h⟩ j : S256x1024.Idx) := by
  obtain ⟨e0, e1, e2, e3, e4, e5⟩ := MlpSampleBlock.idx t
  blk_ext [e5]

/-- What the part of point `t` adds to the running sum. -/
def part (c : Dev nD) (t : Fin cfg0.N) (y : S256x1024.Idx) : Ideal .f32 :=
  ∑ l : Fin 1024, MlpEq.hidden (normed (fun i => iblk m c 0 t (ix2 (y 0) i)) (fun i => iblk m c 1 t (ix2 0 i)))
    (fun i => iblk m c 2 t (ix2 i l)) * iblk m c 3 t (ix2 l (y 1))

theorem part_first (c : Dev nD) (t : Fin cfg0.N) (h0 : t.val % 4 = 0) (y : S256x1024.Idx) :
    (outsAt0 m c t.val t.isLt).2.2 y = 0 + part m c t y := by
  obtain ⟨r, j, rfl⟩ : ∃ (r : Fin 256) (j : Fin 1024), y = ix2 r j := ⟨y 0, y 1, eq_ix2 y⟩
  rw [MlpSampleBlock.first_sum m c t h0, kernel_part, kernel_zero]
  simp only [kernel_normed]
  rfl

theorem part_later (c : Dev nD) (t : Fin cfg0.N) (h0 : ¬t.val % 4 = 0) (y : S256x1024.Idx) :
    (outsAt0 m c t.val t.isLt).2.2 y
      = (outsAt0 m c (t.val - 1) (Nat.lt_of_le_of_lt (Nat.sub_le _ _) t.isLt)).2.2 y + part m c t y := by
  obtain ⟨r, j, rfl⟩ : ∃ (r : Fin 256) (j : Fin 1024), y = ix2 r j := ⟨y 0, y 1, eq_ix2 y⟩
  rw [MlpSampleBlock.later_sum m c t h0, kernel_part, ← MlpSampleBlock.later_kept m c t h0, MlpSampleBlock.kept]
  simp only [kernel_normed]
  rfl

/-- At the last part of a row block the running sum is the whole second product. -/
theorem whole_sum (c : Dev nD) (t : Fin cfg0.N) (h1 : t.val % 4 = 3) (r : Fin 256) (j : Fin 1024)
    (h : 256 * (t.val / 4) + r.val < 256) :
    (outsAt0 m c t.val t.isLt).2.2 (ix2 r j)
      = ∑ l : Fin 4096, Cert.MlpSampleRefIdeal.Read.val_main_v15 (F := Ideal) (m ((c : Thread nD τ).loc main_arg0))
          (m ((c : Thread nD τ).loc main_arg1)) (m ((c : Thread nD τ).loc main_arg2)) (ix2 ⟨256 * (t.val / 4) + r.val, h⟩ l)
        * m ((c : Thread nD τ).loc main_arg3) (ix2 l j) := by
  rw [Pipeline.eq_sum_fin_of_reset_step_apply_of_flush (fun n h => (outsAt0 m c n h).2.2) 4 (fun _ => 0) (part m c)
    (part_first m c) (part_later m c) t h1 (ix2 r j), zero_add]
  simp only [part]
  refine Fin.sum_mul_add_congr fun s k hl => ?_
  have hs := s.isLt
  have hd : (4 * (t.val / 4) + s.val) / 4 = t.val / 4 := by omega
  have hm : (4 * (t.val / 4) + s.val) % 4 = s.val := by omega
  rw [reference_hidden]
  have hu := fun i => up_read m c ⟨4 * (t.val / 4) + s.val, Pipeline.run_point_lt_of_flush t h1 s⟩ i k (by simp only [hm]; exact hl)
  have hw := down_read m c ⟨4 * (t.val / 4) + s.val, Pipeline.run_point_lt_of_flush t h1 s⟩ k j (by simp only [hm]; exact hl)
  have hx := fun i => rows_read m c ⟨4 * (t.val / 4) + s.val, Pipeline.run_point_lt_of_flush t h1 s⟩ r i (by simp only [hd]; exact h)
  simp only [hm, hd] at hu hw hx
  simp only [ix2_0, ix2_1, hu, hw, hx, scale_read]

theorem block (c : Dev nD) (t : Fin cfg0.N) (h1 : t.val % 4 = 3) (y : S256x1024.Idx) :
    k0_pay4 (iblk m c 0 t) (outsAt0 m c t.val t.isLt).2.2 (iblk m c 4 t) y
      = result m c (((cfg0.win 5).blk t).view.emb y) := by
  obtain ⟨r, j, rfl⟩ : ∃ (r : Fin 256) (j : Fin 1024), y = ix2 r j := ⟨y 0, y 1, eq_ix2 y⟩
  have ht : t.val < 4 := lt_of_lt_of_eq t.isLt N_0
  have h : 256 * (t.val / 4) + r.val < 256 := by omega
  rw [place t r j h, result, reference, kernel_out]
  simp only [reference_sum, rows_read m c t _ _ h, final_read, whole_sum m c t h1 _ _ h]

/-- After the run the result array holds the layer: the blocks tile it, and each is the reference's. -/
theorem array (c : Dev nD) : (dats m 0 c).arrAt 5 cfg0.N = result m c :=
  (dats m 0 c).arrAt_eq_of_cover 5 _ (fun t hf => by
    have h1 := (flush0_5 t).mp hf
    rw [Cert.MlpSampleIdeal.Value.flushed5, MlpSampleBlock.last_out m c t h1]
    exact funext fun y => block m c t h1 y) (fun i => (Cert.MlpSampleIdeal.Value.covered_iff5 i).2 (by
      have h0 : (i 0).val < 256 := (i 0).isLt
      have h1 : (i 1).val < 1024 := (i 1).isLt
      omega))

end Cert.MlpSampleEq

namespace Cert.MlpSampleEq

open Idealize.ShloMosaic Idealize.SL.Sem

/-- The kernel and the reference end with the same result, at exact arithmetic. -/
theorem algebraic : Cert.algebraic_MlpSampleIdeal_MlpSampleRefIdeal := by
  intro m ρ m' ρ' _ hagree
  refine ⟨fun c => result m c, ?_, ?_⟩
  · refine (θ_run _ _ _).mono (fun _ h c => ?_) (Cert.MlpSampleIdeal.Value.run_blocks m ρ)
    exact ⟨(h c).1.trans (array m c), (h c).2⟩
  · refine (θ_run _ _ _).mono (fun _ h c => ?_) (Cert.MlpSampleRefIdeal.Value.run (F := Ideal) m' ρ')
    obtain rfl : c = 0 := Subsingleton.elim _ _
    refine ⟨(h 0).1.trans ?_, (h 0).2⟩
    rw [Cert.MlpSampleRefIdeal.Read.val_main_v30_eq, (hagree 0).1, (hagree 0).2.1, (hagree 0).2.2.1, (hagree 0).2.2.2.1,
      (hagree 0).2.2.2.2]

end Cert.MlpSampleEq

end
-- ==== Proof.ProjSampleBlock.lean ====
/-
  The sample group's projection (RMS norm, then a matrix product), whose 256 rows are one block: what the body leaves in the block of the
  result and in the buffer that keeps the normalised rows, at the first column block of a row block and at the others.
-/
module

public import proofs.«01_k».proof.Proof.Gen.ProjSampleIdeal.Frame
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.ProjSampleBlock

open Cert.ProjSampleIdeal Cert.ProjSampleIdeal.Gen Idealize.ShloMosaic Idealize.ShloMosaic.TcCoe Idealize.SL.Sem

variable {F : FTy → Type} [FloatOps F]
variable (m : (ℓ : Loc nD τ sig) → Buf (Elt F) ℓ)

/-- At the first column block of a row block the body stores the product of the freshly normalised rows with the
    weight block. -/
theorem first_out (c : Dev nD) (t : Fin cfg0.N) (h0 : t.val % 35 = 0) :
    (outsAt0 m c t.val t.isLt).1 = k0_pay2 (k0_pay1 (iblk m c 0 t) (iblk m c 1 t)) (iblk m c 2 t) := by
  rw [outsAt0_A m c t h0]
  frame_out

/-- … and keeps the normalised rows. -/
theorem first_kept (c : Dev nD) (t : Fin cfg0.N) (h0 : t.val % 35 = 0) :
    (outsAt0 m c t.val t.isLt).2 = k0_pay1 (iblk m c 0 t) (iblk m c 1 t) := by
  rw [outsAt0_A m c t h0]
  frame_out

/-- At the other column blocks it multiplies the rows that the point before kept. -/
theorem later_out (c : Dev nD) (t : Fin cfg0.N) (h0 : ¬t.val % 35 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  frame_out
  simp only [read_unread_whole]

/-- … and leaves them as they were. -/
theorem later_kept (c : Dev nD) (t : Fin cfg0.N) (h0 : ¬t.val % 35 = 0) :
    (outsAt0 m c t.val t.isLt).2 = (outsAt0 m c (t.val - 1) (Nat.lt_of_le_of_lt (Nat.sub_le _ _) t.isLt)).2 := by
  rw [outsAt0_B m c t h0]
  rfl

/-- Which block of the rows, of the weight and of the result a point works on. -/
theorem idx : ∀ t : Fin cfg0.N, win0_0.index t = ![t.val / 35, 0] ∧ win0_1.index t = ![0, 0]
    ∧ win0_2.index t = ![0, t.val % 35] ∧ win0_3.index t = ![t.val / 35, t.val % 35] :=
  (by decide +kernel : ∀ t : Fin grid0.N, _)

/-- Within a row block the rows read are the same ones. -/
theorem rows_same (c : Dev nD) (t u : Fin cfg0.N) (h : t.val / 35 = u.val / 35) :
    (iblk m c 0 t : Vec F S256x1024 .f32) = iblk m c 0 u := by
  obtain ⟨et, -, -, -⟩ := idx t
  obtain ⟨eu, -, -, -⟩ := idx u
  funext y
  blk_ext [iblk, V, et, eu, h]

/-- … and the scale of the norm is the same everywhere. -/
theorem scale_same (c : Dev nD) (t u : Fin cfg0.N) :
    (iblk m c 1 t : Vec F S1x1024 .f32) = iblk m c 1 u := by
  obtain ⟨-, et, -, -⟩ := idx t
  obtain ⟨-, eu, -, -⟩ := idx u
  funext y
  blk_ext [iblk, V, et, eu]

/-- So at every point the kept rows are the normalised rows of the point's own row block. -/
theorem kept (c : Dev nD) : ∀ (n : ℕ) (h : n < cfg0.N),
    (outsAt0 m c n h).2 = k0_pay1 (iblk m c 0 ⟨n, h⟩) (iblk m c 1 ⟨n, h⟩) := by
  intro n
  induction n with
  | zero => exact fun h => first_kept m c ⟨0, h⟩ rfl
  | succ n ih =>
    intro h
    by_cases h0 : (n + 1) % 35 = 0
    · exact first_kept m c ⟨n + 1, h⟩ h0
    · have e := later_kept m c ⟨n + 1, h⟩ h0
      simp only [Nat.add_sub_cancel] at e
      rw [e, ih, rows_same m c ⟨n, _⟩ ⟨n + 1, h⟩ (by show n / 35 = (n + 1) / 35; omega),
        scale_same m c ⟨n, _⟩ ⟨n + 1, h⟩]

/-- Every point leaves in its block the product of the normalised rows of its row block with its weight block. -/
theorem out (c : Dev nD) (t : Fin cfg0.N) :
    (outsAt0 m c t.val t.isLt).1 = k0_pay2 (k0_pay1 (iblk m c 0 t) (iblk m c 1 t)) (iblk m c 2 t) := by
  by_cases h0 : t.val % 35 = 0
  · exact first_out m c t h0
  · rw [later_out m c t h0, kept, rows_same m c ⟨t.val - 1, _⟩ t (by show (t.val - 1) / 35 = t.val / 35; omega),
      scale_same m c ⟨t.val - 1, _⟩ t]

end Cert.ProjSampleBlock

end
-- ==== Proof.ProjSampleTail.lean ====
/-
  The sample group's projection: its host operations after the matrix product, read at an index of each result. Every
  entry is one entry of the product or of a cache.
-/
module

public import proofs.«01_k».proof.Proof.ProjSampleBlock
public import proofs.«01_k».proof.Proof.ProjTail

@[expose] public section

set_option maxRecDepth 16384
set_option maxHeartbeats 4000000

noncomputable section

namespace Cert.ProjSampleTail

open Cert.ProjSampleIdeal Cert.ProjSampleIdeal.Gen Idealize.ShloMosaic Idealize.ShloMosaic.TcCoe Idealize.SL.Sem
open Cert.ProjTail (recurrent)

variable (W : Valuation τ sig (Elt Ideal))

/-- The product, as the operations find it. -/
abbrev product : Vec Ideal S256x17920 .f32 := W (Proc.devRef .tc main_v16)

/-- The product's row of time `t` of sequence `b`. -/
def row (b : Fin 32) (t : Fin 8) : Fin 256 := ⟨b.val * 8 + t.val, by omega⟩

/-- Two entries with the same coordinates. -/
theorem entry (A : Vec Ideal S256x17920 .f32) {r r' : Fin 256} {j j' : Fin 17920} (hr : r.val = r'.val) (hj : j.val = j'.val) :
    A (ix2 r j) = A (ix2 r' j') :=
  congrArg A (congrArg₂ ix2 (Fin.ext hr) (Fin.ext hj))

theorem attention (b : Fin 32) (t : Fin 8) (j : Fin 9216) :
    (StableHlo.after hostOps1 W (Proc.devRef .tc main_v61) : Vec Ideal S32x8x9216 .f32) (ix3 b t j)
      = product W (ix2 (row b t) ⟨j.val, by omega⟩) := by
  after_results_simp
  pointwise
  rfl

theorem gate (b : Fin 32) (t : Fin 8) (j : Fin 3072) :
    (StableHlo.after hostOps1 W (Proc.devRef .tc main_v62) : Vec Ideal S32x8x3072 .f32) (ix3 b t j)
      = product W (ix2 (row b t) ⟨9216 + j.val, by omega⟩) := by
  after_results_simp
  pointwise
  rfl

theorem gated (b : Fin 32) (t : Fin 8) (j : Fin 2048) :
    (StableHlo.after hostOps1 W (Proc.devRef .tc main_v60) : Vec Ideal S32x8x2048 .f32) (ix3 b t j)
      = product W (ix2 (row b t) ⟨12288 + j.val, by omega⟩) := by
  after_results_simp
  pointwise
  rfl

theorem recurrence (b : Fin 32) (t : Fin 8) (j : Fin 3360) :
    (StableHlo.after hostOps1 W (Proc.devRef .tc main_v59) : Vec Ideal S32x8x3360 .f32) (ix3 b t j)
      = product W (ix2 (row b t) (recurrent j)) := by
  after_results_simp
  pointwise
  after_results_simp
  pointwise
  split_ifs <;> exact entry (product W) rfl (by simp only [recurrent]; split_ifs <;> omega)

/-- The last time's are kept apart. -/
theorem shift (b : Fin 32) (j : Fin 3360) :
    (StableHlo.after hostOps1 W (Proc.devRef .tc main_v24) : Vec Ideal S32x3360 .f32) (ix2 b j)
      = product W (ix2 (row b 7) (recurrent j)) := by
  after_results_simp
  pointwise
  after_results_simp
  pointwise
  split_ifs <;> exact entry (product W) rfl (by simp only [recurrent]; split_ifs <;> omega)

end Cert.ProjSampleTail

end
-- ==== Proof.ProjSampleKv.lean ====
/-
  The keys and values that the sample group's projection keeps for the attention's three groups, read at an index.
-/
module

public import proofs.«01_k».proof.Proof.ProjSampleTail
public import proofs.«01_k».proof.Proof.Stack

@[expose] public section

set_option maxRecDepth 16384
set_option maxHeartbeats 4000000

noncomputable section

namespace Cert.ProjSampleTail

open Cert.ProjSampleIdeal Cert.ProjSampleIdeal.Gen Idealize.ShloMosaic Idealize.ShloMosaic.TcCoe Idealize.SL.Sem
open Cert.ProjTail (cached)
open Cert.Stack (kept)

variable (W : Valuation τ sig (Elt Ideal))

/-- The same row of a cache. -/
theorem cache_at {n : ℕ} (C : FVec Ideal ⟨5, ![32, 2, n, 16, 64]⟩ .f32) (b : Fin 32) (k : Fin 2) {s s' : Fin n}
    (e : s.val = s'.val) (h : Fin 16) (d : Fin 64) : C (ix5 b k s h d) = C (ix5 b k s' h d) := by
  rw [Fin.ext e]

/-- Group 0's cache of 128 times. -/
theorem kv128 (b : Fin 32) (k : Fin 2) (s : Fin 128) (h : Fin 16) (d : Fin 64) :
    (StableHlo.after hostOps1 W (Proc.devRef .tc main_v35) : Vec Ideal S32x2x128x16x64 .f32) (ix5 b k s h d)
      = kept (fun s => (W (Proc.devRef .tc main_arg3) : Vec Ideal S32x2x128x16x64 .f32) (ix5 b k s h d))
          (fun t => product W (ix2 (row b t) (cached 0 k h d))) s := by
  after_results_simp
  pointwise
  after_results_simp
  pointwise
  unfold kept
  repeat' split
  all_goals first
    | omega
    | exact cache_at _ b k (by simp only []; omega) h d
    | exact entry (product W) (by simp only [row]; omega) (by simp only [cached]; omega)

/-- Group 1's cache of 512 times. -/
theorem kv512 (b : Fin 32) (k : Fin 2) (s : Fin 512) (h : Fin 16) (d : Fin 64) :
    (StableHlo.after hostOps1 W (Proc.devRef .tc main_v44) : Vec Ideal S32x2x512x16x64 .f32) (ix5 b k s h d)
      = kept (fun s => (W (Proc.devRef .tc main_arg4) : Vec Ideal S32x2x512x16x64 .f32) (ix5 b k s h d))
          (fun t => product W (ix2 (row b t) (cached 1 k h d))) s := by
  after_results_simp
  pointwise
  after_results_simp
  pointwise
  unfold kept
  repeat' split
  all_goals first
    | omega
    | exact cache_at _ b k (by simp only []; omega) h d
    | exact entry (product W) (by simp only [row]; omega) (by simp only [cached]; omega)

/-- Group 2's cache of 2048 times. -/
theorem kv2048 (b : Fin 32) (k : Fin 2) (s : Fin 2048) (h : Fin 16) (d : Fin 64) :
    (StableHlo.after hostOps1 W (Proc.devRef .tc main_v53) : Vec Ideal S32x2x2048x16x64 .f32) (ix5 b k s h d)
      = kept (fun s => (W (Proc.devRef .tc main_arg5) : Vec Ideal S32x2x2048x16x64 .f32) (ix5 b k s h d))
          (fun t => product W (ix2 (row b t) (cached 2 k h d))) s := by
  after_results_simp
  pointwise
  after_results_simp
  pointwise
  unfold kept
  repeat' split
  all_goals first
    | omega
    | exact cache_at _ b k (by simp only []; omega) h d
    | exact entry (product W) (by simp only [row]; omega) (by simp only [cached]; omega)

end Cert.ProjSampleTail

end
-- ==== Proof.ProjSampleWeight.lean ====
/-
  The sample group's projection: the weight with its columns in the product's order, read at an index.
-/
module

public import proofs.«01_k».proof.Proof.ProjSampleBlock
public import proofs.«01_k».proof.Proof.ProjWeight

@[expose] public section

set_option maxRecDepth 16384
set_option maxHeartbeats 4000000

noncomputable section

namespace Cert.ProjSampleWeight

open Cert.ProjSampleIdeal Cert.ProjSampleIdeal.Gen Idealize.ShloMosaic Idealize.ShloMosaic.TcCoe Idealize.SL.Sem
open Cert.ProjWeight (column)

variable (m : (ℓ : Loc nD τ sig) → Buf (Elt Ideal) ℓ)

/-- There the region finds the weight's own column, whatever the order and the padding. -/
theorem weight (c : Dev nD) (k : Fin 1024) (j : Fin 17696) :
    (V m c main_v15 : Vec Ideal S1024x17920 .bf16) (ix2 k (column j)) = m ((c : Thread nD τ).loc main_arg2) (ix2 k j) := by
  have hs : (column j).val = if j.val < 3136 then 14336 + j.val else if j.val < 3200 then 14400 + j.val
    else if j.val < 3360 then 14464 + j.val else if j.val < 5408 then 8928 + j.val else j.val - 5408 := rfl
  generalize column j = s at hs
  simp only [V, V0, List.flatten_cons, List.flatten_nil, List.append_nil, List.cons_append, List.nil_append, hostOps0_1,
    hostOps0_3, hostOps0_5, StableHlo.TRef.unary, StableHlo.TRef.binary]
  after_results_simp
  pointwise
  after_results_simp
  pointwise
  after_results_simp
  simp only [StableHlo.TRef.toBuf, StableHlo.TRef.ofBuf, cast_eq]
  pointwise
  split_ifs at hs
  all_goals
    repeat' split
    all_goals first
      | omega
      | exact congrArg (m ((c : Thread nD τ).loc main_arg2)) (congrArg₂ ix2 rfl (Fin.ext (by simp only []; omega)))

end Cert.ProjSampleWeight

end
-- ==== Proof.ProjSampleRef.lean ====
/-
  The sample group's projection, its reference read at an index: the projected rows, and where in them and in the caches
  each result comes from.
-/
module

public import proofs.«01_k».proof.Proof.Gen.ProjSampleRefIdeal.Read
public import proofs.«01_k».proof.Proof.ProjRef
public import proofs.«01_k».proof.Proof.Stack

@[expose] public section

set_option maxRecDepth 16384

noncomputable section

namespace Cert.ProjSampleRef

open Cert.ProjSampleRefIdeal Cert.ProjSampleRefIdeal.Read Idealize.ShloMosaic
open Cert.ProjRef (cached)
open Cert.Stack (kept kept_at)

variable (x : FVec Ideal ⟨3, ![32, 8, 1024]⟩ .f32) (g : FVec Ideal ⟨1, ![1024]⟩ .f32) (w : FVec Ideal ⟨2, ![1024, 17696]⟩ .f32)

/-- At `(b, t, j)`: the sum over `k` of the normalised, scaled entry `(b, t, k)` times the weight `(k, j)`. -/
theorem projected (b : Fin 32) (t : Fin 8) (j : Fin 17696) :
    val_main_v13 (F := Ideal) x g w (ix3 b t j) = ∑ k : Fin 1024, x (ix3 b t k)
      * Ideal.rsqrt (Ideal.div (∑ l : Fin 1024, x (ix3 b t l) * x (ix3 b t l)) (Ideal.ofBits .f32 0x44800000#32)
        + Ideal.ofBits .f32 0x358637BD#32) * g (ix1 k) * w (ix2 k j) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]

theorem recurrence (b : Fin 32) (t : Fin 8) (j : Fin 3360) :
    val_main_v14 (F := Ideal) x g w (ix3 b t j) = val_main_v13 (F := Ideal) x g w (ix3 b t ⟨j.val, by omega⟩) := by
  pointwise [val_main_v14]

theorem gated (b : Fin 32) (t : Fin 8) (j : Fin 2048) :
    val_main_v15 (F := Ideal) x g w (ix3 b t j) = val_main_v13 (F := Ideal) x g w (ix3 b t ⟨3360 + j.val, by omega⟩) := by
  pointwise [val_main_v15]

theorem attention (b : Fin 32) (t : Fin 8) (j : Fin 9216) :
    val_main_v16 (F := Ideal) x g w (ix3 b t j) = val_main_v13 (F := Ideal) x g w (ix3 b t ⟨5408 + j.val, by omega⟩) := by
  pointwise [val_main_v16]

theorem gate (b : Fin 32) (t : Fin 8) (j : Fin 3072) :
    val_main_v17 (F := Ideal) x g w (ix3 b t j) = val_main_v13 (F := Ideal) x g w (ix3 b t ⟨14624 + j.val, by omega⟩) := by
  pointwise [val_main_v17]

theorem shift (b : Fin 32) (j : Fin 3360) :
    val_main_v65 (F := Ideal) x g w (ix2 b j) = val_main_v13 (F := Ideal) x g w (ix3 b 7 ⟨j.val, by omega⟩) := by
  pointwise [val_main_v65, val_main_v64, val_main_v14]

/-- The same column. -/
theorem same (b : Fin 32) (t : Fin 8) {j j' : Fin 17696} (e : j.val = j'.val) :
    val_main_v13 (F := Ideal) x g w (ix3 b t j) = val_main_v13 (F := Ideal) x g w (ix3 b t j') := by
  rw [Fin.ext e]

/-- Group 0's keys and values at time `t`. -/
theorem new0 (b : Fin 32) (k : Fin 2) (t : Fin 8) (h : Fin 16) (d : Fin 64) :
    (if k = 0 then val_main_v20 (F := Ideal) x g w else val_main_v22 (F := Ideal) x g w) (ix4 b t h d)
      = val_main_v13 (F := Ideal) x g w (ix3 b t (cached 0 k h d)) := by
  obtain rfl | rfl : k = 0 ∨ k = 1 := by omega
  · rw [if_pos rfl]
    pointwise [val_main_v20, val_main_v19, val_main_v18, val_main_v16]
    exact same x g w b t (by simp only [cached, Fin.val_zero, Fin.val_one, Fin.val_two]; omega)
  · rw [if_neg (by decide)]
    pointwise [val_main_v22, val_main_v21, val_main_v18, val_main_v16]
    exact same x g w b t (by simp only [cached, Fin.val_zero, Fin.val_one, Fin.val_two]; omega)

/-- Group 1's. -/
theorem new1 (b : Fin 32) (k : Fin 2) (t : Fin 8) (h : Fin 16) (d : Fin 64) :
    (if k = 0 then val_main_v35 (F := Ideal) x g w else val_main_v37 (F := Ideal) x g w) (ix4 b t h d)
      = val_main_v13 (F := Ideal) x g w (ix3 b t (cached 1 k h d)) := by
  obtain rfl | rfl : k = 0 ∨ k = 1 := by omega
  · rw [if_pos rfl]
    pointwise [val_main_v35, val_main_v34, val_main_v18, val_main_v16]
    exact same x g w b t (by simp only [cached, Fin.val_zero, Fin.val_one, Fin.val_two]; omega)
  · rw [if_neg (by decide)]
    pointwise [val_main_v37, val_main_v36, val_main_v18, val_main_v16]
    exact same x g w b t (by simp only [cached, Fin.val_zero, Fin.val_one, Fin.val_two]; omega)

/-- Group 2's. -/
theorem new2 (b : Fin 32) (k : Fin 2) (t : Fin 8) (h : Fin 16) (d : Fin 64) :
    (if k = 0 then val_main_v50 (F := Ideal) x g w else val_main_v52 (F := Ideal) x g w) (ix4 b t h d)
      = val_main_v13 (F := Ideal) x g w (ix3 b t (cached 2 k h d)) := by
  obtain rfl | rfl : k = 0 ∨ k = 1 := by omega
  · rw [if_pos rfl]
    pointwise [val_main_v50, val_main_v49, val_main_v18, val_main_v16]
    exact same x g w b t (by simp only [cached, Fin.val_zero, Fin.val_one, Fin.val_two]; omega)
  · rw [if_neg (by decide)]
    pointwise [val_main_v52, val_main_v51, val_main_v18, val_main_v16]
    exact same x g w b t (by simp only [cached, Fin.val_zero, Fin.val_one, Fin.val_two]; omega)

/-- Group 0's cache after the step. -/
theorem kv128 (c : FVec Ideal ⟨5, ![32, 2, 128, 16, 64]⟩ .f32) (b : Fin 32) (k : Fin 2) (s : Fin 128) (h : Fin 16) (d : Fin 64) :
    val_main_v33 (F := Ideal) x g w c (ix5 b k s h d)
      = kept (fun s => c (ix5 b k s h d)) (fun t => val_main_v13 (F := Ideal) x g w (ix3 b t (cached 0 k h d))) s := by
  unfold val_main_v33 val_main_v32 val_main_v31 val_main_v30 val_main_v29 val_main_v28 val_main_v27 val_main_v26 val_main_v25
    val_main_v24 val_main_v23
  simp only [← new0]
  exact kept_at _ _ _ _ _ _ _ rfl c _ _ b k s h d

/-- Group 1's. -/
theorem kv512 (c : FVec Ideal ⟨5, ![32, 2, 512, 16, 64]⟩ .f32) (b : Fin 32) (k : Fin 2) (s : Fin 512) (h : Fin 16) (d : Fin 64) :
    val_main_v48 (F := Ideal) x g w c (ix5 b k s h d)
      = kept (fun s => c (ix5 b k s h d)) (fun t => val_main_v13 (F := Ideal) x g w (ix3 b t (cached 1 k h d))) s := by
  unfold val_main_v48 val_main_v47 val_main_v46 val_main_v45 val_main_v44 val_main_v43 val_main_v42 val_main_v41 val_main_v40
    val_main_v39 val_main_v38
  simp only [← new1]
  exact kept_at _ _ _ _ _ _ _ rfl c _ _ b k s h d

/-- Group 2's. -/
theorem kv2048 (c : FVec Ideal ⟨5, ![32, 2, 2048, 16, 64]⟩ .f32) (b : Fin 32) (k : Fin 2) (s : Fin 2048) (h : Fin 16) (d : Fin 64) :
    val_main_v63 (F := Ideal) x g w c (ix5 b k s h d)
      = kept (fun s => c (ix5 b k s h d)) (fun t => val_main_v13 (F := Ideal) x g w (ix3 b t (cached 2 k h d))) s := by
  unfold val_main_v63 val_main_v62 val_main_v61 val_main_v60 val_main_v59 val_main_v58 val_main_v57 val_main_v56 val_main_v55
    val_main_v54 val_main_v53
  simp only [← new2]
  exact kept_at _ _ _ _ _ _ _ rfl c _ _ b k s h d

end Cert.ProjSampleRef

end
-- ==== Proof.ProjSampleEq.lean ====
/-
  The sample group's projection, as a whole: the product's entries are the reference's, whichever order its columns are
  in, and so are the results cut out of it and the caches after the step.
-/
module

public import proofs.«01_k».proof.Defs
public import proofs.«01_k».proof.Proof.ProjSampleKv
public import proofs.«01_k».proof.Proof.ProjSampleWeight
public import proofs.«01_k».proof.Proof.ProjSampleRef

@[expose] public section

set_option maxRecDepth 16384

noncomputable section

namespace Cert.ProjSampleEq

open Cert.ProjSampleIdeal Cert.ProjSampleIdeal.Gen Idealize.ShloMosaic Idealize.ShloMosaic.TcCoe Idealize.SL.Sem
open Cert.ProjSampleTail (row entry)
open Cert.ProjTail (recurrent cached)
open Cert.Stack (kept)
open Cert.ProjWeight (column)

variable (m : (ℓ : Loc nD τ sig) → Buf (Elt Ideal) ℓ)

/-- The rows, the scale and the weight as the region finds them. -/
def X (c : Dev nD) : FVec Ideal S256x1024 .f32 := V m c main_v0
def G (c : Dev nD) : FVec Ideal S1x1024 .f32 := V m c main_v1
def Y (c : Dev nD) : FVec Ideal S1024x17920 .bf16 := V m c main_v15

/-- The product of the normalised rows with the reordered weight. -/
def normed (x : FVec Ideal S256x1024 .f32) (g : FVec Ideal S1x1024 .f32) (y : FVec Ideal S1024x17920 .bf16) :
    FVec Ideal S256x17920 .f32 := fun i =>
  ∑ k : Fin 1024, x (ix2 (i 0) k)
      * Ideal.rsqrt (Ideal.div (∑ l : Fin 1024, x (ix2 (i 0) l) * x (ix2 (i 0) l)) (Ideal.ofBits .f32 0x44800000#32)
        + Ideal.ofBits .f32 0x358637BD#32) * g (ix2 0 k) * y (ix2 k (i 1))

abbrev result (c : Dev nD) : Buf (Elt Ideal) ((c : Thread nD τ).loc main_v16) := normed (X m c) (G m c) (Y m c)

theorem rows_read (c : Dev nD) (t : Fin cfg0.N) (r : Fin 256) (k : Fin 1024) (h : 256 * (t.val / 35) + r.val < 256) :
    iblk m c 0 t (ix2 r k) = X m c (ix2 ⟨256 * (t.val / 35) + r.val, h⟩ k) := by
  obtain ⟨e0, e1, e2, e3⟩ := ProjSampleBlock.idx t
  blk_ext [iblk, X, e0]

theorem scale_read (c : Dev nD) (t : Fin cfg0.N) (k : Fin 1024) :
    iblk m c 1 t (ix2 0 k) = G m c (ix2 0 k) := by
  obtain ⟨e0, e1, e2, e3⟩ := ProjSampleBlock.idx t
  blk_ext [iblk, G, e1]

theorem weight_read (c : Dev nD) (t : Fin cfg0.N) (k : Fin 1024) (j : Fin 512) (h : 512 * (t.val % 35) + j.val < 17920) :
    iblk m c 2 t (ix2 k j) = Y m c (ix2 k ⟨512 * (t.val % 35) + j.val, h⟩) := by
  obtain ⟨e0, e1, e2, e3⟩ := ProjSampleBlock.idx t
  blk_ext [iblk, Y, e2]

theorem place (t : Fin cfg0.N) (r : Fin 256) (j : Fin 512) (h : 256 * (t.val / 35) + r.val < 256)
    (h' : 512 * (t.val % 35) + j.val < 17920) :
    ((cfg0.win 3).blk t).view.emb (ix2 r j) = (ix2 ⟨256 * (t.val / 35) + r.val, h⟩ ⟨512 * (t.val % 35) + j.val, h'⟩ : S256x17920.Idx) := by
  obtain ⟨e0, e1, e2, e3⟩ := ProjSampleBlock.idx t
  blk_ext [e3]

theorem block (c : Dev nD) (t : Fin cfg0.N) (y : S256x512.Idx) :
    k0_pay2 (k0_pay1 (iblk m c 0 t) (iblk m c 1 t)) (iblk m c 2 t) y = result m c (((cfg0.win 3).blk t).view.emb y) := by
  obtain ⟨r, j, rfl⟩ : ∃ (r : Fin 256) (j : Fin 512), y = ix2 r j := ⟨y 0, y 1, eq_ix2 y⟩
  have ht : t.val < 35 := lt_of_lt_of_eq t.isLt N_0
  have h : 256 * (t.val / 35) + r.val < 256 := by omega
  have h' : 512 * (t.val % 35) + j.val < 17920 := by omega
  rw [place t r j h h', result, normed]
  unfold_payloads
  pointwise
  simp only [rows_read m c t _ _ h, scale_read, weight_read m c t _ _ h']

theorem flushes : ∀ t : Fin cfg0.N, (cfg0.win 3).flush t = true :=
  (by decide +kernel : ∀ t : Fin grid0.N, _)

/-- Every entry of the product is in some point's block. -/
theorem covered (i : S256x17920.Idx) :
    ∃ t : Fin cfg0.N, (cfg0.win 3).flush t = true ∧ i ∈ ((cfg0.win 3).blk t).view.set := by
  obtain ⟨r, j, rfl⟩ : ∃ (r : Fin 256) (j : Fin 17920), i = ix2 r j := ⟨i 0, i 1, eq_ix2 i⟩
  have h : 35 * (r.val / 256) + j.val / 512 < cfg0.N := lt_of_lt_of_eq (by omega) N_0.symm
  refine ⟨⟨35 * (r.val / 256) + j.val / 512, h⟩, flushes _, ?_⟩
  have e := place ⟨35 * (r.val / 256) + j.val / 512, h⟩ ⟨r.val % 256, by omega⟩ ⟨j.val % 512, by omega⟩
    (by simp only []; omega) (by simp only []; omega)
  rw [(congrArg₂ ix2 (Fin.ext (by simp only []; omega)) (Fin.ext (by simp only []; omega)) : ix2 r j = _).trans e.symm]
  exact View.emb_mem_set _ _

/-- After the run the array holds that product. -/
theorem array (c : Dev nD) : (dats m 0 c).arrAt 3 cfg0.N = result m c :=
  (dats m 0 c).arrAt_eq_of_cover 3 _ (fun t _ => by
    show (cfg0.win 3).cut (grid0.coords t) ((dats m 0 c).after 3 t) = _
    rw [after0_3, ProjSampleBlock.out]
    exact funext fun y => block m c t y) covered

theorem normed_at (x : FVec Ideal S256x1024 .f32) (g : FVec Ideal S1x1024 .f32) (y : FVec Ideal S1024x17920 .bf16)
    (r : Fin 256) (j : Fin 17920) : normed x g y (ix2 r j) = ∑ k : Fin 1024, x (ix2 r k)
      * Ideal.rsqrt (Ideal.div (∑ l : Fin 1024, x (ix2 r l) * x (ix2 r l)) (Ideal.ofBits .f32 0x44800000#32)
        + Ideal.ofBits .f32 0x358637BD#32) * g (ix2 0 k) * y (ix2 k j) := rfl

/-- The rows are the sequences', one after the other. -/
theorem rows (c : Dev nD) (b : Fin 32) (t : Fin 8) (k : Fin 1024) :
    X m c (ix2 (row b t) k) = m ((c : Thread nD τ).loc main_arg0) (ix3 b t k) := by
  simp only [X, V, V0, List.flatten_cons, List.flatten_nil, List.append_nil, List.cons_append, List.nil_append]
  after_results_simp
  pointwise
  have e : (row b t).val / 8 = b.val := by simp only [row]; omega
  have e' : (row b t).val % 8 = t.val := by simp only [row]; omega
  simp only [e, e']

theorem scale (c : Dev nD) (k : Fin 1024) : G m c (ix2 0 k) = m ((c : Thread nD τ).loc main_arg1) (ix1 k) := by
  simp only [G, V, V0, List.flatten_cons, List.flatten_nil, List.append_nil, List.cons_append, List.nil_append]
  after_results_simp
  pointwise

theorem weight (c : Dev nD) (k : Fin 1024) (j : Fin 17696) :
    Y m c (ix2 k (column j)) = m ((c : Thread nD τ).loc main_arg2) (ix2 k j) := ProjSampleWeight.weight m c k j

/-- The buffers after the region. -/
abbrev W (c : Dev nD) : Valuation τ sig (Elt Ideal) :=
  Pipeline.withArrays spec0 c (V0 m c) fun w => (dats m 0 c).arrAt w cfg0.N

/-- The projected rows of the reference, from the launch's own arguments. -/
abbrev projected (c : Dev nD) (b : Fin 32) (t : Fin 8) (j : Fin 17696) : Elt Ideal .f32 :=
  Cert.ProjSampleRefIdeal.Read.val_main_v13 (F := Ideal) (m ((c : Thread nD τ).loc main_arg0)) (m ((c : Thread nD τ).loc main_arg1))
    (m ((c : Thread nD τ).loc main_arg2)) (ix3 b t j)

/-- The product's entry is the reference's, at the place that the column order gives it. -/
theorem product (c : Dev nD) (b : Fin 32) (t : Fin 8) (j : Fin 17696) :
    ProjSampleTail.product (W m c) (ix2 (row b t) (column j)) = projected m c b t j := by
  have e : ProjSampleTail.product (W m c) = result m c := (Pipeline.withArrays_arr spec0 launch0.win.arr_inj c _ _ 3).trans (array m c)
  rw [e, projected, ProjSampleRef.projected, result, normed_at]
  simp only [rows, scale, weight]

/-- The same, for a column of the product given by its own place. -/
theorem product_at (c : Dev nD) (b : Fin 32) (t : Fin 8) (j : Fin 17696) (p : Fin 17920) (e : p.val = (column j).val) :
    ProjSampleTail.product (W m c) (ix2 (row b t) p) = projected m c b t j := by
  rw [Fin.ext e]
  exact product m c b t j

/-- What the host operations after the region leave in a buffer. -/
theorem tail (c : Dev nD) (b : Ref sig .tc) :
    Pipeline.afterTail₀ cfgs (dats m) 0 (V0 m) [hostOps1] c b = StableHlo.after hostOps1 (W m c) (Proc.devRef .tc b) := by
  show StableHlo.after (hostOps1 ++ []) _ _ = _
  rw [List.append_nil]

theorem later (j : Fin 17696) (h : 5408 ≤ j.val) : (column j).val = j.val - 5408 := by
  simp only [column]
  split_ifs <;> omega

/-- So the run leaves that in every buffer that is not the region's own. -/
theorem left (r : PUnit × MemSt nD τ sig (Elt Ideal))
    (h : Pipeline.FramePost cfgs (dats m) 0 (Pipeline.afterTail₀ cfgs (dats m) 0 (V0 m) [hostOps1]) r) (c : Dev nD) (b : Ref sig .tc)
    (hb : b ∈ Pipeline.restRefs sig spec0) :
    r.2.mem ((c.tc : Thread nD τ).loc b) = StableHlo.after hostOps1 (W m c) (Proc.devRef .tc b) :=
  ((h c).2 b hb).trans (tail m c b)

/-- The three caches are there as they came. -/
theorem cache0 (c : Dev nD) : W m c (Proc.devRef .tc main_arg3) = m ((c : Thread nD τ).loc main_arg3) :=
  (Pipeline.withArrays_of_ne spec0 c _ _ main_arg3 (by decide)).trans (V_main_arg3 m c)

theorem cache1 (c : Dev nD) : W m c (Proc.devRef .tc main_arg4) = m ((c : Thread nD τ).loc main_arg4) :=
  (Pipeline.withArrays_of_ne spec0 c _ _ main_arg4 (by decide)).trans (V_main_arg4 m c)

theorem cache2 (c : Dev nD) : W m c (Proc.devRef .tc main_arg5) = m ((c : Thread nD τ).loc main_arg5) :=
  (Pipeline.withArrays_of_ne spec0 c _ _ main_arg5 (by decide)).trans (V_main_arg5 m c)

/-! Each result is the reference's. -/

theorem attention (c : Dev nD) : StableHlo.after hostOps1 (W m c) (Proc.devRef .tc main_v61)
    = Cert.ProjSampleRefIdeal.Read.val_main_v16 (F := Ideal) (m ((c : Thread nD τ).loc main_arg0)) (m ((c : Thread nD τ).loc main_arg1)) (m ((c : Thread nD τ).loc main_arg2)) := by
  funext y
  obtain ⟨b, t, j, rfl⟩ : ∃ (b : Fin 32) (t : Fin 8) (j : Fin 9216), y = ix3 b t j := ⟨y 0, y 1, y 2, eq_ix3 y⟩
  rw [ProjSampleTail.attention, ProjSampleRef.attention]
  exact product_at m c _ _ _ _ (by simp only [column]; split_ifs <;> omega)

theorem gate (c : Dev nD) : StableHlo.after hostOps1 (W m c) (Proc.devRef .tc main_v62)
    = Cert.ProjSampleRefIdeal.Read.val_main_v17 (F := Ideal) (m ((c : Thread nD τ).loc main_arg0)) (m ((c : Thread nD τ).loc main_arg1)) (m ((c : Thread nD τ).loc main_arg2)) := by
  funext y
  obtain ⟨b, t, j, rfl⟩ : ∃ (b : Fin 32) (t : Fin 8) (j : Fin 3072), y = ix3 b t j := ⟨y 0, y 1, y 2, eq_ix3 y⟩
  rw [ProjSampleTail.gate, ProjSampleRef.gate]
  exact product_at m c _ _ _ _ (by simp only [column]; split_ifs <;> omega)

theorem gated (c : Dev nD) : StableHlo.after hostOps1 (W m c) (Proc.devRef .tc main_v60)
    = Cert.ProjSampleRefIdeal.Read.val_main_v15 (F := Ideal) (m ((c : Thread nD τ).loc main_arg0)) (m ((c : Thread nD τ).loc main_arg1)) (m ((c : Thread nD τ).loc main_arg2)) := by
  funext y
  obtain ⟨b, t, j, rfl⟩ : ∃ (b : Fin 32) (t : Fin 8) (j : Fin 2048), y = ix3 b t j := ⟨y 0, y 1, y 2, eq_ix3 y⟩
  rw [ProjSampleTail.gated, ProjSampleRef.gated]
  exact product_at m c _ _ _ _ (by simp only [column]; split_ifs <;> omega)

theorem recurrence (c : Dev nD) : StableHlo.after hostOps1 (W m c) (Proc.devRef .tc main_v59)
    = Cert.ProjSampleRefIdeal.Read.val_main_v14 (F := Ideal) (m ((c : Thread nD τ).loc main_arg0)) (m ((c : Thread nD τ).loc main_arg1)) (m ((c : Thread nD τ).loc main_arg2)) := by
  funext y
  obtain ⟨b, t, j, rfl⟩ : ∃ (b : Fin 32) (t : Fin 8) (j : Fin 3360), y = ix3 b t j := ⟨y 0, y 1, y 2, eq_ix3 y⟩
  rw [ProjSampleTail.recurrence, ProjSampleRef.recurrence]
  exact product_at m c _ _ _ _ (by simp only [column, recurrent]; split_ifs <;> omega)

theorem shift (c : Dev nD) : StableHlo.after hostOps1 (W m c) (Proc.devRef .tc main_v24)
    = Cert.ProjSampleRefIdeal.Read.val_main_v65 (F := Ideal) (m ((c : Thread nD τ).loc main_arg0)) (m ((c : Thread nD τ).loc main_arg1)) (m ((c : Thread nD τ).loc main_arg2)) := by
  funext y
  obtain ⟨b, j, rfl⟩ : ∃ (b : Fin 32) (j : Fin 3360), y = ix2 b j := ⟨y 0, y 1, eq_ix2 y⟩
  rw [ProjSampleTail.shift, ProjSampleRef.shift]
  exact product_at m c _ _ _ _ (by simp only [column, recurrent]; split_ifs <;> omega)

theorem kv128 (c : Dev nD) : StableHlo.after hostOps1 (W m c) (Proc.devRef .tc main_v35)
    = Cert.ProjSampleRefIdeal.Read.val_main_v33 (F := Ideal) (m ((c : Thread nD τ).loc main_arg0)) (m ((c : Thread nD τ).loc main_arg1)) (m ((c : Thread nD τ).loc main_arg2))
        (m ((c : Thread nD τ).loc main_arg3)) := by
  funext y
  obtain ⟨b, k, s, h, d, rfl⟩ : ∃ (b : Fin 32) (k : Fin 2) (s : Fin 128) (h : Fin 16) (d : Fin 64), y = ix5 b k s h d := ⟨y 0, y 1, y 2, y 3, y 4, eq_ix5 y⟩
  rw [ProjSampleTail.kv128, ProjSampleRef.kv128, cache0]
  exact congrArg (kept _ · s) (funext fun t => product_at m c _ _ _ _
    (by rw [later _ (Nat.le_add_right _ _)]; simp only [cached, ProjRef.cached]; omega))

theorem kv512 (c : Dev nD) : StableHlo.after hostOps1 (W m c) (Proc.devRef .tc main_v44)
    = Cert.ProjSampleRefIdeal.Read.val_main_v48 (F := Ideal) (m ((c : Thread nD τ).loc main_arg0)) (m ((c : Thread nD τ).loc main_arg1)) (m ((c : Thread nD τ).loc main_arg2))
        (m ((c : Thread nD τ).loc main_arg4)) := by
  funext y
  obtain ⟨b, k, s, h, d, rfl⟩ : ∃ (b : Fin 32) (k : Fin 2) (s : Fin 512) (h : Fin 16) (d : Fin 64), y = ix5 b k s h d := ⟨y 0, y 1, y 2, y 3, y 4, eq_ix5 y⟩
  rw [ProjSampleTail.kv512, ProjSampleRef.kv512, cache1]
  exact congrArg (kept _ · s) (funext fun t => product_at m c _ _ _ _
    (by rw [later _ (Nat.le_add_right _ _)]; simp only [cached, ProjRef.cached]; omega))

theorem kv2048 (c : Dev nD) : StableHlo.after hostOps1 (W m c) (Proc.devRef .tc main_v53)
    = Cert.ProjSampleRefIdeal.Read.val_main_v63 (F := Ideal) (m ((c : Thread nD τ).loc main_arg0)) (m ((c : Thread nD τ).loc main_arg1)) (m ((c : Thread nD τ).loc main_arg2))
        (m ((c : Thread nD τ).loc main_arg5)) := by
  funext y
  obtain ⟨b, k, s, h, d, rfl⟩ : ∃ (b : Fin 32) (k : Fin 2) (s : Fin 2048) (h : Fin 16) (d : Fin 64), y = ix5 b k s h d := ⟨y 0, y 1, y 2, y 3, y 4, eq_ix5 y⟩
  rw [ProjSampleTail.kv2048, ProjSampleRef.kv2048, cache2]
  exact congrArg (kept _ · s) (funext fun t => product_at m c _ _ _ _
    (by rw [later _ (Nat.le_add_right _ _)]; simp only [cached, ProjRef.cached]; omega))

end Cert.ProjSampleEq

namespace Cert.ProjSampleEq

open Idealize.ShloMosaic Idealize.SL.Sem

/-- From the same arguments the kernel's idealization and the reference end with the same eight arrays. -/
theorem algebraic : Cert.algebraic_ProjSampleIdeal_ProjSampleRefIdeal := by
  intro m ρ m' ρ' _ hagree
  refine ⟨fun c => StableHlo.after Cert.ProjSampleIdeal.Gen.hostOps1 (W m c) (Proc.devRef .tc Cert.ProjSampleIdeal.main_v59),
    fun c => StableHlo.after Cert.ProjSampleIdeal.Gen.hostOps1 (W m c) (Proc.devRef .tc Cert.ProjSampleIdeal.main_v60),
    fun c => StableHlo.after Cert.ProjSampleIdeal.Gen.hostOps1 (W m c) (Proc.devRef .tc Cert.ProjSampleIdeal.main_v61),
    fun c => StableHlo.after Cert.ProjSampleIdeal.Gen.hostOps1 (W m c) (Proc.devRef .tc Cert.ProjSampleIdeal.main_v62),
    fun c => StableHlo.after Cert.ProjSampleIdeal.Gen.hostOps1 (W m c) (Proc.devRef .tc Cert.ProjSampleIdeal.main_v24),
    fun c => StableHlo.after Cert.ProjSampleIdeal.Gen.hostOps1 (W m c) (Proc.devRef .tc Cert.ProjSampleIdeal.main_v35),
    fun c => StableHlo.after Cert.ProjSampleIdeal.Gen.hostOps1 (W m c) (Proc.devRef .tc Cert.ProjSampleIdeal.main_v44),
    fun c => StableHlo.after Cert.ProjSampleIdeal.Gen.hostOps1 (W m c) (Proc.devRef .tc Cert.ProjSampleIdeal.main_v53), ?_, ?_⟩
  · refine (θ_run _ _ _).mono (fun _ h c => ?_) (θ_run_and (Cert.ProjSampleIdeal.Gen.run_main m ρ) (Cert.ProjSampleIdeal.Gen.unchanged m ρ))
    exact ⟨left m _ h.1 c Cert.ProjSampleIdeal.main_v59 (Pipeline.mem_restRefs_of _ (by decide) (by decide)),
      left m _ h.1 c Cert.ProjSampleIdeal.main_v60 (Pipeline.mem_restRefs_of _ (by decide) (by decide)),
      left m _ h.1 c Cert.ProjSampleIdeal.main_v61 (Pipeline.mem_restRefs_of _ (by decide) (by decide)),
      left m _ h.1 c Cert.ProjSampleIdeal.main_v62 (Pipeline.mem_restRefs_of _ (by decide) (by decide)),
      left m _ h.1 c Cert.ProjSampleIdeal.main_v24 (Pipeline.mem_restRefs_of _ (by decide) (by decide)),
      left m _ h.1 c Cert.ProjSampleIdeal.main_v35 (Pipeline.mem_restRefs_of _ (by decide) (by decide)),
      left m _ h.1 c Cert.ProjSampleIdeal.main_v44 (Pipeline.mem_restRefs_of _ (by decide) (by decide)),
      left m _ h.1 c Cert.ProjSampleIdeal.main_v53 (Pipeline.mem_restRefs_of _ (by decide) (by decide)), h.2 c⟩
  · refine (θ_run _ _ _).mono (fun _ h c => ?_) (Cert.ProjSampleRefIdeal.Value.run (F := Ideal) m' ρ')
    obtain rfl : c = 0 := Subsingleton.elim _ _
    obtain ⟨h0, h1, h2, h3, h4, h5, h6, h7, hargs⟩ := h 0
    obtain ⟨a0, a1, a2, a3, a4, a5⟩ := hagree 0
    refine ⟨h0.trans ?_, h1.trans ?_, h2.trans ?_, h3.trans ?_, h4.trans ?_, h5.trans ?_, h6.trans ?_, h7.trans ?_, hargs⟩
    · rw [Cert.ProjSampleRefIdeal.Read.val_main_v14_eq, a0, a1, a2]; exact (recurrence m 0).symm
    · rw [Cert.ProjSampleRefIdeal.Read.val_main_v15_eq, a0, a1, a2]; exact (gated m 0).symm
    · rw [Cert.ProjSampleRefIdeal.Read.val_main_v16_eq, a0, a1, a2]; exact (attention m 0).symm
    · rw [Cert.ProjSampleRefIdeal.Read.val_main_v17_eq, a0, a1, a2]; exact (gate m 0).symm
    · rw [Cert.ProjSampleRefIdeal.Read.val_main_v65_eq, a0, a1, a2]; exact (shift m 0).symm
    · rw [Cert.ProjSampleRefIdeal.Read.val_main_v33_eq, a0, a1, a2, a3]; exact (kv128 m 0).symm
    · rw [Cert.ProjSampleRefIdeal.Read.val_main_v48_eq, a0, a1, a2, a4]; exact (kv512 m 0).symm
    · rw [Cert.ProjSampleRefIdeal.Read.val_main_v63_eq, a0, a1, a2, a5]; exact (kv2048 m 0).symm

end Cert.ProjSampleEq

end
-- ==== Proof.AttnMath.lean ====
/-
  Attention over three groups of keys, as equations over the extended reals: the softmax over all keys, computed from
  each group's largest score, is the average of the groups' own softmaxes weighted by the softmax of their
  log-sum-exps.
-/
module

public import Idealize.ShloMosaic.PureOps.Ideal
public import Mathlib.Data.Finset.Fold
public import Mathlib.Tactic.FieldSimp
public import Mathlib.Tactic.Ring
public import Mathlib.Tactic.Linarith
public import Mathlib.Tactic.Positivity

@[expose] public section

noncomputable section

namespace Cert.AttnMath

open Idealize.ShloMosaic

/-! ### The kernel's and the reference's forms -/

/-- The largest of a group's scores: of the cached rows and of the new ones. -/
def top (a : Fin 128 → EReal) (b : Fin 8 → EReal) : EReal :=
  max (Finset.univ.fold max ⊥ a) (Finset.univ.fold max ⊥ b)

/-- The sum of a group's weights. -/
def den (a : Fin 128 → EReal) (b : Fin 8 → EReal) : EReal :=
  ∑ i, Ideal.exp (a i - top a b) + ∑ j, Ideal.exp (b j - top a b)

/-- The weighted sum of a group's values. -/
def num (a : Fin 128 → EReal) (b : Fin 8 → EReal) (vo : Fin 128 → EReal) (vn : Fin 8 → EReal) : EReal :=
  ∑ i, Ideal.exp (a i - top a b) * vo i + ∑ j, Ideal.exp (b j - top a b) * vn j

/-- The three groups together. -/
def mix (t0 t1 t2 d0 d1 d2 n0 n1 n2 : EReal) : EReal :=
  Ideal.div
    (n0 * Ideal.exp (t0 - max (max t0 t1) t2) + n1 * Ideal.exp (t1 - max (max t0 t1) t2)
      + n2 * Ideal.exp (t2 - max (max t0 t1) t2))
    (d0 * Ideal.exp (t0 - max (max t0 t1) t2) + d1 * Ideal.exp (t1 - max (max t0 t1) t2)
      + d2 * Ideal.exp (t2 - max (max t0 t1) t2))

/-- The logarithm of the sum of the exponentials, by the largest score. -/
def lse (x : Fin 129 → EReal) : EReal :=
  Ideal.log (∑ n, Ideal.exp (x n - Finset.univ.fold max ⊥ x)) + Finset.univ.fold max ⊥ x

/-- The softmax-weighted sum of a group's values. -/
def out (x v : Fin 129 → EReal) : EReal := ∑ n, Ideal.exp (x n - lse x) * v n

/-- The groups' averages weighted by the softmax of their log-sum-exps. -/
def blend (l o : Fin 3 → EReal) : EReal :=
  ∑ g, Ideal.div (Ideal.exp (l g - max ⊥ (Finset.univ.fold max ⊥ l)))
    (∑ k, Ideal.exp (l k - max ⊥ (Finset.univ.fold max ⊥ l))) * o g

/-! ### Sums, maxima and weights of reals -/

theorem coe_sum {ι : Type} (s : Finset ι) (f : ι → ℝ) :
    ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem real_of_ne {x : EReal} (h : x ≠ ⊤) (h' : x ≠ ⊥) : ∃ r : ℝ, x = r :=
  ⟨x.toReal, (EReal.coe_toReal h h').symm⟩

theorem fold_ne_top {n : ℕ} (f : Fin n → EReal) (h : ∀ i, f i ≠ ⊤) : Finset.univ.fold max ⊥ f ≠ ⊤ :=
  ((Finset.fold_max_lt _).mpr ⟨bot_lt_top, fun i _ => lt_top_iff_ne_top.mpr (h i)⟩).ne

theorem fold_ne_bot {n : ℕ} (f : Fin n → EReal) (i : Fin n) (h : f i ≠ ⊥) : Finset.univ.fold max ⊥ f ≠ ⊥ :=
  ((Finset.lt_fold_max _).mpr (.inr ⟨i, Finset.mem_univ i, bot_lt_iff_ne_bot.mpr h⟩)).ne'

/-- The largest of finitely many reals is a real. -/
theorem fold_real {n : ℕ} (f : Fin (n + 1) → ℝ) : ∃ M : ℝ, Finset.univ.fold max ⊥ (fun i => (f i : EReal)) = M :=
  real_of_ne (fold_ne_top _ fun i => EReal.coe_ne_top _) (fold_ne_bot _ 0 (EReal.coe_ne_bot _))

theorem exp_sub (x T : ℝ) : Ideal.exp ((x : EReal) - (T : EReal)) = ((Real.exp (-T) * Real.exp x : ℝ) : EReal) := by
  rw [← EReal.coe_sub, Ideal.exp_coe, ← Real.exp_add]
  congr 2
  ring

/-- The weight of a score that a mask may have replaced by the least value. -/
theorem exp_masked (c : Prop) [Decidable c] (x T : ℝ) :
    Ideal.exp ((if c then (x : EReal) else ⊥) - (T : EReal))
      = ((Real.exp (-T) * (if c then Real.exp x else 0) : ℝ) : EReal) := by
  split
  · exact exp_sub x T
  · rw [EReal.bot_sub, Ideal.exp_bot, mul_zero, EReal.coe_zero]

/-! ### Which key is which -/

/-- The number of steps back of cached row `i`, seen from row `s`. -/
def backOld (s dil i : ℕ) : Fin 129 := Fin.ofNat 129 (128 + s / dil - i)

/-- The number of steps back of new row `j`, seen from row `s`. -/
def backNew (s dil j : ℕ) : Fin 129 := Fin.ofNat 129 ((s - j) / dil)

/-- Each number of steps is that of one row, cached or new. -/
theorem sum_split (f : Fin 129 → ℝ) (s dil : ℕ) (hs : s < 8) (hd : dil = 1 ∨ dil = 4 ∨ dil = 16) :
    (∑ i : Fin 128, if s / dil ≤ i.val then f (backOld s dil i) else 0)
      + (∑ j : Fin 8, if j.val ≤ s ∧ (s - j.val) % dil = 0 then f (backNew s dil j) else 0) = ∑ n, f n := by
  rw [← Finset.sum_filter, ← Finset.sum_filter, ← Finset.sum_filter_add_sum_filter_not Finset.univ
    (fun n : Fin 129 => s / dil < n.val)]
  congr 1
  · refine Finset.sum_nbij' (fun i => backOld s dil i) (fun n => Fin.ofNat 128 (128 + s / dil - n.val)) ?_ ?_ ?_ ?_ ?_
    · intro i hi
      simp only [Finset.mem_filter, Finset.mem_univ, true_and, backOld, Fin.ofNat] at hi ⊢
      rcases hd with rfl | rfl | rfl <;> omega
    · intro n hn
      simp only [Finset.mem_filter, Finset.mem_univ, true_and, Fin.ofNat] at hn ⊢
      rcases hd with rfl | rfl | rfl <;> omega
    · intro i hi
      simp only [Finset.mem_filter, Finset.mem_univ, true_and, backOld, Fin.ofNat, Fin.ext_iff] at hi ⊢
      rcases hd with rfl | rfl | rfl <;> omega
    · intro n hn
      simp only [Finset.mem_filter, Finset.mem_univ, true_and, backOld, Fin.ofNat, Fin.ext_iff] at hn ⊢
      rcases hd with rfl | rfl | rfl <;> omega
    · intro i _; rfl
  · refine Finset.sum_nbij' (fun j => backNew s dil j) (fun n => Fin.ofNat 8 (s - dil * n.val)) ?_ ?_ ?_ ?_ ?_
    · intro j hj
      simp only [Finset.mem_filter, Finset.mem_univ, true_and, backNew, Fin.ofNat] at hj ⊢
      rcases hd with rfl | rfl | rfl <;> omega
    · intro n hn
      simp only [Finset.mem_filter, Finset.mem_univ, true_and, Fin.ofNat] at hn ⊢
      rcases hd with rfl | rfl | rfl <;> omega
    · intro j hj
      simp only [Finset.mem_filter, Finset.mem_univ, true_and, backNew, Fin.ofNat, Fin.ext_iff] at hj ⊢
      rcases hd with rfl | rfl | rfl <;> omega
    · intro n hn
      simp only [Finset.mem_filter, Finset.mem_univ, true_and, backNew, Fin.ofNat, Fin.ext_iff] at hn ⊢
      rcases hd with rfl | rfl | rfl <;> omega
    · intro j _; rfl

/-! ### One group -/

/-- A group's scores over cached and new rows, a row the mask leaves out at the least value. -/
structure Split (s dil : ℕ) (x : Fin 129 → ℝ) (a : Fin 128 → EReal) (b : Fin 8 → EReal) : Prop where
  old : ∀ i : Fin 128, a i = if s / dil ≤ i.val then (x (backOld s dil i) : EReal) else ⊥
  new : ∀ j : Fin 8, b j = if j.val ≤ s ∧ (s - j.val) % dil = 0 then (x (backNew s dil j) : EReal) else ⊥

/-- A group's values, where the mask leaves a row in. -/
structure Vals (s dil : ℕ) (v : Fin 129 → ℝ) (a : Fin 128 → EReal) (b : Fin 8 → EReal) : Prop where
  old : ∀ i : Fin 128, s / dil ≤ i.val → a i = (v (backOld s dil i) : EReal)
  new : ∀ j : Fin 8, j.val ≤ s ∧ (s - j.val) % dil = 0 → b j = (v (backNew s dil j) : EReal)

variable {s dil : ℕ} {x v : Fin 129 → ℝ} {a vo : Fin 128 → EReal} {b vn : Fin 8 → EReal}

theorem Split.top_real (h : Split s dil x a b) (hs : s < 8) : ∃ T : ℝ, top a b = T := by
  have hb : b ⟨s, hs⟩ ≠ ⊥ := by
    rw [h.new, if_pos ⟨le_refl s, by simp⟩]
    exact EReal.coe_ne_bot _
  refine real_of_ne (max_lt (lt_top_iff_ne_top.mpr (fold_ne_top _ fun i => ?_))
    (lt_top_iff_ne_top.mpr (fold_ne_top _ fun j => ?_))).ne
    (lt_max_of_lt_right (bot_lt_iff_ne_bot.mpr (fold_ne_bot _ _ hb))).ne'
  · rw [h.old]; split
    · exact EReal.coe_ne_top _
    · exact bot_ne_top
  · rw [h.new]; split
    · exact EReal.coe_ne_top _
    · exact bot_ne_top

theorem Split.den_eq (h : Split s dil x a b) (hs : s < 8) (hd : dil = 1 ∨ dil = 4 ∨ dil = 16) {T : ℝ}
    (hT : top a b = T) : den a b = ((Real.exp (-T) * ∑ n, Real.exp (x n) : ℝ) : EReal) := by
  unfold den
  rw [hT]
  simp only [h.old, h.new, exp_masked, coe_sum]
  rw [← EReal.coe_add, ← Finset.mul_sum, ← Finset.mul_sum, ← mul_add,
    sum_split (fun n => Real.exp (x n)) s dil hs hd]

theorem Split.num_eq (h : Split s dil x a b) (hv : Vals s dil v vo vn) (hs : s < 8)
    (hd : dil = 1 ∨ dil = 4 ∨ dil = 16) {T : ℝ} (hT : top a b = T) :
    num a b vo vn = ((Real.exp (-T) * ∑ n, Real.exp (x n) * v n : ℝ) : EReal) := by
  have hold : ∀ i : Fin 128, Ideal.exp (a i - (T : EReal)) * vo i
      = ((Real.exp (-T) * (if s / dil ≤ i.val then Real.exp (x (backOld s dil i)) * v (backOld s dil i) else 0) : ℝ)
        : EReal) := by
    intro i
    rw [h.old, exp_masked]
    split
    · rename_i hi
      rw [hv.old i hi, ← EReal.coe_mul, mul_assoc]
    · rw [mul_zero, EReal.coe_zero, zero_mul]
  have hnew : ∀ j : Fin 8, Ideal.exp (b j - (T : EReal)) * vn j
      = ((Real.exp (-T) * (if j.val ≤ s ∧ (s - j.val) % dil = 0
          then Real.exp (x (backNew s dil j)) * v (backNew s dil j) else 0) : ℝ) : EReal) := by
    intro j
    rw [h.new, exp_masked]
    split
    · rename_i hj
      rw [hv.new j hj, ← EReal.coe_mul, mul_assoc]
    · rw [mul_zero, EReal.coe_zero, zero_mul]
  unfold num
  rw [hT]
  simp only [hold, hnew, coe_sum]
  rw [← EReal.coe_add, ← Finset.mul_sum, ← Finset.mul_sum, ← mul_add,
    sum_split (fun n => Real.exp (x n) * v n) s dil hs hd]

theorem sum_exp_pos (x : Fin 129 → ℝ) : 0 < ∑ n, Real.exp (x n) :=
  Finset.sum_pos (fun _ _ => Real.exp_pos _) ⟨0, Finset.mem_univ _⟩

/-- The log-sum-exp does not depend on the score it is taken from. -/
theorem lse_eq (x : Fin 129 → ℝ) : lse (fun n => (x n : EReal)) = (Real.log (∑ n, Real.exp (x n)) : EReal) := by
  obtain ⟨M, hM⟩ := fold_real x
  unfold lse
  rw [hM]
  simp only [exp_sub, coe_sum, ← Finset.mul_sum]
  rw [Ideal.log_coe, if_neg (not_le.mpr (mul_pos (Real.exp_pos _) (sum_exp_pos x))),
    Real.log_mul (Real.exp_pos _).ne' (sum_exp_pos x).ne', Real.log_exp, ← EReal.coe_add]
  congr 1
  ring

theorem out_eq (x v : Fin 129 → ℝ) : out (fun n => (x n : EReal)) (fun n => (v n : EReal))
    = (((∑ n, Real.exp (x n) * v n) / ∑ n, Real.exp (x n) : ℝ) : EReal) := by
  unfold out
  rw [lse_eq]
  simp only [exp_sub, ← EReal.coe_mul, coe_sum]
  congr 1
  simp only [mul_assoc, ← Finset.mul_sum]
  rw [Real.exp_neg, Real.exp_log (sum_exp_pos x)]
  field_simp

/-! ### The three groups -/

section Groups
variable (Z Y : Fin 3 → ℝ)

theorem blend_eq (hZ : ∀ g, 0 < Z g) :
    blend (fun g => (Real.log (Z g) : EReal)) (fun g => ((Y g / Z g : ℝ) : EReal))
      = (((Y 0 + Y 1 + Y 2) / (Z 0 + Z 1 + Z 2) : ℝ) : EReal) := by
  obtain ⟨M, hM⟩ := fold_real fun g => Real.log (Z g)
  have hsum : 0 < ∑ g, Real.exp (-M) * Z g :=
    Finset.sum_pos (fun g _ => mul_pos (Real.exp_pos _) (hZ g)) ⟨0, Finset.mem_univ _⟩
  unfold blend
  rw [hM, max_eq_right bot_le]
  simp only [exp_sub, Real.exp_log (hZ _), coe_sum, Ideal.div_coe hsum.ne', ← EReal.coe_mul]
  congr 1
  rw [← Finset.mul_sum]
  simp only [Fin.sum_univ_three]
  have h0 := hZ 0
  have h1 := hZ 1
  have h2 := hZ 2
  have he := Real.exp_pos (-M)
  field_simp

theorem mix_eq (hZ : ∀ g, 0 < Z g) (T : Fin 3 → ℝ) :
    mix (T 0) (T 1) (T 2) ((Real.exp (-T 0) * Z 0 : ℝ) : EReal) ((Real.exp (-T 1) * Z 1 : ℝ) : EReal)
        ((Real.exp (-T 2) * Z 2 : ℝ) : EReal) ((Real.exp (-T 0) * Y 0 : ℝ) : EReal)
        ((Real.exp (-T 1) * Y 1 : ℝ) : EReal) ((Real.exp (-T 2) * Y 2 : ℝ) : EReal)
      = (((Y 0 + Y 1 + Y 2) / (Z 0 + Z 1 + Z 2) : ℝ) : EReal) := by
  obtain ⟨M, hM⟩ : ∃ M : ℝ, max (max (T 0 : EReal) (T 1)) (T 2) = M :=
    ⟨max (max (T 0) (T 1)) (T 2), by rw [EReal.coe_strictMono.monotone.map_max, EReal.coe_strictMono.monotone.map_max]⟩
  have hc : ∀ t y : ℝ, ((Real.exp (-t) * y : ℝ) : EReal) * Ideal.exp ((t : EReal) - (M : EReal))
      = ((Real.exp (-M) * y : ℝ) : EReal) := by
    intro t y
    rw [exp_sub, ← EReal.coe_mul]
    congr 1
    have : Real.exp (-t) * Real.exp t = 1 := by rw [← Real.exp_add, neg_add_cancel, Real.exp_zero]
    linear_combination (Real.exp (-M) * y) * this
  have h0 := hZ 0
  have h1 := hZ 1
  have h2 := hZ 2
  have he := Real.exp_pos (-M)
  unfold mix
  rw [hM, hc, hc, hc, hc, hc, hc, ← EReal.coe_add, ← EReal.coe_add, ← EReal.coe_add, ← EReal.coe_add,
    Ideal.div_coe (by positivity), ← EReal.coe_mul]
  congr 1
  field_simp

end Groups

end Cert.AttnMath
-- ==== Proof.AttnSpec.lean ====
/-
  What attention of the sample group reads and scores, for one sequence: keys and values of the cached rows followed by
  the new rows, the slopes, and the score of the key a number of steps back.
-/
module

public import proofs.«01_k».proof.Proof.AttnMath
public import Idealize.ShloMosaic.Lib.ValueIdx

@[expose] public section

noncomputable section

namespace Cert.AttnSpec

open Idealize.ShloMosaic

/-- The column of the projected array with component `d` of head `h` of group `g`: its query, key or value. -/
def col (g kind : Fin 3) (h : Fin 16) (d : Fin 64) : Fin 9216 :=
  ⟨g.val * 3072 + kind.val * 1024 + h.val * 64 + d.val, by omega⟩

/-- The slope of a head. -/
def slope (h : Fin 16) : EReal :=
  Ideal.exp (Ideal.ofBits .f32 0x3F317218#32 * Ideal.div
    (Ideal.ofBits .f32 0xC1000000#32 * (1
      + FloatOps.sitofp (F := Ideal) .f32 (BitVec.ofNat 32 h.val))) (Ideal.ofBits .f32 0x41800000#32))

/-- Where the key `n` steps back from row `s` lies among the cached rows and the new ones. -/
def pos (dil s n : ℕ) : ℕ := s + 128 * dil - dil * n

section
variable (dil : ℕ) (g : Fin 3) (za : Fin 8 → Fin 9216 → EReal)
  (cache : Fin 2 → Fin (128 * dil) → Fin 16 → Fin 64 → EReal)

/-- Keys (0) or values (1) at a place among the cached rows and the new ones. -/
def past (kv : Fin 2) (h : Fin 16) (c : ℕ) (d : Fin 64) : EReal :=
  if hc : c < 128 * dil then cache kv ⟨c, hc⟩ h d else za (Fin.ofNat 8 (c - 128 * dil)) (col g kv.succ h d)

/-- The penalty of distance for a head. -/
def penalty (h : Fin 16) (n : ℕ) : EReal :=
  slope h * FloatOps.sitofp (F := Ideal) .f32 (IntOp.muli (BitVec.ofNat 32 dil) (BitVec.ofNat 32 n))

/-- The score of the key `n` steps back from row `s`. -/
def score (s : Fin 8) (h : Fin 16) (n : Fin 129) : EReal :=
  (∑ d, za s (col g 0 h d) * past dil g za cache 0 h (pos dil s n) d) * Ideal.ofBits .f32 0x3E000000#32
    - penalty dil h n

/-- The value of the key `n` steps back from row `s`. -/
def value (s : Fin 8) (h : Fin 16) (d : Fin 64) (n : Fin 129) : EReal :=
  past dil g za cache 1 h (pos dil s n) d

end

/-! ### What is finite -/

/-- A value that is neither infinity. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ i, IsReal (f i)) : IsReal (∑ i, f i) := by
  choose r hr using h
  exact ⟨∑ i, r i, by simp only [hr, AttnMath.coe_sum]⟩

theorem IsReal.exp {x : EReal} : IsReal x → IsReal (Ideal.exp x)
  | ⟨a, ha⟩ => ⟨Real.exp a, by rw [ha, Ideal.exp_coe]⟩

/-- A pattern whose exponent is not all ones stands for a real. -/
theorem ofBits_real (b : BitVec 32) (h : (b.extractLsb' 23 8).toNat ≠ 2 ^ 8 - 1) : IsReal (Ideal.ofBits .f32 b) := by
  show IsReal (Ideal.ieee 8 23 b)
  unfold Ideal.ieee
  simp only [if_neg h]
  split
  · exact ⟨_, rfl⟩
  · exact ⟨_, rfl⟩

theorem sitofp_real (b : BitVec 32) : IsReal (FloatOps.sitofp (F := Ideal) .f32 b) := ⟨_, rfl⟩

theorem sixteen : Ideal.ofBits .f32 0x41800000#32 = ((16 : ℝ) : EReal) := by
  simp [Ideal.ofBits, Ideal.ieee, -EReal.coe_mul]
  norm_num

theorem slope_real (h : Fin 16) : IsReal (slope h) := by
  unfold slope
  refine IsReal.exp (IsReal.mul (ofBits_real _ (by decide)) ?_)
  rw [sixteen, Ideal.div_coe (by norm_num)]
  exact IsReal.mul (IsReal.mul (ofBits_real _ (by decide)) (IsReal.add ⟨1, rfl⟩ (sitofp_real _))) ⟨_, rfl⟩

section
variable {dil : ℕ} {g : Fin 3} {za : Fin 8 → Fin 9216 → EReal}
  {cache : Fin 2 → Fin (128 * dil) → Fin 16 → Fin 64 → EReal}

theorem past_real (hz : ∀ j k, IsReal (za j k)) (hc : ∀ kv c h d, IsReal (cache kv c h d)) (kv : Fin 2) (h : Fin 16)
    (c : ℕ) (d : Fin 64) : IsReal (past dil g za cache kv h c d) := by
  unfold past
  split
  · exact hc _ _ _ _
  · exact hz _ _

theorem score_real (hz : ∀ j k, IsReal (za j k)) (hc : ∀ kv c h d, IsReal (cache kv c h d)) (s : Fin 8) (h : Fin 16)
    (n : Fin 129) : IsReal (score dil g za cache s h n) :=
  IsReal.sub (IsReal.mul (IsReal.sum fun _ => IsReal.mul (hz _ _) (past_real hz hc _ _ _ _))
    (ofBits_real _ (by decide))) (IsReal.mul (slope_real h) (sitofp_real _))

theorem value_real (hz : ∀ j k, IsReal (za j k)) (hc : ∀ kv c h d, IsReal (cache kv c h d)) (s : Fin 8) (h : Fin 16)
    (d : Fin 64) (n : Fin 129) : IsReal (value dil g za cache s h d n) := past_real hz hc _ _ _ _

end

end Cert.AttnSpec
-- ==== Proof.AttnBlock.lean ====
/-
  Attention of the sample group, eight heads of one sequence at a time: what a point stores, one row of new positions
  after the other, each row from its three dilation groups.
-/
module

public import proofs.«01_k».proof.Proof.Gen.AttnIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.AttnBlock

open Cert.AttnIdeal Cert.AttnIdeal.Gen Idealize.ShloMosaic Idealize.ShloMosaic.TcCoe Idealize.SL.Sem

variable {F : FTy → Type} [FloatOps F] [Named F]

/-- The slopes of the eight heads. -/
def slopes (x0 : Vec F S1x8x128 .f32) : FVec F S1x8x1 .f32 :=
  extractStridedSlice S1x8x1 ![0, 0, 0] (shapeCast S1x8x128 (View.ld x0 r0_0) shapeCasts_S1x8x128_S1x8x128)
    slices_S1x8x128_o0_0_0_S1x8x1

/-- How many steps back each cached row is; `far` is the distance of row 0. -/
def steps (far : BitVec 32) : IVec S128x1x1 32 :=
  subi (broadcast S128x1x1 far) (iota .tc S128x1x1 32 [0] iota_S128x1x1_d0_w32)

/-- The scores of the cached rows: scaled products less the slope times the distance, masked beyond 128 steps. -/
def oldScore (far dil : BitVec 32) (slope : FVec F S1x8x1 .f32) (q : FVec F S8x64 .f32)
    (kc : FVec F S128x8x64 .f32) : FVec F S128x8x1 .f32 :=
  select
    (broadcastTo S128x8x1
      (shapeCast S128x1x1 (cmpi .sle (steps far) (broadcast S128x1x1 128#32)) shapeCasts_S128x1x1_S128x1x1)
      broadcasts_S128x1x1_S128x8x1)
    (subf
      (mulf
        (shapeCast S128x8x1
          (multiReduction .add [2] S128x8
            (mulf kc (broadcastTo S128x8x64 (shapeCast S1x8x64 q shapeCasts_S8x64_S1x8x64)
              broadcasts_S1x8x64_S128x8x64))
            0x00000000#32 reduces_S128x8x64_S128x8 (.inl rfl) rfl)
          shapeCasts_S128x8_S128x8x1)
        (broadcast S128x8x1 (Scalar.ofBits .f32 0x3E000000#32)))
      (mulf (broadcastTo S128x8x1 slope broadcasts_S1x8x1_S128x8x1)
        (broadcastTo S128x8x1 (sitofp .f32 (muli (steps far) (broadcast S128x1x1 dil)))
          broadcasts_S128x1x1_S128x8x1)))
    (broadcast S128x8x1 (Named.named κ "mask" 0xF149F2CA#32))

/-- How far each new row is before row `s`. -/
def gap (s : BitVec 32) : IVec S8x1x1 32 :=
  subi (broadcast S8x1x1 s) (iota .tc S8x1x1 32 [0] iota_S8x1x1_d0_w32)

/-- Which new rows row `s` sees: none after it, those a multiple of the dilation away, none beyond the window. -/
def allowed (s dil bound : BitVec 32) : IVec S8x1x1 1 :=
  let k : BitVec 32 := Scalar.select (Scalar.cmpi .eq dil 0#32) 1#32 dil
  let r : IVec S8x1x1 32 := remsi (gap s) (broadcast S8x1x1 k)
  andi
    (andi (cmpi .sge (gap s) (broadcast S8x1x1 0#32))
      (cmpi .eq
        (select
          (andi
            (xori (cmpi .slt r (broadcast S8x1x1 0#32))
              (broadcastTo S8x1x1 (broadcast S8x1x1 (Scalar.cmpi .slt k 0#32)) broadcasts_S8x1x1_S8x1x1))
            (cmpi .ne r (broadcast S8x1x1 0#32)))
          (addi r (broadcast S8x1x1 k)) r)
        (broadcast S8x1x1 0#32)))
    (cmpi .sle (gap s) (broadcast S8x1x1 bound))

/-- The scores of the new rows. -/
def newScore (s dil bound : BitVec 32) (slope : FVec F S1x8x1 .f32) (q : FVec F S8x64 .f32)
    (kn : FVec F S8x8x64 .f32) : FVec F S8x8x1 .f32 :=
  select
    (broadcastTo S8x8x1 (shapeCast S8x1x1 (allowed s dil bound) shapeCasts_S8x1x1_S8x1x1)
      broadcasts_S8x1x1_S8x8x1)
    (subf
      (mulf
        (shapeCast S8x8x1
          (multiReduction .add [2] S8x8
            (mulf kn (broadcastTo S8x8x64 (shapeCast S1x8x64 q shapeCasts_S8x64_S1x8x64)
              broadcasts_S1x8x64_S8x8x64))
            0x00000000#32 reduces_S8x8x64_S8x8 (.inl rfl) rfl)
          shapeCasts_S8x8_S8x8x1)
        (broadcast S8x8x1 (Scalar.ofBits .f32 0x3E000000#32)))
      (mulf (broadcastTo S8x8x1 slope broadcasts_S1x8x1_S8x8x1)
        (broadcastTo S8x8x1 (sitofp .f32 (gap s)) broadcasts_S8x1x1_S8x8x1)))
    (broadcast S8x8x1 (Named.named κ "mask" 0xF149F2CA#32))

/-- The largest score of a group. -/
def top (a : FVec F S128x8x1 .f32) (b : FVec F S8x8x1 .f32) : FVec F S1x8x1 .f32 :=
  maximumf
    (shapeCast S1x8x1 (multiReduction .maximumf [0] S8x1 a 0xFF800000#32 reduces_S128x8x1_S8x1 (.inl rfl) rfl)
      shapeCasts_S8x1_S1x8x1)
    (shapeCast S1x8x1 (multiReduction .maximumf [0] S8x1 b 0xFF800000#32 reduces_S8x8x1_S8x1 (.inl rfl) rfl)
      shapeCasts_S8x1_S1x8x1)

/-- The weights of the cached rows. -/
def oldWeight (a : FVec F S128x8x1 .f32) (b : FVec F S8x8x1 .f32) : FVec F S128x8x1 .f32 :=
  exp (subf a (broadcastTo S128x8x1 (top a b) broadcasts_S1x8x1_S128x8x1))

/-- The weights of the new rows. -/
def newWeight (a : FVec F S128x8x1 .f32) (b : FVec F S8x8x1 .f32) : FVec F S8x8x1 .f32 :=
  exp (subf b (broadcastTo S8x8x1 (top a b) broadcasts_S1x8x1_S8x8x1))

/-- The sum of a group's weights. -/
def den (a : FVec F S128x8x1 .f32) (b : FVec F S8x8x1 .f32) : FVec F S1x8x1 .f32 :=
  addf
    (shapeCast S1x8x1
      (multiReduction .add [0] S8x1 (oldWeight a b) 0x00000000#32 reduces_S128x8x1_S8x1 (.inl rfl) rfl)
      shapeCasts_S8x1_S1x8x1)
    (shapeCast S1x8x1
      (multiReduction .add [0] S8x1 (newWeight a b) 0x00000000#32 reduces_S8x8x1_S8x1 (.inl rfl) rfl)
      shapeCasts_S8x1_S1x8x1)

/-- The weighted sum of a group's values. -/
def num (a : FVec F S128x8x1 .f32) (b : FVec F S8x8x1 .f32) (vc : FVec F S128x8x64 .f32)
    (vn : FVec F S8x8x64 .f32) : FVec F S1x8x64 .f32 :=
  addf
    (shapeCast S1x8x64
      (multiReduction .add [0] S8x64
        (mulf (broadcastTo S128x8x64 (oldWeight a b) broadcasts_S128x8x1_S128x8x64) vc)
        0x00000000#32 reduces_S128x8x64_S8x64 (.inl rfl) rfl)
      shapeCasts_S8x64_S1x8x64)
    (shapeCast S1x8x64
      (multiReduction .add [0] S8x64
        (mulf (broadcastTo S8x8x64 (newWeight a b) broadcasts_S8x8x1_S8x8x64) vn)
        0x00000000#32 reduces_S8x8x64_S8x64 (.inl rfl) rfl)
      shapeCasts_S8x64_S1x8x64)

/-- The three groups together: their sums brought to the largest score of all, and divided. -/
def combined (t0 t1 t2 d0 d1 d2 : FVec F S1x8x1 .f32) (n0 n1 n2 : FVec F S1x8x64 .f32) :
    FVec F S1x1x8x64 .f32 :=
  let t : FVec F S1x8x1 .f32 := maximumf (maximumf t0 t1) t2
  let d : FVec F S1x8x1 .f32 := addf (addf
    (addf (broadcast S1x8x1 (Scalar.ofBits .f32 0x00000000#32)) (mulf d0 (exp (subf t0 t))))
    (mulf d1 (exp (subf t1 t)))) (mulf d2 (exp (subf t2 t)))
  let n : FVec F S1x8x64 .f32 := addf (addf
    (addf (broadcast S1x8x64 (Scalar.ofBits .f32 0x00000000#32))
      (mulf n0 (broadcastTo S1x8x64 (exp (subf t0 t)) broadcasts_S1x8x1_S1x8x64)))
    (mulf n1 (broadcastTo S1x8x64 (exp (subf t1 t)) broadcasts_S1x8x1_S1x8x64)))
    (mulf n2 (broadcastTo S1x8x64 (exp (subf t2 t)) broadcasts_S1x8x1_S1x8x64))
  shapeCast S1x1x8x64
    (shapeCast S8x64 (divf n (broadcastTo S1x8x64 d broadcasts_S1x8x1_S1x8x64)) shapeCasts_S1x8x64_S8x64)
    shapeCasts_S8x64_S1x1x8x64

/-- What a point stores for row `s`, from the groups' queries `q`, cached keys and values `kc`, `vc`, new keys and
    values `kn`, `vn`; `f0`, `f1`, `f2` are the distances of the oldest cached row. -/
def row (s f0 f1 f2 : BitVec 32) (slope : FVec F S1x8x1 .f32)
    (q0 q1 q2 : Vec F S1x1x1x1x8x64 .f32) (kc0 vc0 kc1 vc1 kc2 vc2 : Vec F S1x1x128x1x8x64 .f32)
    (kn0 vn0 kn1 vn1 kn2 vn2 : Vec F S1x8x1x1x8x64 .f32) : FVec F S1x1x8x64 .f32 :=
  let old (x : Vec F S1x1x128x1x8x64 .f32) : FVec F S128x8x64 .f32 :=
    shapeCast S128x8x64 x shapeCasts_S1x1x128x1x8x64_S128x8x64
  let new (x : Vec F S1x8x1x1x8x64 .f32) : FVec F S8x8x64 .f32 :=
    shapeCast S8x8x64 x shapeCasts_S1x8x1x1x8x64_S8x8x64
  let query (x : Vec F S1x1x1x1x8x64 .f32) : FVec F S8x64 .f32 := shapeCast S8x64 x shapeCasts_S1x1x1x1x8x64_S8x64
  let a0 := oldScore f0 1#32 slope (query q0) (old kc0)
  let b0 := newScore s 1#32 128#32 slope (query q0) (new kn0)
  let a1 := oldScore f1 4#32 slope (query q1) (old kc1)
  let b1 := newScore s 4#32 512#32 slope (query q1) (new kn1)
  let a2 := oldScore f2 16#32 slope (query q2) (old kc2)
  let b2 := newScore s 16#32 2048#32 slope (query q2) (new kn2)
  combined (top a0 b0) (top a1 b1) (top a2 b2) (den a0 b0) (den a1 b1) (den a2 b2)
    (num a0 b0 (old vc0) (new vn0)) (num a1 b1 (old vc1) (new vn1)) (num a2 b2 (old vc2) (new vn2))

section Stored
variable (x0 : Vec F S1x8x128 .f32) (x1 : Vec F S1x8x3x3x8x64 .f32) (x2 : Vec F S1x2x128x1x8x64 .f32)
  (x3 : Vec F S1x2x128x4x8x64 .f32) (x4 : Vec F S1x2x128x8x8x64 .f32)

/-- One row with what all rows share: the slopes, the first group's cache and the new keys and values. -/
def rowOf (s f0 f1 f2 : BitVec 32) (q0 q1 q2 : Vec F S1x1x1x1x8x64 .f32)
    (kc1 vc1 kc2 vc2 : Vec F S1x1x128x1x8x64 .f32) : FVec F S1x1x8x64 .f32 :=
  row s f0 f1 f2 (slopes x0) q0 q1 q2 (View.ld x2 r0_2) (View.ld x2 r0_3) kc1 vc1 kc2 vc2
    (View.ld x1 r0_4) (View.ld x1 r0_5) (View.ld x1 r0_9) (View.ld x1 r0_10) (View.ld x1 r0_14) (View.ld x1 r0_15)

/-- What a point stores: the eight rows. -/
def stored : Vec F S1x8x8x64 .f32 :=
  View.canon
    [⟨r0_64, rowOf x0 x1 x2 7#32 135#32 129#32 128#32 (View.ld x1 r0_59) (View.ld x1 r0_60) (View.ld x1 r0_61)
        (View.ld x3 r0_35) (View.ld x3 r0_36) (View.ld x4 r0_62) (View.ld x4 r0_63)⟩,
     ⟨r0_58, rowOf x0 x1 x2 6#32 134#32 129#32 128#32 (View.ld x1 r0_53) (View.ld x1 r0_54) (View.ld x1 r0_55)
        (View.ld x3 r0_27) (View.ld x3 r0_28) (View.ld x4 r0_56) (View.ld x4 r0_57)⟩,
     ⟨r0_52, rowOf x0 x1 x2 5#32 133#32 129#32 128#32 (View.ld x1 r0_47) (View.ld x1 r0_48) (View.ld x1 r0_49)
        (View.ld x3 r0_19) (View.ld x3 r0_20) (View.ld x4 r0_50) (View.ld x4 r0_51)⟩,
     ⟨r0_46, rowOf x0 x1 x2 4#32 132#32 129#32 128#32 (View.ld x1 r0_41) (View.ld x1 r0_42) (View.ld x1 r0_43)
        (View.ld x3 r0_7) (View.ld x3 r0_8) (View.ld x4 r0_44) (View.ld x4 r0_45)⟩,
     ⟨r0_40, rowOf x0 x1 x2 3#32 131#32 128#32 128#32 (View.ld x1 r0_33) (View.ld x1 r0_34) (View.ld x1 r0_37)
        (View.ld x3 r0_35) (View.ld x3 r0_36) (View.ld x4 r0_38) (View.ld x4 r0_39)⟩,
     ⟨r0_32, rowOf x0 x1 x2 2#32 130#32 128#32 128#32 (View.ld x1 r0_25) (View.ld x1 r0_26) (View.ld x1 r0_29)
        (View.ld x3 r0_27) (View.ld x3 r0_28) (View.ld x4 r0_30) (View.ld x4 r0_31)⟩,
     ⟨r0_24, rowOf x0 x1 x2 1#32 129#32 128#32 128#32 (View.ld x1 r0_17) (View.ld x1 r0_18) (View.ld x1 r0_21)
        (View.ld x3 r0_19) (View.ld x3 r0_20) (View.ld x4 r0_22) (View.ld x4 r0_23)⟩,
     ⟨r0_16, rowOf x0 x1 x2 0#32 128#32 128#32 128#32 (View.ld x1 r0_1) (View.ld x1 r0_6) (View.ld x1 r0_11)
        (View.ld x3 r0_7) (View.ld x3 r0_8) (View.ld x4 r0_12) (View.ld x4 r0_13)⟩]

theorem out : out0_5 x0 x1 x2 x3 x4 = stored x0 x1 x2 x3 x4 := rfl

end Stored

/-- Which block of each array a point works on: sequence `t / 2`, heads from `8 (t % 2)` on. -/
theorem idx : ∀ t : Fin cfg0.N, win0_0.index t = ![0, t.val % 2, 0]
    ∧ win0_1.index t = ![t.val / 2, 0, 0, 0, t.val % 2, 0] ∧ win0_2.index t = ![t.val / 2, 0, 0, 0, t.val % 2, 0]
    ∧ win0_3.index t = ![t.val / 2, 0, 0, 0, t.val % 2, 0] ∧ win0_4.index t = ![t.val / 2, 0, 0, 0, t.val % 2, 0]
    ∧ win0_5.index t = ![t.val / 2, 0, t.val % 2, 0] :=
  (by decide +kernel : ∀ t : Fin grid0.N, _)

end Cert.AttnBlock

end
-- ==== Proof.AttnRead.lean ====
/-
  Attention of the sample group: what a point computes for one row, read at an index.
-/
module

public import proofs.«01_k».proof.Proof.AttnSpec
public import proofs.«01_k».proof.Proof.AttnBlock

@[expose] public section

set_option maxRecDepth 16384

noncomputable section

namespace Cert.AttnRead

open Cert.AttnIdeal Cert.AttnIdeal.Gen Idealize.ShloMosaic Cert.AttnSpec

/-! ### Largest scores, sums and the combination -/

section Sums
variable (a : FVec Ideal S128x8x1 .f32) (b : FVec Ideal S8x8x1 .f32) (h : Fin 8)

theorem top_at : AttnBlock.top a b (ix3 0 h 0)
    = AttnMath.top (fun i => a (ix3 i h 0)) (fun j => b (ix3 j h 0)) := by
  pointwise [AttnBlock.top]
  rfl

theorem den_at : AttnBlock.den a b (ix3 0 h 0)
    = AttnMath.den (fun i => a (ix3 i h 0)) (fun j => b (ix3 j h 0)) := by
  pointwise [AttnBlock.den, AttnBlock.oldWeight, AttnBlock.newWeight]
  rw [top_at]
  rfl

theorem num_at (vc : FVec Ideal S128x8x64 .f32) (vn : FVec Ideal S8x8x64 .f32) (d : Fin 64) :
    AttnBlock.num a b vc vn (ix3 0 h d)
      = AttnMath.num (fun i => a (ix3 i h 0)) (fun j => b (ix3 j h 0)) (fun i => vc (ix3 i h d))
          (fun j => vn (ix3 j h d)) := by
  pointwise [AttnBlock.num, AttnBlock.oldWeight, AttnBlock.newWeight]
  rw [top_at]
  rfl

theorem combined_at (t0 t1 t2 d0 d1 d2 : FVec Ideal S1x8x1 .f32) (n0 n1 n2 : FVec Ideal S1x8x64 .f32) (d : Fin 64) :
    AttnBlock.combined t0 t1 t2 d0 d1 d2 n0 n1 n2 (ix4 0 0 h d)
      = AttnMath.mix (t0 (ix3 0 h 0)) (t1 (ix3 0 h 0)) (t2 (ix3 0 h 0)) (d0 (ix3 0 h 0)) (d1 (ix3 0 h 0))
          (d2 (ix3 0 h 0)) (n0 (ix3 0 h d)) (n1 (ix3 0 h d)) (n2 (ix3 0 h d)) := by
  pointwise [AttnBlock.combined]
  rfl

end Sums

/-! ### Which rows the masks leave in -/

/-- The remainder of a word by `k`, of the sign of `k`. -/
def floorRem (x k : BitVec 32) : BitVec 32 :=
  Scalar.select
    (IntOp.andi (IntOp.xori (IntOp.cmpi .slt (IntOp.remsi .vector x k) 0#32) (Scalar.cmpi .slt k 0#32))
      (IntOp.cmpi .ne (IntOp.remsi .vector x k) 0#32))
    (IntOp.addi (IntOp.remsi .vector x k) k) (IntOp.remsi .vector x k)

/-- Whether row `s` sees a new row `x` steps before it. -/
def sees (x dil bound : BitVec 32) : BitVec 1 :=
  IntOp.andi
    (IntOp.andi (IntOp.cmpi .sge x 0#32)
      (IntOp.cmpi .eq (floorRem x (Scalar.select (Scalar.cmpi .eq dil 0#32) 1#32 dil)) 0#32))
    (IntOp.cmpi .sle x bound)

/-- What the masks and the distances of one dilation come to. -/
structure Masks (dil : ℕ) : Prop where
  shown : ∀ s : Fin 8, ∀ i : Fin 128,
    IntOp.cmpi .sle (IntOp.subi (BitVec.ofNat 32 (128 + s.val / dil)) (BitVec.ofNat 32 i.val)) 128#32
      = if s.val / dil ≤ i.val then 1#1 else 0#1
  away : ∀ s : Fin 8, ∀ i : Fin 128, s.val / dil ≤ i.val →
    IntOp.muli (IntOp.subi (BitVec.ofNat 32 (128 + s.val / dil)) (BitVec.ofNat 32 i.val)) (BitVec.ofNat 32 dil)
      = IntOp.muli (BitVec.ofNat 32 dil) (BitVec.ofNat 32 (AttnMath.backOld s dil i).val)
  place : ∀ s : Fin 8, ∀ i : Fin 128, s.val / dil ≤ i.val →
    pos dil s (AttnMath.backOld s dil i).val = i.val * dil + s.val % dil
  seen : ∀ s j : Fin 8,
    sees (IntOp.subi (BitVec.ofNat 32 s.val) (BitVec.ofNat 32 j.val)) (BitVec.ofNat 32 dil)
        (BitVec.ofNat 32 (128 * dil))
      = if j.val ≤ s.val ∧ (s.val - j.val) % dil = 0 then 1#1 else 0#1
  gap : ∀ s j : Fin 8, j.val ≤ s.val ∧ (s.val - j.val) % dil = 0 →
    IntOp.subi (BitVec.ofNat 32 s.val) (BitVec.ofNat 32 j.val)
      = IntOp.muli (BitVec.ofNat 32 dil) (BitVec.ofNat 32 (AttnMath.backNew s dil j).val)
  entry : ∀ s j : Fin 8, j.val ≤ s.val ∧ (s.val - j.val) % dil = 0 →
    pos dil s (AttnMath.backNew s dil j).val = 128 * dil + j.val
  rest : ∀ s : Fin 8, s.val % dil < dil

theorem masks1 : Masks 1 := by constructor <;> decide +kernel
theorem masks4 : Masks 4 := by constructor <;> decide +kernel
theorem masks16 : Masks 16 := by constructor <;> decide +kernel

/-! ### One group of one row -/

section Group
variable {dil : ℕ} (M : Masks dil) {g : Fin 3} {za : Fin 8 → Fin 9216 → EReal}
  {cache : Fin 2 → Fin (128 * dil) → Fin 16 → Fin 64 → EReal} {s : Fin 8} {H : Fin 16} {h : Fin 8}
  {slope : FVec Ideal S1x8x1 .f32} {q : FVec Ideal S8x64 .f32}

include M in
theorem past_old (kv : Fin 2) (i : Fin 128) (hi : s.val / dil ≤ i.val) (d : Fin 64)
    (hlt : i.val * dil + s.val % dil < 128 * dil) :
    past dil g za cache kv H (pos dil s (AttnMath.backOld s dil i).val) d
      = cache kv ⟨i.val * dil + s.val % dil, hlt⟩ H d := by
  rw [M.place s i hi]
  exact dif_pos hlt

include M in
theorem past_new (kv : Fin 2) (j : Fin 8) (hj : j.val ≤ s.val ∧ (s.val - j.val) % dil = 0) (d : Fin 64) :
    past dil g za cache kv H (pos dil s (AttnMath.backNew s dil j).val) d = za j (col g kv.succ H d) := by
  rw [M.entry s j hj]
  refine (dif_neg (by omega)).trans ?_
  rw [Nat.add_sub_cancel_left]
  congr 1
  exact Fin.ext (Nat.mod_eq_of_lt j.isLt)

include M in
theorem old_at (hs : slope (ix3 0 h 0) = AttnSpec.slope H) (hq : ∀ d, q (ix2 h d) = za s (col g 0 H d))
    {kc : FVec Ideal S128x8x64 .f32} (hk : ∀ (i : Fin 128) (d : Fin 64) (hlt : i.val * dil + s.val % dil < 128 * dil),
      kc (ix3 i h d) = cache 0 ⟨i.val * dil + s.val % dil, hlt⟩ H d) (i : Fin 128) :
    AttnBlock.oldScore (BitVec.ofNat 32 (128 + s.val / dil)) (BitVec.ofNat 32 dil) slope q kc (ix3 i h 0)
      = if s.val / dil ≤ i.val then score dil g za cache s H (AttnMath.backOld s dil i) else ⊥ := by
  pointwise [AttnBlock.oldScore, AttnBlock.steps]
  rw [M.shown s i]
  split
  · rename_i hi
    have hlt : i.val * dil + s.val % dil < 128 * dil := by
      have := M.rest s
      have := Nat.mul_le_mul_right dil (show i.val + 1 ≤ 128 by omega)
      rw [Nat.add_mul] at this
      omega
    rw [M.away s i hi, hs]
    simp only [hk _ _ hlt, hq]
    refine congrArg (fun z => z * _ - _) (Finset.sum_congr rfl fun d _ => ?_)
    rw [past_old M 0 i hi d hlt, mul_comm]
  · rfl

include M in
theorem new_at (hs : slope (ix3 0 h 0) = AttnSpec.slope H) (hq : ∀ d, q (ix2 h d) = za s (col g 0 H d))
    {kn : FVec Ideal S8x8x64 .f32} (hk : ∀ (j : Fin 8) (d : Fin 64), kn (ix3 j h d) = za j (col g 1 H d)) (j : Fin 8) :
    AttnBlock.newScore (BitVec.ofNat 32 s.val) (BitVec.ofNat 32 dil) (BitVec.ofNat 32 (128 * dil)) slope q kn
        (ix3 j h 0)
      = if j.val ≤ s.val ∧ (s.val - j.val) % dil = 0 then score dil g za cache s H (AttnMath.backNew s dil j)
        else ⊥ := by
  pointwise [AttnBlock.newScore, AttnBlock.allowed, AttnBlock.gap]
  refine (congrArg (fun c => Scalar.select c _ _) (M.seen s j)).trans ?_
  split
  · rename_i hj
    rw [M.gap s j hj, hs]
    simp only [hk, hq]
    refine congrArg (fun z => z * _ - _) (Finset.sum_congr rfl fun d _ => ?_)
    rw [past_new M 0 j hj d, mul_comm]
    rfl
  · rfl

end Group

end Cert.AttnRead
-- ==== Proof.AttnRow.lean ====
/-
  Attention of the sample group: one row of a point is the average of the three groups' softmaxes weighted by the
  softmax of their log-sum-exps, where the arrays are finite.
-/
module

public import proofs.«01_k».proof.Proof.AttnRead

@[expose] public section

set_option maxRecDepth 16384

noncomputable section

namespace Cert.AttnRow

open Cert.AttnIdeal Cert.AttnIdeal.Gen Idealize.ShloMosaic Cert.AttnSpec Cert.AttnRead

/-- A group's query, as a point loads it. -/
abbrev query (x : Vec Ideal S1x1x1x1x8x64 .f32) : FVec Ideal S8x64 .f32 :=
  shapeCast S8x64 x shapeCasts_S1x1x1x1x8x64_S8x64

/-- A group's cached keys or values. -/
abbrev old (x : Vec Ideal S1x1x128x1x8x64 .f32) : FVec Ideal S128x8x64 .f32 :=
  shapeCast S128x8x64 x shapeCasts_S1x1x128x1x8x64_S128x8x64

/-- A group's new keys or values. -/
abbrev new (x : Vec Ideal S1x8x1x1x8x64 .f32) : FVec Ideal S8x8x64 .f32 :=
  shapeCast S8x8x64 x shapeCasts_S1x8x1x1x8x64_S8x8x64

section Reads
variable (h : Fin 8) (d : Fin 64)

theorem query_at (x : Vec Ideal S1x1x1x1x8x64 .f32) : query x (ix2 h d) = x (ix6 0 0 0 0 h d) := by
  pointwise [query]

theorem old_read (x : Vec Ideal S1x1x128x1x8x64 .f32) (i : Fin 128) : old x (ix3 i h d) = x (ix6 0 0 i 0 h d) := by
  pointwise [old]

theorem new_read (x : Vec Ideal S1x8x1x1x8x64 .f32) (j : Fin 8) : new x (ix3 j h d) = x (ix6 0 j 0 0 h d) := by
  pointwise [new]

end Reads

/-- What row `s` of head `h` of a point loads for one group: the query, the cached rows of its residue, and the new
    rows, of head `H` of one sequence. -/
structure Loads (dil : ℕ) (g : Fin 3) (za : Fin 8 → Fin 9216 → EReal)
    (cache : Fin 2 → Fin (128 * dil) → Fin 16 → Fin 64 → EReal) (s : Fin 8) (H : Fin 16) (h : Fin 8)
    (q : Vec Ideal S1x1x1x1x8x64 .f32) (kc vc : Vec Ideal S1x1x128x1x8x64 .f32)
    (kn vn : Vec Ideal S1x8x1x1x8x64 .f32) : Prop where
  query : ∀ d, q (ix6 0 0 0 0 h d) = za s (col g 0 H d)
  oldKey : ∀ (i : Fin 128) (d : Fin 64) (hlt : i.val * dil + s.val % dil < 128 * dil),
    kc (ix6 0 0 i 0 h d) = cache 0 ⟨i.val * dil + s.val % dil, hlt⟩ H d
  oldValue : ∀ (i : Fin 128) (d : Fin 64) (hlt : i.val * dil + s.val % dil < 128 * dil),
    vc (ix6 0 0 i 0 h d) = cache 1 ⟨i.val * dil + s.val % dil, hlt⟩ H d
  newKey : ∀ (j : Fin 8) (d : Fin 64), kn (ix6 0 j 0 0 h d) = za j (col g 1 H d)
  newValue : ∀ (j : Fin 8) (d : Fin 64), vn (ix6 0 j 0 0 h d) = za j (col g 2 H d)

section Group
variable {dil : ℕ} {g : Fin 3} {za : Fin 8 → Fin 9216 → EReal}
  {cache : Fin 2 → Fin (128 * dil) → Fin 16 → Fin 64 → EReal} {s : Fin 8} {H : Fin 16} {h : Fin 8}
  {slope : FVec Ideal S1x8x1 .f32} {q : Vec Ideal S1x1x1x1x8x64 .f32} {kc vc : Vec Ideal S1x1x128x1x8x64 .f32}
  {kn vn : Vec Ideal S1x8x1x1x8x64 .f32}

/-- One group's largest score, sum of weights and weighted sum, over the reals. -/
theorem group_at (M : Masks dil) (hd : dil = 1 ∨ dil = 4 ∨ dil = 16) (hz : ∀ j k, IsReal (za j k))
    (hc : ∀ kv c h d, IsReal (cache kv c h d)) (hs : slope (ix3 0 h 0) = AttnSpec.slope H)
    (L : Loads dil g za cache s H h q kc vc kn vn) (d : Fin 64) (ws far wd bound : BitVec 32)
    (hws : ws = BitVec.ofNat 32 s.val) (hfar : far = BitVec.ofNat 32 (128 + s.val / dil))
    (hwd : wd = BitVec.ofNat 32 dil) (hb : bound = BitVec.ofNat 32 (128 * dil)) :
    ∃ (x v : Fin 129 → ℝ) (T : ℝ), (score dil g za cache s H = fun n => (x n : EReal))
      ∧ (value dil g za cache s H d = fun n => (v n : EReal))
      ∧ AttnBlock.top (AttnBlock.oldScore far wd slope (query q) (old kc))
          (AttnBlock.newScore ws wd bound slope (query q) (new kn)) (ix3 0 h 0) = (T : EReal)
      ∧ AttnBlock.den (AttnBlock.oldScore far wd slope (query q) (old kc))
          (AttnBlock.newScore ws wd bound slope (query q) (new kn)) (ix3 0 h 0)
          = ((Real.exp (-T) * ∑ n, Real.exp (x n) : ℝ) : EReal)
      ∧ AttnBlock.num (AttnBlock.oldScore far wd slope (query q) (old kc))
          (AttnBlock.newScore ws wd bound slope (query q) (new kn)) (old vc) (new vn) (ix3 0 h d)
          = ((Real.exp (-T) * ∑ n, Real.exp (x n) * v n : ℝ) : EReal) := by
  subst hws hfar hwd hb
  choose x hx using score_real (dil := dil) (g := g) hz hc s H
  choose v hv using value_real (dil := dil) (g := g) hz hc s H d
  have hq : ∀ d, query q (ix2 h d) = za s (col g 0 H d) := fun d => (query_at h d q).trans (L.query d)
  have hsplit : AttnMath.Split s dil x
      (fun i => AttnBlock.oldScore (BitVec.ofNat 32 (128 + s.val / dil)) (BitVec.ofNat 32 dil) slope (query q) (old kc)
        (ix3 i h 0))
      (fun j => AttnBlock.newScore (BitVec.ofNat 32 s.val) (BitVec.ofNat 32 dil) (BitVec.ofNat 32 (128 * dil)) slope
        (query q) (new kn) (ix3 j h 0)) :=
    ⟨fun i => (old_at M hs hq (fun i d hlt => (old_read h d kc i).trans (L.oldKey i d hlt)) i).trans (by rw [hx]),
      fun j => (new_at M hs hq (fun j d => (new_read h d kn j).trans (L.newKey j d)) j).trans (by rw [hx])⟩
  have hvals : AttnMath.Vals s dil v (fun i => old vc (ix3 i h d)) (fun j => new vn (ix3 j h d)) := by
    refine ⟨fun i hi => ?_, fun j hj => ?_⟩
    · have hlt : i.val * dil + s.val % dil < 128 * dil := by
        have := M.rest s
        have := Nat.mul_le_mul_right dil (show i.val + 1 ≤ 128 by omega)
        rw [Nat.add_mul] at this
        omega
      exact (old_read h d vc i).trans ((L.oldValue i d hlt).trans ((past_old M 1 i hi d hlt).symm.trans (hv _)))
    · exact (new_read h d vn j).trans ((L.newValue j d).trans ((past_new M 1 j hj d).symm.trans (hv _)))
  obtain ⟨T, hT⟩ := hsplit.top_real s.isLt
  exact ⟨x, v, T, funext hx, funext hv, (top_at _ _ h).trans hT, (den_at _ _ h).trans (hsplit.den_eq s.isLt hd hT),
    (num_at _ _ h _ _ d).trans (hsplit.num_eq hvals s.isLt hd hT)⟩

end Group

/-- One row of a point. -/
theorem row_at {za : Fin 8 → Fin 9216 → EReal} {c0 : Fin 2 → Fin (128 * 1) → Fin 16 → Fin 64 → EReal}
    {c1 : Fin 2 → Fin (128 * 4) → Fin 16 → Fin 64 → EReal} {c2 : Fin 2 → Fin (128 * 16) → Fin 16 → Fin 64 → EReal}
    (hz : ∀ j k, IsReal (za j k)) (hc0 : ∀ kv c h d, IsReal (c0 kv c h d)) (hc1 : ∀ kv c h d, IsReal (c1 kv c h d))
    (hc2 : ∀ kv c h d, IsReal (c2 kv c h d)) {s : Fin 8} {H : Fin 16} {h : Fin 8} {slope : FVec Ideal S1x8x1 .f32}
    (hs : slope (ix3 0 h 0) = AttnSpec.slope H) {q0 q1 q2 : Vec Ideal S1x1x1x1x8x64 .f32}
    {kc0 vc0 kc1 vc1 kc2 vc2 : Vec Ideal S1x1x128x1x8x64 .f32}
    {kn0 vn0 kn1 vn1 kn2 vn2 : Vec Ideal S1x8x1x1x8x64 .f32}
    (L0 : Loads 1 0 za c0 s H h q0 kc0 vc0 kn0 vn0) (L1 : Loads 4 1 za c1 s H h q1 kc1 vc1 kn1 vn1)
    (L2 : Loads 16 2 za c2 s H h q2 kc2 vc2 kn2 vn2) (d : Fin 64) (ws f0 f1 f2 : BitVec 32)
    (hws : ws = BitVec.ofNat 32 s.val) (h0 : f0 = BitVec.ofNat 32 (128 + s.val / 1))
    (h1 : f1 = BitVec.ofNat 32 (128 + s.val / 4)) (h2 : f2 = BitVec.ofNat 32 (128 + s.val / 16)) :
    AttnBlock.row ws f0 f1 f2 slope q0 q1 q2 kc0 vc0 kc1 vc1 kc2 vc2 kn0 vn0 kn1 vn1 kn2 vn2 (ix4 0 0 h d)
      = AttnMath.blend
          ![AttnMath.lse (score 1 0 za c0 s H), AttnMath.lse (score 4 1 za c1 s H),
            AttnMath.lse (score 16 2 za c2 s H)]
          ![AttnMath.out (score 1 0 za c0 s H) (value 1 0 za c0 s H d),
            AttnMath.out (score 4 1 za c1 s H) (value 4 1 za c1 s H d),
            AttnMath.out (score 16 2 za c2 s H) (value 16 2 za c2 s H d)] := by
  obtain ⟨x0, v0, T0, e0, w0, t0, d0, n0⟩ := group_at masks1 (.inl rfl) hz hc0 hs L0 d ws f0 1#32 128#32 hws h0 rfl rfl
  obtain ⟨x1, v1, T1, e1, w1, t1, d1, n1⟩ :=
    group_at masks4 (.inr (.inl rfl)) hz hc1 hs L1 d ws f1 4#32 512#32 hws h1 rfl rfl
  obtain ⟨x2, v2, T2, e2, w2, t2, d2, n2⟩ :=
    group_at masks16 (.inr (.inr rfl)) hz hc2 hs L2 d ws f2 16#32 2048#32 hws h2 rfl rfl
  have hZ : ∀ g : Fin 3, 0 < ![∑ n, Real.exp (x0 n), ∑ n, Real.exp (x1 n), ∑ n, Real.exp (x2 n)] g := by
    intro g
    match g with
    | ⟨0, _⟩ => exact AttnMath.sum_exp_pos x0
    | ⟨1, _⟩ => exact AttnMath.sum_exp_pos x1
    | ⟨2, _⟩ => exact AttnMath.sum_exp_pos x2
  have hmix := AttnMath.mix_eq _ ![∑ n, Real.exp (x0 n) * v0 n, ∑ n, Real.exp (x1 n) * v1 n,
    ∑ n, Real.exp (x2 n) * v2 n] hZ ![T0, T1, T2]
  have hblend := AttnMath.blend_eq _ ![∑ n, Real.exp (x0 n) * v0 n, ∑ n, Real.exp (x1 n) * v1 n,
    ∑ n, Real.exp (x2 n) * v2 n] hZ
  unfold AttnBlock.row
  refine (combined_at h _ _ _ _ _ _ _ _ _ d).trans ?_
  rw [t0, t1, t2, d0, d1, d2, n0, n1, n2, e0, e1, e2, w0, w1, w2]
  refine hmix.trans (hblend.symm.trans ?_)
  simp only [AttnMath.lse_eq, AttnMath.out_eq]
  refine congrArg₂ AttnMath.blend (funext fun g => ?_) (funext fun g => ?_)
  · match g with
    | ⟨0, _⟩ => rfl
    | ⟨1, _⟩ => rfl
    | ⟨2, _⟩ => rfl
  · match g with
    | ⟨0, _⟩ => rfl
    | ⟨1, _⟩ => rfl
    | ⟨2, _⟩ => rfl

end Cert.AttnRow
-- ==== Proof.AttnRef.lean ====
/-
  Attention of the sample group: the reference's stages read at an index, group by group.
-/
module

public import proofs.«01_k».proof.Proof.AttnSpec
public import proofs.«01_k».proof.Proof.Gen.AttnRefIdeal.Read
public import Idealize.ShloMosaic.Lib.Pointwise

@[expose] public section

set_option maxRecDepth 16384

noncomputable section

namespace Cert.AttnRef

open Cert.AttnRefIdeal Cert.AttnRefIdeal.Read Idealize.ShloMosaic Cert.AttnSpec Cert.AttnMath

/-! ### A gather of whole rows -/

/-- The numbers of a gather of whole rows of `N` along the second axis, at 8 by 129 places. -/
abbrev rowsDims (N : ℕ) (wf : GatherDims.WF ⟨4, ![32, N, 16, 64]⟩ ⟨3, ![8, 129, 1]⟩ ⟨5, ![32, 8, 129, 16, 64]⟩
    [0, 3, 4] [1] [] [1] [] 2 ![32, 1, 16, 64]) :
    GatherDims ⟨4, ![32, N, 16, 64]⟩ ⟨3, ![8, 129, 1]⟩ ⟨5, ![32, 8, 129, 16, 64]⟩ where
  offsetDims := [0, 3, 4]
  collapsedSliceDims := [1]
  operandBatchingDims := []
  startIndicesBatchingDims := []
  startIndexMap := [1]
  indexVectorDim := 2
  sliceSizes := ![32, 1, 16, 64]
  wf := wf

/-- The gather read at an index: the row whose number stands at the place. -/
theorem gather_at {α : Type} {N : ℕ} (wf) (x : (⟨4, ![32, N, 16, 64]⟩ : Shape).Idx → α)
    (idx : IVec ⟨3, ![8, 129, 1]⟩ 32) (b : Fin 32) (s : Fin 8) (n : Fin 129) (h : Fin 16) (d : Fin 64) (c : Fin N)
    (e : min (idx (ix3 s n 0)).toInt.toNat (N - 1) = c.val) :
    Host.gather (rowsDims N wf) x idx (ix5 b s n h d) = x (ix4 b c h d) := by
  unfold Host.gather
  congr 1
  funext a
  refine Fin.ext ?_
  show (rowsDims N wf).start (ix5 b s n h d) idx a + (rowsDims N wf).batchCoord (ix5 b s n h d) a
    + (rowsDims N wf).offCoord (ix5 b s n h d) a = _
  rw [GatherDims.batchCoord_eq_zero _ _ _ List.not_mem_nil, Nat.add_zero]
  have cases : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases cases with rfl | rfl | rfl | rfl
  · exact Nat.zero_add _
  · rw [GatherDims.offCoord_eq_zero _ _ _ (fun h => ((GatherDims.mem_sKept _ _).mp h).1 (List.mem_singleton.mpr rfl)),
      Nat.add_zero]
    refine Eq.trans ?_ e
    unfold GatherDims.start
    rw [dif_pos (show (1 : Fin 4) ∈ (rowsDims N wf).startIndexMap from List.mem_singleton.mpr rfl)]
    have hsi : (rowsDims N wf).siIdx (ix5 b s n h d) ⟨List.idxOf (1 : Fin 4) (rowsDims N wf).startIndexMap,
        List.idxOf_lt_length_iff.2 (List.mem_singleton.mpr rfl)⟩ = ix3 s n 0 := by
      funext k
      refine Fin.ext ?_
      match k with
      | ⟨0, _⟩ => rfl
      | ⟨1, _⟩ => rfl
      | ⟨2, _⟩ => rfl
    rw [hsi]
    rfl
  · exact Nat.zero_add _
  · exact Nat.zero_add _

/-! ### The places of the keys -/

/-- The place of the key `n` steps back from row `s`, `far` rows being cached, as a word. -/
def word (dil far : BitVec 32) (s n : ℕ) : BitVec 32 :=
  IntOp.subi (IntOp.addi (BitVec.ofNat 32 s) far) (IntOp.muli dil (BitVec.ofNat 32 n))

/-- The same, a negative place first brought to 0 and then counted from the end of `len` rows. -/
def placed (dil far len : BitVec 32) (s n : ℕ) : BitVec 32 :=
  Scalar.select (IntOp.cmpi .slt (IntOp.maxsi (word dil far s n) 0#32) 0#32)
    (IntOp.addi (IntOp.maxsi (word dil far s n) 0#32) len) (IntOp.maxsi (word dil far s n) 0#32)

/-- No place is negative. -/
theorem word_nonneg : ∀ s : Fin 8, ∀ n : Fin 129, IntOp.cmpi .sge (word 1#32 128#32 s n) 0#32 = 1#1
    ∧ IntOp.cmpi .sge (word 4#32 512#32 s n) 0#32 = 1#1 ∧ IntOp.cmpi .sge (word 16#32 2048#32 s n) 0#32 = 1#1 := by
  decide +kernel

/-- Each place is the row's number. -/
theorem placed_eq : ∀ s : Fin 8, ∀ n : Fin 129,
    min (placed 1#32 128#32 136#32 s n).toInt.toNat (136 - 1) = pos 1 s n
      ∧ min (placed 4#32 512#32 520#32 s n).toInt.toNat (520 - 1) = pos 4 s n
      ∧ min (placed 16#32 2048#32 2056#32 s n).toInt.toNat (2056 - 1) = pos 16 s n := by
  decide +kernel

theorem pos_lt (dil : ℕ) (s : Fin 8) (n : Fin 129) : pos dil s n < 128 * dil + 8 := by
  unfold pos
  omega

/-- The slopes. -/
theorem slopes_at (h : Fin 16) : val_main_v9 (F := Ideal) (ix1 h) = slope h := by
  pointwise [val_main_v0, val_main_cst, val_main_v1, val_main_v2, val_main_cst_0, val_main_v3, val_main_v4, val_main_cst_1,
    val_main_v5, val_main_v6, val_main_cst_2, val_main_v7, val_main_v8, val_main_v9]
  rfl

variable (x0 : (⟨S32x8x9216, .f32⟩ : BufTy).Contents (Elt Ideal))
  (x1 : (⟨S32x2x128x16x64, .f32⟩ : BufTy).Contents (Elt Ideal))
  (x2 : (⟨S32x2x512x16x64, .f32⟩ : BufTy).Contents (Elt Ideal))
  (x3 : (⟨S32x2x2048x16x64, .f32⟩ : BufTy).Contents (Elt Ideal))

/-- One sequence of the projected array. -/
abbrev proj (b : Fin 32) : Fin 8 → Fin 9216 → EReal := fun j k => x0 (ix3 b j k)

/-! ### Group 0 -/

/-- One sequence of the cached keys and values of group 0. -/
abbrev cache0 (b : Fin 32) : Fin 2 → Fin (128 * 1) → Fin 16 → Fin 64 → EReal := fun kv c h d => x1 (ix5 b kv c h d)

theorem keys0 (b : Fin 32) (c : Fin 136) (h : Fin 16) (d : Fin 64) :
    val_main_v19 (F := Ideal) x0 x1 (ix4 b c h d) = past 1 0 (proj x0 b) (cache0 x1 b) 0 h c d := by
  pointwise [val_main_v10, val_main_v13, val_main_v14, val_main_v17, val_main_v18, val_main_v19]
  unfold past
  split
  · rfl
  · exact congrArg x0 (congrArg₂ (ix3 b) (Fin.ext (Nat.mod_eq_of_lt (by omega)).symm) (Fin.ext (by simp [col])))

theorem values0 (b : Fin 32) (c : Fin 136) (h : Fin 16) (d : Fin 64) :
    val_main_v22 (F := Ideal) x0 x1 (ix4 b c h d) = past 1 0 (proj x0 b) (cache0 x1 b) 1 h c d := by
  pointwise [val_main_v10, val_main_v15, val_main_v16, val_main_v20, val_main_v21, val_main_v22]
  unfold past
  split
  · rfl
  · exact congrArg x0 (congrArg₂ (ix3 b) (Fin.ext (Nat.mod_eq_of_lt (by omega)).symm) (Fin.ext (by simp [col])))

theorem keyPlace0 (s : Fin 8) (n : Fin 129) :
    val_main_v43 (F := Ideal) (ix3 s n 0) = placed 1#32 128#32 136#32 s n := by
  pointwise [val_main_v23, val_main_v24, val_main_v25, val_main_c, val_main_v26, val_main_v27, val_main_v28, val_main_c_3,
    val_main_v29, val_main_v30, val_main_v31, val_main_v32, val_main_v33, val_main_c_5, val_main_v36,
    val_main_v37, val_main_c_6, val_main_v38, val_main_v39, val_main_c_7, val_main_v40, val_main_v41,
    val_main_v42, val_main_v43]
  rfl

theorem valuePlace0 (s : Fin 8) (n : Fin 129) :
    val_main_v50 (F := Ideal) (ix3 s n 0) = placed 1#32 128#32 136#32 s n := by
  pointwise [val_main_v23, val_main_v24, val_main_v25, val_main_c, val_main_v26, val_main_v27, val_main_v28, val_main_c_3,
    val_main_v29, val_main_v30, val_main_v31, val_main_v32, val_main_v33, val_main_c_5, val_main_v36,
    val_main_v37, val_main_c_8, val_main_v45, val_main_v46, val_main_c_9, val_main_v47, val_main_v48,
    val_main_v49, val_main_v50]
  rfl

theorem key0 (b : Fin 32) (s : Fin 8) (n : Fin 129) (h : Fin 16) (d : Fin 64) :
    val_main_v44 (F := Ideal) x0 x1 (ix5 b s n h d)
      = past 1 0 (proj x0 b) (cache0 x1 b) 0 h (pos 1 s n) d :=
  (gather_at _ _ _ b s n h d ⟨pos 1 s n, pos_lt 1 s n⟩
    (by rw [keyPlace0]; exact (placed_eq s n).1)).trans (keys0 x0 x1 b _ h d)

theorem value0 (b : Fin 32) (s : Fin 8) (n : Fin 129) (h : Fin 16) (d : Fin 64) :
    val_main_v51 (F := Ideal) x0 x1 (ix5 b s n h d) = value 1 0 (proj x0 b) (cache0 x1 b) s h d n :=
  (gather_at _ _ _ b s n h d ⟨pos 1 s n, pos_lt 1 s n⟩
    (by rw [valuePlace0]; exact (placed_eq s n).1)).trans (values0 x0 x1 b _ h d)

theorem score0 (b : Fin 32) (s : Fin 8) (n : Fin 129) (h : Fin 16) :
    val_main_v68 (F := Ideal) x0 x1 (ix4 b h s n) = score 1 0 (proj x0 b) (cache0 x1 b) s h n := by
  pointwise [val_main_v10, val_main_v11, val_main_v12, val_main_v23, val_main_v24, val_main_v25, val_main_c, val_main_v26,
    val_main_v27, val_main_v28, val_main_c_3, val_main_v29, val_main_v30, val_main_v31, val_main_v32,
    val_main_v33, val_main_c_4, val_main_v34, val_main_v35, val_main_v52, val_main_v53, val_main_c_10,
    val_main_v54, val_main_v55, val_main_v56, val_main_v57, val_main_v58, val_main_v59, val_main_v60,
    val_main_v61, val_main_cst_11, val_main_v62, val_main_v63, val_main_v64, val_main_v65, val_main_v66,
    val_main_v67, val_main_cst_12, val_main_call0_v0, val_main_call0_v1, val_main_call0_v2, val_main_v68]
  refine (congrArg (fun c => Scalar.select c _ _) (word_nonneg s n).1).trans ?_
  simp only [key0, slopes_at]
  show _ + -slope h * _ = _
  rw [EReal.neg_mul, ← sub_eq_add_neg]
  exact congrArg (fun z => z * _ - _) (Finset.sum_congr rfl fun d _ => congrArg (fun z => z * _)
    (congrArg x0 (congrArg (ix3 b s) (Fin.ext (by simp [col])))))

theorem lse0 (b : Fin 32) (s : Fin 8) (h : Fin 16) :
    val_main_v83 (F := Ideal) x0 x1 (ix3 b s h)
      = lse (score 1 0 (proj x0 b) (cache0 x1 b) s h) := by
  refine Eq.trans ?_ (congrArg lse (funext fun n => score0 x0 x1 b s n h))
  simp only [val_main_cst_13, val_main_v69, val_main_v70, val_main_v71, val_main_v72, val_main_v73, val_main_cst_14,
    val_main_v74, val_main_v75, val_main_v76, val_main_v77, val_main_v83]
  generalize val_main_v68 (F := Ideal) x0 x1 = y
  pointwise []
  rfl

theorem out0 (b : Fin 32) (s : Fin 8) (h : Fin 16) (d : Fin 64) :
    val_main_v82 (F := Ideal) x0 x1 (ix4 b s h d)
      = out (score 1 0 (proj x0 b) (cache0 x1 b) s h)
          (value 1 0 (proj x0 b) (cache0 x1 b) s h d) := by
  refine Eq.trans ?_ (congrArg₂ out (funext fun n => score0 x0 x1 b s n h)
    (funext fun n => value0 x0 x1 b s n h d))
  simp only [val_main_cst_13, val_main_v69, val_main_v70, val_main_v71, val_main_v72, val_main_v73, val_main_cst_14,
    val_main_v74, val_main_v75, val_main_v76, val_main_v77, val_main_v78, val_main_v79, val_main_v80,
    val_main_v81, val_main_v82]
  generalize val_main_v68 (F := Ideal) x0 x1 = y
  generalize val_main_v51 (F := Ideal) x0 x1 = w
  pointwise []
  rfl

/-! ### Group 1 -/

/-- One sequence of the cached keys and values of group 1. -/
abbrev cache1 (b : Fin 32) : Fin 2 → Fin (128 * 4) → Fin 16 → Fin 64 → EReal := fun kv c h d => x2 (ix5 b kv c h d)

theorem keys1 (b : Fin 32) (c : Fin 520) (h : Fin 16) (d : Fin 64) :
    val_main_v92 (F := Ideal) x0 x2 (ix4 b c h d) = past 4 1 (proj x0 b) (cache1 x2 b) 0 h c d := by
  pointwise [val_main_v10, val_main_v86, val_main_v87, val_main_v90, val_main_v91, val_main_v92]
  unfold past
  split
  · rfl
  · exact congrArg x0 (congrArg₂ (ix3 b) (Fin.ext (Nat.mod_eq_of_lt (by omega)).symm) (Fin.ext (by simp [col])))

theorem values1 (b : Fin 32) (c : Fin 520) (h : Fin 16) (d : Fin 64) :
    val_main_v95 (F := Ideal) x0 x2 (ix4 b c h d) = past 4 1 (proj x0 b) (cache1 x2 b) 1 h c d := by
  pointwise [val_main_v10, val_main_v88, val_main_v89, val_main_v93, val_main_v94, val_main_v95]
  unfold past
  split
  · rfl
  · exact congrArg x0 (congrArg₂ (ix3 b) (Fin.ext (Nat.mod_eq_of_lt (by omega)).symm) (Fin.ext (by simp [col])))

theorem keyPlace1 (s : Fin 8) (n : Fin 129) :
    val_main_v116 (F := Ideal) (ix3 s n 0) = placed 4#32 512#32 520#32 s n := by
  pointwise [val_main_v96, val_main_v97, val_main_v98, val_main_c_15, val_main_v99, val_main_v100, val_main_v101,
    val_main_c_16, val_main_v102, val_main_v103, val_main_v104, val_main_v105, val_main_v106, val_main_c_18,
    val_main_v109, val_main_v110, val_main_c_19, val_main_v111, val_main_v112, val_main_c_20, val_main_v113,
    val_main_v114, val_main_v115, val_main_v116]
  rfl

theorem valuePlace1 (s : Fin 8) (n : Fin 129) :
    val_main_v123 (F := Ideal) (ix3 s n 0) = placed 4#32 512#32 520#32 s n := by
  pointwise [val_main_v96, val_main_v97, val_main_v98, val_main_c_15, val_main_v99, val_main_v100, val_main_v101,
    val_main_c_16, val_main_v102, val_main_v103, val_main_v104, val_main_v105, val_main_v106, val_main_c_18,
    val_main_v109, val_main_v110, val_main_c_21, val_main_v118, val_main_v119, val_main_c_22, val_main_v120,
    val_main_v121, val_main_v122, val_main_v123]
  rfl

theorem key1 (b : Fin 32) (s : Fin 8) (n : Fin 129) (h : Fin 16) (d : Fin 64) :
    val_main_v117 (F := Ideal) x0 x2 (ix5 b s n h d)
      = past 4 1 (proj x0 b) (cache1 x2 b) 0 h (pos 4 s n) d :=
  (gather_at _ _ _ b s n h d ⟨pos 4 s n, pos_lt 4 s n⟩
    (by rw [keyPlace1]; exact (placed_eq s n).2.1)).trans (keys1 x0 x2 b _ h d)

theorem value1 (b : Fin 32) (s : Fin 8) (n : Fin 129) (h : Fin 16) (d : Fin 64) :
    val_main_v124 (F := Ideal) x0 x2 (ix5 b s n h d) = value 4 1 (proj x0 b) (cache1 x2 b) s h d n :=
  (gather_at _ _ _ b s n h d ⟨pos 4 s n, pos_lt 4 s n⟩
    (by rw [valuePlace1]; exact (placed_eq s n).2.1)).trans (values1 x0 x2 b _ h d)

theorem score1 (b : Fin 32) (s : Fin 8) (n : Fin 129) (h : Fin 16) :
    val_main_v141 (F := Ideal) x0 x2 (ix4 b h s n) = score 4 1 (proj x0 b) (cache1 x2 b) s h n := by
  pointwise [val_main_v10, val_main_v84, val_main_v85, val_main_v96, val_main_v97, val_main_v98, val_main_c_15, val_main_v99,
    val_main_v100, val_main_v101, val_main_c_16, val_main_v102, val_main_v103, val_main_v104, val_main_v105,
    val_main_v106, val_main_c_17, val_main_v107, val_main_v108, val_main_v125, val_main_v126, val_main_c_23,
    val_main_v127, val_main_v128, val_main_v129, val_main_v130, val_main_v131, val_main_v132, val_main_v133,
    val_main_v134, val_main_cst_24, val_main_v135, val_main_v136, val_main_v137, val_main_v138, val_main_v139,
    val_main_v140, val_main_cst_25, val_main_call1_v0, val_main_call1_v1, val_main_call1_v2, val_main_v141]
  refine (congrArg (fun c => Scalar.select c _ _) (word_nonneg s n).2.1).trans ?_
  simp only [key1, slopes_at]
  show _ + -slope h * _ = _
  rw [EReal.neg_mul, ← sub_eq_add_neg]
  exact congrArg (fun z => z * _ - _) (Finset.sum_congr rfl fun d _ => congrArg (fun z => z * _)
    (congrArg x0 (congrArg (ix3 b s) (Fin.ext (by simp [col])))))

theorem lse1 (b : Fin 32) (s : Fin 8) (h : Fin 16) :
    val_main_v156 (F := Ideal) x0 x2 (ix3 b s h)
      = lse (score 4 1 (proj x0 b) (cache1 x2 b) s h) := by
  refine Eq.trans ?_ (congrArg lse (funext fun n => score1 x0 x2 b s n h))
  simp only [val_main_cst_26, val_main_v142, val_main_v143, val_main_v144, val_main_v145, val_main_v146, val_main_cst_27,
    val_main_v147, val_main_v148, val_main_v149, val_main_v150, val_main_v156]
  generalize val_main_v141 (F := Ideal) x0 x2 = y
  pointwise []
  rfl

theorem out1 (b : Fin 32) (s : Fin 8) (h : Fin 16) (d : Fin 64) :
    val_main_v155 (F := Ideal) x0 x2 (ix4 b s h d)
      = out (score 4 1 (proj x0 b) (cache1 x2 b) s h)
          (value 4 1 (proj x0 b) (cache1 x2 b) s h d) := by
  refine Eq.trans ?_ (congrArg₂ out (funext fun n => score1 x0 x2 b s n h)
    (funext fun n => value1 x0 x2 b s n h d))
  simp only [val_main_cst_26, val_main_v142, val_main_v143, val_main_v144, val_main_v145, val_main_v146, val_main_cst_27,
    val_main_v147, val_main_v148, val_main_v149, val_main_v150, val_main_v151, val_main_v152, val_main_v153,
    val_main_v154, val_main_v155]
  generalize val_main_v141 (F := Ideal) x0 x2 = y
  generalize val_main_v124 (F := Ideal) x0 x2 = w
  pointwise []
  rfl

/-! ### Group 2 -/

/-- One sequence of the cached keys and values of group 2. -/
abbrev cache2 (b : Fin 32) : Fin 2 → Fin (128 * 16) → Fin 16 → Fin 64 → EReal := fun kv c h d => x3 (ix5 b kv c h d)

theorem keys2 (b : Fin 32) (c : Fin 2056) (h : Fin 16) (d : Fin 64) :
    val_main_v165 (F := Ideal) x0 x3 (ix4 b c h d) = past 16 2 (proj x0 b) (cache2 x3 b) 0 h c d := by
  pointwise [val_main_v10, val_main_v159, val_main_v160, val_main_v163, val_main_v164, val_main_v165]
  unfold past
  split
  · rfl
  · exact congrArg x0 (congrArg₂ (ix3 b) (Fin.ext (Nat.mod_eq_of_lt (by omega)).symm) (Fin.ext (by simp [col])))

theorem values2 (b : Fin 32) (c : Fin 2056) (h : Fin 16) (d : Fin 64) :
    val_main_v168 (F := Ideal) x0 x3 (ix4 b c h d) = past 16 2 (proj x0 b) (cache2 x3 b) 1 h c d := by
  pointwise [val_main_v10, val_main_v161, val_main_v162, val_main_v166, val_main_v167, val_main_v168]
  unfold past
  split
  · rfl
  · exact congrArg x0 (congrArg₂ (ix3 b) (Fin.ext (Nat.mod_eq_of_lt (by omega)).symm) (Fin.ext (by simp [col])))

theorem keyPlace2 (s : Fin 8) (n : Fin 129) :
    val_main_v189 (F := Ideal) (ix3 s n 0) = placed 16#32 2048#32 2056#32 s n := by
  pointwise [val_main_v169, val_main_v170, val_main_v171, val_main_c_28, val_main_v172, val_main_v173, val_main_v174,
    val_main_c_29, val_main_v175, val_main_v176, val_main_v177, val_main_v178, val_main_v179, val_main_c_31,
    val_main_v182, val_main_v183, val_main_c_32, val_main_v184, val_main_v185, val_main_c_33, val_main_v186,
    val_main_v187, val_main_v188, val_main_v189]
  rfl

theorem valuePlace2 (s : Fin 8) (n : Fin 129) :
    val_main_v196 (F := Ideal) (ix3 s n 0) = placed 16#32 2048#32 2056#32 s n := by
  pointwise [val_main_v169, val_main_v170, val_main_v171, val_main_c_28, val_main_v172, val_main_v173, val_main_v174,
    val_main_c_29, val_main_v175, val_main_v176, val_main_v177, val_main_v178, val_main_v179, val_main_c_31,
    val_main_v182, val_main_v183, val_main_c_34, val_main_v191, val_main_v192, val_main_c_35, val_main_v193,
    val_main_v194, val_main_v195, val_main_v196]
  rfl

theorem key2 (b : Fin 32) (s : Fin 8) (n : Fin 129) (h : Fin 16) (d : Fin 64) :
    val_main_v190 (F := Ideal) x0 x3 (ix5 b s n h d)
      = past 16 2 (proj x0 b) (cache2 x3 b) 0 h (pos 16 s n) d :=
  (gather_at _ _ _ b s n h d ⟨pos 16 s n, pos_lt 16 s n⟩
    (by rw [keyPlace2]; exact (placed_eq s n).2.2)).trans (keys2 x0 x3 b _ h d)

theorem value2 (b : Fin 32) (s : Fin 8) (n : Fin 129) (h : Fin 16) (d : Fin 64) :
    val_main_v197 (F := Ideal) x0 x3 (ix5 b s n h d) = value 16 2 (proj x0 b) (cache2 x3 b) s h d n :=
  (gather_at _ _ _ b s n h d ⟨pos 16 s n, pos_lt 16 s n⟩
    (by rw [valuePlace2]; exact (placed_eq s n).2.2)).trans (values2 x0 x3 b _ h d)

theorem score2 (b : Fin 32) (s : Fin 8) (n : Fin 129) (h : Fin 16) :
    val_main_v214 (F := Ideal) x0 x3 (ix4 b h s n) = score 16 2 (proj x0 b) (cache2 x3 b) s h n := by
  pointwise [val_main_v10, val_main_v157, val_main_v158, val_main_v169, val_main_v170, val_main_v171, val_main_c_28,
    val_main_v172, val_main_v173, val_main_v174, val_main_c_29, val_main_v175, val_main_v176, val_main_v177,
    val_main_v178, val_main_v179, val_main_c_30, val_main_v180, val_main_v181, val_main_v198, val_main_v199,
    val_main_c_36, val_main_v200, val_main_v201, val_main_v202, val_main_v203, val_main_v204, val_main_v205,
    val_main_v206, val_main_v207, val_main_cst_37, val_main_v208, val_main_v209, val_main_v210, val_main_v211,
    val_main_v212, val_main_v213, val_main_cst_38, val_main_call2_v0, val_main_call2_v1, val_main_call2_v2,
    val_main_v214]
  refine (congrArg (fun c => Scalar.select c _ _) (word_nonneg s n).2.2).trans ?_
  simp only [key2, slopes_at]
  show _ + -slope h * _ = _
  rw [EReal.neg_mul, ← sub_eq_add_neg]
  exact congrArg (fun z => z * _ - _) (Finset.sum_congr rfl fun d _ => congrArg (fun z => z * _)
    (congrArg x0 (congrArg (ix3 b s) (Fin.ext (by simp [col])))))

theorem lse2 (b : Fin 32) (s : Fin 8) (h : Fin 16) :
    val_main_v229 (F := Ideal) x0 x3 (ix3 b s h)
      = lse (score 16 2 (proj x0 b) (cache2 x3 b) s h) := by
  refine Eq.trans ?_ (congrArg lse (funext fun n => score2 x0 x3 b s n h))
  simp only [val_main_cst_39, val_main_v215, val_main_v216, val_main_v217, val_main_v218, val_main_v219, val_main_cst_40,
    val_main_v220, val_main_v221, val_main_v222, val_main_v223, val_main_v229]
  generalize val_main_v214 (F := Ideal) x0 x3 = y
  pointwise []
  rfl

theorem out2 (b : Fin 32) (s : Fin 8) (h : Fin 16) (d : Fin 64) :
    val_main_v228 (F := Ideal) x0 x3 (ix4 b s h d)
      = out (score 16 2 (proj x0 b) (cache2 x3 b) s h)
          (value 16 2 (proj x0 b) (cache2 x3 b) s h d) := by
  refine Eq.trans ?_ (congrArg₂ out (funext fun n => score2 x0 x3 b s n h)
    (funext fun n => value2 x0 x3 b s n h d))
  simp only [val_main_cst_39, val_main_v215, val_main_v216, val_main_v217, val_main_v218, val_main_v219, val_main_cst_40,
    val_main_v220, val_main_v221, val_main_v222, val_main_v223, val_main_v224, val_main_v225, val_main_v226,
    val_main_v227, val_main_v228]
  generalize val_main_v214 (F := Ideal) x0 x3 = y
  generalize val_main_v197 (F := Ideal) x0 x3 = w
  pointwise []
  rfl

/-! ### The groups together -/

/-- The groups' log-sum-exps. -/
theorem lses_at (g : Fin 3) (b : Fin 32) (s : Fin 8) (h : Fin 16) :
    val_main_v233 (F := Ideal) x0 x1 x2 x3 (ix4 g b s h)
      = ![lse (score 1 0 (proj x0 b) (cache0 x1 b) s h), lse (score 4 1 (proj x0 b) (cache1 x2 b) s h),
          lse (score 16 2 (proj x0 b) (cache2 x3 b) s h)] g := by
  match g with
  | ⟨0, _⟩ => pointwise [val_main_v233, val_main_v230]; exact lse0 x0 x1 b s h
  | ⟨1, _⟩ => pointwise [val_main_v233, val_main_v231]; exact lse1 x0 x2 b s h
  | ⟨2, _⟩ => pointwise [val_main_v233, val_main_v232]; exact lse2 x0 x3 b s h

/-- The groups' averages. -/
theorem outs_at (g : Fin 3) (b : Fin 32) (s : Fin 8) (h : Fin 16) (d : Fin 64) :
    val_main_v249 (F := Ideal) x0 x1 x2 x3 (ix5 g b s h d)
      = ![out (score 1 0 (proj x0 b) (cache0 x1 b) s h) (value 1 0 (proj x0 b) (cache0 x1 b) s h d),
          out (score 4 1 (proj x0 b) (cache1 x2 b) s h) (value 4 1 (proj x0 b) (cache1 x2 b) s h d),
          out (score 16 2 (proj x0 b) (cache2 x3 b) s h) (value 16 2 (proj x0 b) (cache2 x3 b) s h d)] g := by
  match g with
  | ⟨0, _⟩ => pointwise [val_main_v249, val_main_v246]; exact out0 x0 x1 b s h d
  | ⟨1, _⟩ => pointwise [val_main_v249, val_main_v247]; exact out1 x0 x2 b s h d
  | ⟨2, _⟩ => pointwise [val_main_v249, val_main_v248]; exact out2 x0 x3 b s h d

/-- The reference's result at an index. -/
theorem result_at (b : Fin 32) (s : Fin 8) (h : Fin 16) (d : Fin 64) :
    val_main_v252 (F := Ideal) x0 x1 x2 x3 (ix4 b s h d)
      = blend
          ![lse (score 1 0 (proj x0 b) (cache0 x1 b) s h), lse (score 4 1 (proj x0 b) (cache1 x2 b) s h),
            lse (score 16 2 (proj x0 b) (cache2 x3 b) s h)]
          ![out (score 1 0 (proj x0 b) (cache0 x1 b) s h) (value 1 0 (proj x0 b) (cache0 x1 b) s h d),
            out (score 4 1 (proj x0 b) (cache1 x2 b) s h) (value 4 1 (proj x0 b) (cache1 x2 b) s h d),
            out (score 16 2 (proj x0 b) (cache2 x3 b) s h) (value 16 2 (proj x0 b) (cache2 x3 b) s h d)] := by
  refine Eq.trans ?_ (congrArg₂ blend (funext fun g => lses_at x0 x1 x2 x3 g b s h)
    (funext fun g => outs_at x0 x1 x2 x3 g b s h d))
  pointwise [val_main_cst_41, val_main_v234, val_main_cst_42, val_main_v235, val_main_v236, val_main_v237, val_main_v238,
    val_main_v239, val_main_v240, val_main_cst_43, val_main_v241, val_main_v242, val_main_v243, val_main_v244,
    val_main_v245, val_main_v250, val_main_v251, val_main_cst_44, val_main_v252]
  rfl

end Cert.AttnRef
-- ==== Proof.AttnEq.lean ====
/-
  Attention of the sample group, as a whole: what a point loads is its sequence's projected array and caches at its
  eight heads, so each row it stores is the reference's, where the arrays are finite.
-/
module

public import proofs.«01_k».proof.Defs
public import proofs.«01_k».proof.Proof.AttnRow
public import proofs.«01_k».proof.Proof.AttnRef

@[expose] public section

set_option maxRecDepth 16384

noncomputable section

namespace Cert.AttnEq

open Cert.AttnIdeal Cert.AttnIdeal.Gen Idealize.ShloMosaic Idealize.ShloMosaic.TcCoe Idealize.SL.Sem
open Cert.AttnSpec Cert.AttnRow
open Cert.AttnRef (proj cache0 cache1 cache2)

section Loaded
variable (x0 : Vec Ideal S1x8x128 .f32) (x1 : Vec Ideal S1x8x3x3x8x64 .f32) (x2 : Vec Ideal S1x2x128x1x8x64 .f32)
  (x3 : Vec Ideal S1x2x128x4x8x64 .f32) (x4 : Vec Ideal S1x2x128x8x8x64 .f32)

theorem slopes_at (h : Fin 8) : AttnBlock.slopes x0 (ix3 0 h 0) = x0 (ix3 0 h 0) := by
  pointwise [AttnBlock.slopes]

/-- The query of row `s` in group `g`. -/
theorem ld_query (s : Fin 8) (g : Fin 3) (inb) (h : Fin 8) (d : Fin 64) :
    View.ld x1 (Rect.unit (s := S1x8x3x3x8x64) ![0, s.val, g.val, 0, 0, 0] S1x1x1x1x8x64.size inb) (ix6 0 0 0 0 h d)
      = x1 (ix6 0 s g 0 h d) := by
  pointwise []

/-- The new keys or values of group `g`. -/
theorem ld_new (kind g : Fin 3) (inb) (j h : Fin 8) (d : Fin 64) :
    View.ld x1 (Rect.unit (s := S1x8x3x3x8x64) ![0, 0, g.val, kind.val, 0, 0] S1x8x1x1x8x64.size inb) (ix6 0 j 0 0 h d)
      = x1 (ix6 0 j g kind h d) := by
  pointwise []

/-- The cached keys or values of the first group. -/
theorem ld_old0 (kv : Fin 2) (inb) (i : Fin 128) (h : Fin 8) (d : Fin 64) :
    View.ld x2 (Rect.unit (s := S1x2x128x1x8x64) ![0, kv.val, 0, 0, 0, 0] S1x1x128x1x8x64.size inb) (ix6 0 0 i 0 h d)
      = x2 (ix6 0 kv i 0 h d) := by
  pointwise []

/-- Those of the second, of residue `r`. -/
theorem ld_old1 (kv : Fin 2) (r : Fin 4) (inb) (i : Fin 128) (h : Fin 8) (d : Fin 64) :
    View.ld x3 (Rect.unit (s := S1x2x128x4x8x64) ![0, kv.val, 0, r.val, 0, 0] S1x1x128x1x8x64.size inb) (ix6 0 0 i 0 h d)
      = x3 (ix6 0 kv i r h d) := by
  pointwise []

/-- Those of the third. -/
theorem ld_old2 (kv : Fin 2) (r : Fin 8) (inb) (i : Fin 128) (h : Fin 8) (d : Fin 64) :
    View.ld x4 (Rect.unit (s := S1x2x128x8x8x64) ![0, kv.val, 0, r.val, 0, 0] S1x1x128x1x8x64.size inb) (ix6 0 0 i 0 h d)
      = x4 (ix6 0 kv i r h d) := by
  pointwise []

/-- What the five blocks of a point hold, at its head `h`: head `H` of one sequence. -/
structure Point (za : Fin 8 → Fin 9216 → EReal) (c0 : Fin 2 → Fin (128 * 1) → Fin 16 → Fin 64 → EReal)
    (c1 : Fin 2 → Fin (128 * 4) → Fin 16 → Fin 64 → EReal) (c2 : Fin 2 → Fin (128 * 16) → Fin 16 → Fin 64 → EReal)
    (H : Fin 16) (h : Fin 8) : Prop where
  slope : x0 (ix3 0 h 0) = AttnSpec.slope H
  proj : ∀ (j : Fin 8) (g kind : Fin 3) (d : Fin 64), x1 (ix6 0 j g kind h d) = za j (col g kind H d)
  cache0 : ∀ (kv : Fin 2) (i : Fin 128) (d : Fin 64), x2 (ix6 0 kv i 0 h d) = c0 kv ⟨i.val, by omega⟩ H d
  cache1 : ∀ (kv : Fin 2) (i : Fin 128) (r : Fin 4) (d : Fin 64),
    x3 (ix6 0 kv i r h d) = c1 kv ⟨i.val * 4 + r.val, by omega⟩ H d
  cache2 : ∀ (kv : Fin 2) (i : Fin 128) (r : Fin 8) (d : Fin 64),
    x4 (ix6 0 kv i r h d) = c2 kv ⟨i.val * 16 + r.val, by omega⟩ H d

variable {x0 x1 x2 x3 x4}
variable {za : Fin 8 → Fin 9216 → EReal} {c0 : Fin 2 → Fin (128 * 1) → Fin 16 → Fin 64 → EReal}
  {c1 : Fin 2 → Fin (128 * 4) → Fin 16 → Fin 64 → EReal} {c2 : Fin 2 → Fin (128 * 16) → Fin 16 → Fin 64 → EReal}
  {H : Fin 16} {h : Fin 8} {q q0 q1 q2 : Vec Ideal S1x1x1x1x8x64 .f32}
  {kc vc kc1 vc1 kc2 vc2 : Vec Ideal S1x1x128x1x8x64 .f32}

theorem loads0 (P : Point x0 x1 x2 x3 x4 za c0 c1 c2 H h) (s : Fin 8)
    (hq : ∀ d, q (ix6 0 0 0 0 h d) = x1 (ix6 0 s 0 0 h d)) :
    Loads 1 0 za c0 s H h q (View.ld x2 r0_2) (View.ld x2 r0_3) (View.ld x1 r0_4) (View.ld x1 r0_5) := by
  have e : ∀ i : Fin 128, i.val * 1 + s.val % 1 = i.val := fun i => by omega
  refine ⟨fun d => (hq d).trans (P.proj s 0 0 d), fun i d hlt => ?_, fun i d hlt => ?_,
    fun j d => (ld_new x1 1 0 _ j h d).trans (P.proj j 0 1 d), fun j d => (ld_new x1 2 0 _ j h d).trans (P.proj j 0 2 d)⟩
  · exact (ld_old0 x2 0 _ i h d).trans ((P.cache0 0 i d).trans (congrArg (c0 0 · H d) (Fin.ext (e i).symm)))
  · exact (ld_old0 x2 1 _ i h d).trans ((P.cache0 1 i d).trans (congrArg (c0 1 · H d) (Fin.ext (e i).symm)))

theorem loads1 (P : Point x0 x1 x2 x3 x4 za c0 c1 c2 H h) (s : Fin 8)
    (hq : ∀ d, q (ix6 0 0 0 0 h d) = x1 (ix6 0 s 1 0 h d))
    (hk : ∀ i d, kc (ix6 0 0 i 0 h d) = x3 (ix6 0 0 i ⟨s.val % 4, by omega⟩ h d))
    (hv : ∀ i d, vc (ix6 0 0 i 0 h d) = x3 (ix6 0 1 i ⟨s.val % 4, by omega⟩ h d)) :
    Loads 4 1 za c1 s H h q kc vc (View.ld x1 r0_9) (View.ld x1 r0_10) :=
  ⟨fun d => (hq d).trans (P.proj s 1 0 d), fun i d _ => (hk i d).trans (P.cache1 0 i _ d),
    fun i d _ => (hv i d).trans (P.cache1 1 i _ d), fun j d => (ld_new x1 1 1 _ j h d).trans (P.proj j 1 1 d),
    fun j d => (ld_new x1 2 1 _ j h d).trans (P.proj j 1 2 d)⟩

theorem loads2 (P : Point x0 x1 x2 x3 x4 za c0 c1 c2 H h) (s : Fin 8)
    (hq : ∀ d, q (ix6 0 0 0 0 h d) = x1 (ix6 0 s 2 0 h d))
    (hk : ∀ i d, kc (ix6 0 0 i 0 h d) = x4 (ix6 0 0 i s h d))
    (hv : ∀ i d, vc (ix6 0 0 i 0 h d) = x4 (ix6 0 1 i s h d)) :
    Loads 16 2 za c2 s H h q kc vc (View.ld x1 r0_14) (View.ld x1 r0_15) := by
  have e : s.val % 16 = s.val := Nat.mod_eq_of_lt (by omega)
  refine ⟨fun d => (hq d).trans (P.proj s 2 0 d), fun i d hlt => ?_, fun i d hlt => ?_,
    fun j d => (ld_new x1 1 2 _ j h d).trans (P.proj j 2 1 d), fun j d => (ld_new x1 2 2 _ j h d).trans (P.proj j 2 2 d)⟩
  · exact (hk i d).trans ((P.cache2 0 i s d).trans (congrArg (c2 0 · H d) (Fin.ext (congrArg (i.val * 16 + ·) e.symm))))
  · exact (hv i d).trans ((P.cache2 1 i s d).trans (congrArg (c2 1 · H d) (Fin.ext (congrArg (i.val * 16 + ·) e.symm))))

/-- The attention of row `s`, head `H`, at lane `d`. -/
def attended (za : Fin 8 → Fin 9216 → EReal) (c0 : Fin 2 → Fin (128 * 1) → Fin 16 → Fin 64 → EReal)
    (c1 : Fin 2 → Fin (128 * 4) → Fin 16 → Fin 64 → EReal) (c2 : Fin 2 → Fin (128 * 16) → Fin 16 → Fin 64 → EReal)
    (s : Fin 8) (H : Fin 16) (d : Fin 64) : EReal :=
  AttnMath.blend
    ![AttnMath.lse (score 1 0 za c0 s H), AttnMath.lse (score 4 1 za c1 s H), AttnMath.lse (score 16 2 za c2 s H)]
    ![AttnMath.out (score 1 0 za c0 s H) (value 1 0 za c0 s H d),
      AttnMath.out (score 4 1 za c1 s H) (value 4 1 za c1 s H d),
      AttnMath.out (score 16 2 za c2 s H) (value 16 2 za c2 s H d)]

/-- The three arrays of one sequence's caches and its projected rows are real. -/
structure Reals (za : Fin 8 → Fin 9216 → EReal) (c0 : Fin 2 → Fin (128 * 1) → Fin 16 → Fin 64 → EReal)
    (c1 : Fin 2 → Fin (128 * 4) → Fin 16 → Fin 64 → EReal) (c2 : Fin 2 → Fin (128 * 16) → Fin 16 → Fin 64 → EReal) :
    Prop where
  proj : ∀ j k, IsReal (za j k)
  cache0 : ∀ kv c h d, IsReal (c0 kv c h d)
  cache1 : ∀ kv c h d, IsReal (c1 kv c h d)
  cache2 : ∀ kv c h d, IsReal (c2 kv c h d)

theorem rowOf_at (R : Reals za c0 c1 c2) (P : Point x0 x1 x2 x3 x4 za c0 c1 c2 H h) (s : Fin 8) (d : Fin 64)
    {ws f0 f1 f2 : BitVec 32} (hws : ws = BitVec.ofNat 32 s.val) (h0 : f0 = BitVec.ofNat 32 (128 + s.val / 1))
    (h1 : f1 = BitVec.ofNat 32 (128 + s.val / 4)) (h2 : f2 = BitVec.ofNat 32 (128 + s.val / 16))
    (hq0 : ∀ d, q0 (ix6 0 0 0 0 h d) = x1 (ix6 0 s 0 0 h d)) (hq1 : ∀ d, q1 (ix6 0 0 0 0 h d) = x1 (ix6 0 s 1 0 h d))
    (hq2 : ∀ d, q2 (ix6 0 0 0 0 h d) = x1 (ix6 0 s 2 0 h d))
    (hk1 : ∀ i d, kc1 (ix6 0 0 i 0 h d) = x3 (ix6 0 0 i ⟨s.val % 4, by omega⟩ h d))
    (hv1 : ∀ i d, vc1 (ix6 0 0 i 0 h d) = x3 (ix6 0 1 i ⟨s.val % 4, by omega⟩ h d))
    (hk2 : ∀ i d, kc2 (ix6 0 0 i 0 h d) = x4 (ix6 0 0 i s h d))
    (hv2 : ∀ i d, vc2 (ix6 0 0 i 0 h d) = x4 (ix6 0 1 i s h d)) :
    AttnBlock.rowOf x0 x1 x2 ws f0 f1 f2 q0 q1 q2 kc1 vc1 kc2 vc2 (ix4 0 0 h d) = attended za c0 c1 c2 s H d :=
  row_at R.proj R.cache0 R.cache1 R.cache2 ((slopes_at x0 h).trans P.slope) (loads0 P s hq0) (loads1 P s hq1 hk1 hv1)
    (loads2 P s hq2 hk2 hv2) d ws f0 f1 f2 hws h0 h1 h2

/-- A stored tile is row `s` of the block. -/
theorem tile {b : Fin 8 → Fin 16} {f : FVec Ideal S1x1x8x64 .f32} (s : Fin 8)
    (hf : ∀ h d, f (ix4 0 0 h d) = attended za c0 c1 c2 s (b h) d) {x : S1x1x8x64.Idx} {y : S1x8x8x64.Idx}
    (h1 : (y 1).val = s.val) (h2 : (y 2).val = (x 2).val) (h3 : (y 3).val = (x 3).val) :
    f x = attended za c0 c1 c2 (y 1) (b (y 2)) (y 3) := by
  obtain ⟨z, w, h, d, rfl⟩ : ∃ (z w : Fin 1) (h : Fin 8) (d : Fin 64), x = ix4 z w h d :=
    ⟨x 0, x 1, x 2, x 3, eq_ix4 x⟩
  obtain rfl : z = 0 := Subsingleton.elim _ _
  obtain rfl : w = 0 := Subsingleton.elim _ _
  rw [hf, show y 1 = s from Fin.ext h1, show y 2 = h from Fin.ext h2, show y 3 = d from Fin.ext h3]

theorem stored_at (R : Reals za c0 c1 c2) {b : Fin 8 → Fin 16} (P : ∀ h, Point x0 x1 x2 x3 x4 za c0 c1 c2 (b h) h)
    (y : S1x8x8x64.Idx) : AttnBlock.stored x0 x1 x2 x3 x4 y = attended za c0 c1 c2 (y 1) (b (y 2)) (y 3) := by
  unfold AttnBlock.stored
  canon_tiles x h
  · exact tile 7 (fun h d => rowOf_at R (P h) 7 d rfl rfl rfl rfl (ld_query x1 7 0 _ h) (ld_query x1 7 1 _ h)
      (ld_query x1 7 2 _ h) (fun i d => ld_old1 x3 0 3 _ i h d) (fun i d => ld_old1 x3 1 3 _ i h d)
      (fun i d => ld_old2 x4 0 7 _ i h d) (fun i d => ld_old2 x4 1 7 _ i h d)) (by omega) h2 h3
  · exact tile 6 (fun h d => rowOf_at R (P h) 6 d rfl rfl rfl rfl (ld_query x1 6 0 _ h) (ld_query x1 6 1 _ h)
      (ld_query x1 6 2 _ h) (fun i d => ld_old1 x3 0 2 _ i h d) (fun i d => ld_old1 x3 1 2 _ i h d)
      (fun i d => ld_old2 x4 0 6 _ i h d) (fun i d => ld_old2 x4 1 6 _ i h d)) (by omega) h2 h3
  · exact tile 5 (fun h d => rowOf_at R (P h) 5 d rfl rfl rfl rfl (ld_query x1 5 0 _ h) (ld_query x1 5 1 _ h)
      (ld_query x1 5 2 _ h) (fun i d => ld_old1 x3 0 1 _ i h d) (fun i d => ld_old1 x3 1 1 _ i h d)
      (fun i d => ld_old2 x4 0 5 _ i h d) (fun i d => ld_old2 x4 1 5 _ i h d)) (by omega) h2 h3
  · exact tile 4 (fun h d => rowOf_at R (P h) 4 d rfl rfl rfl rfl (ld_query x1 4 0 _ h) (ld_query x1 4 1 _ h)
      (ld_query x1 4 2 _ h) (fun i d => ld_old1 x3 0 0 _ i h d) (fun i d => ld_old1 x3 1 0 _ i h d)
      (fun i d => ld_old2 x4 0 4 _ i h d) (fun i d => ld_old2 x4 1 4 _ i h d)) (by omega) h2 h3
  · exact tile 3 (fun h d => rowOf_at R (P h) 3 d rfl rfl rfl rfl (ld_query x1 3 0 _ h) (ld_query x1 3 1 _ h)
      (ld_query x1 3 2 _ h) (fun i d => ld_old1 x3 0 3 _ i h d) (fun i d => ld_old1 x3 1 3 _ i h d)
      (fun i d => ld_old2 x4 0 3 _ i h d) (fun i d => ld_old2 x4 1 3 _ i h d)) (by omega) h2 h3
  · exact tile 2 (fun h d => rowOf_at R (P h) 2 d rfl rfl rfl rfl (ld_query x1 2 0 _ h) (ld_query x1 2 1 _ h)
      (ld_query x1 2 2 _ h) (fun i d => ld_old1 x3 0 2 _ i h d) (fun i d => ld_old1 x3 1 2 _ i h d)
      (fun i d => ld_old2 x4 0 2 _ i h d) (fun i d => ld_old2 x4 1 2 _ i h d)) (by omega) h2 h3
  · exact tile 1 (fun h d => rowOf_at R (P h) 1 d rfl rfl rfl rfl (ld_query x1 1 0 _ h) (ld_query x1 1 1 _ h)
      (ld_query x1 1 2 _ h) (fun i d => ld_old1 x3 0 1 _ i h d) (fun i d => ld_old1 x3 1 1 _ i h d)
      (fun i d => ld_old2 x4 0 1 _ i h d) (fun i d => ld_old2 x4 1 1 _ i h d)) (by omega) h2 h3
  · exact tile 0 (fun h d => rowOf_at R (P h) 0 d rfl rfl rfl rfl (ld_query x1 0 0 _ h) (ld_query x1 0 1 _ h)
      (ld_query x1 0 2 _ h) (fun i d => ld_old1 x3 0 0 _ i h d) (fun i d => ld_old1 x3 1 0 _ i h d)
      (fun i d => ld_old2 x4 0 0 _ i h d) (fun i d => ld_old2 x4 1 0 _ i h d)) (by omega) h2 h3

end Loaded

variable (m : (ℓ : Loc nD τ sig) → Buf (Elt Ideal) ℓ)

/-- The attention of the launch's own arguments. -/
abbrev result (c : Dev nD) : Buf (Elt Ideal) ((c : Thread nD τ).loc main_v16) :=
  Cert.AttnRefIdeal.Read.val_main_v252 (F := Ideal) (m ((c : Thread nD τ).loc main_arg0))
    (m ((c : Thread nD τ).loc main_arg1)) (m ((c : Thread nD τ).loc main_arg2)) (m ((c : Thread nD τ).loc main_arg3))

/-- The head a point's head `h` is. -/
abbrev head (t : Fin cfg0.N) (h : Fin 8) : Fin 16 := ⟨t.val % 2 * 8 + h.val, by omega⟩

section Reads
variable (c : Dev nD) (t : Fin cfg0.N) (hb : t.val / 2 < 32) (h : Fin 8) (d : Fin 64)

theorem slope_read : iblk m c 0 t (ix3 0 h 0) = AttnSpec.slope (head t h) := by
  obtain ⟨e0, e1, e2, e3, e4, e5⟩ := AttnBlock.idx t
  blk_point [iblk, V, e0]

theorem proj_read (j : Fin 8) (g kind : Fin 3) : iblk m c 1 t (ix6 0 j g kind h d)
    = proj (m ((c : Thread nD τ).loc main_arg0)) ⟨t.val / 2, hb⟩ j (col g kind (head t h) d) := by
  obtain ⟨e0, e1, e2, e3, e4, e5⟩ := AttnBlock.idx t
  unfold proj col
  blk_point [iblk, V, e1]

theorem cache0_read (kv : Fin 2) (i : Fin 128) : iblk m c 2 t (ix6 0 kv i 0 h d)
    = cache0 (m ((c : Thread nD τ).loc main_arg1)) ⟨t.val / 2, hb⟩ kv ⟨i.val, by omega⟩ (head t h) d := by
  obtain ⟨e0, e1, e2, e3, e4, e5⟩ := AttnBlock.idx t
  unfold cache0
  blk_point [iblk, V, e2]

theorem cache1_read (kv : Fin 2) (i : Fin 128) (r : Fin 4) : iblk m c 3 t (ix6 0 kv i r h d)
    = cache1 (m ((c : Thread nD τ).loc main_arg2)) ⟨t.val / 2, hb⟩ kv ⟨i.val * 4 + r.val, by omega⟩ (head t h) d := by
  obtain ⟨e0, e1, e2, e3, e4, e5⟩ := AttnBlock.idx t
  unfold cache1
  blk_point [iblk, V, e3]

theorem cache2_read (kv : Fin 2) (i : Fin 128) (r : Fin 8) : iblk m c 4 t (ix6 0 kv i r h d)
    = cache2 (m ((c : Thread nD τ).loc main_arg3)) ⟨t.val / 2, hb⟩ kv ⟨i.val * 16 + r.val, by omega⟩ (head t h) d := by
  obtain ⟨e0, e1, e2, e3, e4, e5⟩ := AttnBlock.idx t
  unfold cache2
  blk_point [iblk, V, e4]

theorem place (s : Fin 8) : ((cfg0.win 5).blk t).view.emb (ix4 0 s h d)
    = (ix4 ⟨t.val / 2, hb⟩ s (head t h) d : S32x8x16x64.Idx) := by
  obtain ⟨e0, e1, e2, e3, e4, e5⟩ := AttnBlock.idx t
  blk_ext [e5]

end Reads

/-- The launch's own arrays are real. -/
structure Finite (c : Dev nD) : Prop where
  proj : ∀ i, IsReal (m ((c : Thread nD τ).loc main_arg0) i)
  cache0 : ∀ i, IsReal (m ((c : Thread nD τ).loc main_arg1) i)
  cache1 : ∀ i, IsReal (m ((c : Thread nD τ).loc main_arg2) i)
  cache2 : ∀ i, IsReal (m ((c : Thread nD τ).loc main_arg3) i)

theorem block (c : Dev nD) (hf : Finite m c) (t : Fin cfg0.N) (y : S1x8x8x64.Idx) :
    out0_5 (iblk m c 0 t) (iblk m c 1 t) (iblk m c 2 t) (iblk m c 3 t) (iblk m c 4 t) y
      = result m c (((cfg0.win 5).blk t).view.emb y) := by
  obtain ⟨z, s, h, d, rfl⟩ : ∃ (z : Fin 1) (s h : Fin 8) (d : Fin 64), y = ix4 z s h d :=
    ⟨y 0, y 1, y 2, y 3, eq_ix4 y⟩
  obtain rfl : z = 0 := Subsingleton.elim _ _
  have hN : t.val < 64 := lt_of_lt_of_eq t.isLt N_0
  have hb : t.val / 2 < 32 := by omega
  rw [place t hb h d s, result, AttnRef.result_at, AttnBlock.out]
  exact stored_at (b := head t)
    ⟨fun j k => hf.proj _, fun kv r h d => hf.cache0 _, fun kv r h d => hf.cache1 _, fun kv r h d => hf.cache2 _⟩
    (fun h => ⟨slope_read m c t h, fun j g kind d => proj_read m c t hb h d j g kind,
      fun kv i d => cache0_read m c t hb h d kv i, fun kv i r d => cache1_read m c t hb h d kv i r,
      fun kv i r d => cache2_read m c t hb h d kv i r⟩) (ix4 0 s h d)

/-- After the run the result array holds the attention: the blocks tile it, and each is the reference's. -/
theorem array (c : Dev nD) (hf : Finite m c) : (dats m 0 c).arrAt 5 cfg0.N = result m c :=
  (dats m 0 c).arrAt_eq_of_covers 5 _ (by decide +kernel) fun t ht y => by
    show (dats m 0 c).flushed 5 t y = _
    rw [Cert.AttnIdeal.Value.flushed5]
    exact block m c hf t y

end Cert.AttnEq

namespace Cert.AttnEq

open Idealize.ShloMosaic Idealize.SL.Sem Cert.AttnSpec

/-- A number whose size compares below infinity is real. -/
theorem real_of_below {x : EReal} (h : FloatOps.cmpf (F := Ideal) (φ := .f32) .olt
    (FloatOps.hostAbsf (F := Ideal) (φ := .f32) x) (Ideal.ofBits .f32 0x7F800000#32) = 1#1) : IsReal x := by
  have top : Ideal.ofBits .f32 0x7F800000#32 = (⊤ : EReal) := by simp [Ideal.ofBits, Ideal.ieee]
  rw [top] at h
  have hlt : max x (-x) < ⊤ := by
    by_contra hn
    have e : FloatOps.cmpf (F := Ideal) (φ := .f32) .olt (FloatOps.hostAbsf (F := Ideal) (φ := .f32) x) ⊤ = 0#1 :=
      congrArg BitVec.ofBool (decide_eq_false hn)
    rw [e] at h
    exact absurd h (by decide)
  induction x with
  | bot => exact absurd ((le_max_right ⊥ (-⊥)).trans_lt hlt) (lt_irrefl _)
  | top => exact absurd ((le_max_left ⊤ (-⊤)).trans_lt hlt) (lt_irrefl _)
  | coe r => exact ⟨r, rfl⟩

/-- The shape relations of the precondition's operations. -/
theorem facts : Cert.Pre_finite.Facts := ⟨by decide, by decide, by decide, by decide⟩

/-- The precondition, entry by entry. -/
theorem finite {m : (ℓ : Loc Cert.AttnIdeal.nD Cert.AttnIdeal.τ Cert.AttnIdeal.sig) → Buf (Elt Ideal) ℓ}
    [Cert.Pre_finite.Facts] (h : Cert.Pre_AttnIdeal_finite m) (c : Dev Cert.AttnIdeal.nD) : Finite m c := by
  obtain ⟨h0, h1, h2, h3⟩ := h c
  exact ⟨fun i => real_of_below (congrFun h0 i), fun i => real_of_below (congrFun h1 i),
    fun i => real_of_below (congrFun h2 i), fun i => real_of_below (congrFun h3 i)⟩

/-- The constant the kernel masks with is read as minus infinity. -/
theorem preserves : Cert.preserves_Attn_AttnIdeal :=
  IdealRules.named_const.statement Cert.AttnIdeal.κ "mask" .f32 0xF149F2CA#32 ⊥ rfl

/-- The kernel and the reference end with the same result, at exact arithmetic, where the arrays are finite. -/
theorem algebraic [Cert.Pre_finite.Facts] : Cert.algebraic_AttnIdeal_AttnRefIdeal_pre_finite := by
  intro m ρ m' ρ' hpre hagree
  refine ⟨fun c => result m c, ?_, ?_⟩
  · refine (θ_run _ _ _).mono (fun _ h c => ?_) (Cert.AttnIdeal.Value.run_blocks m ρ)
    exact ⟨(h c).1.trans (array m c (finite hpre c)), (h c).2⟩
  · refine (θ_run _ _ _).mono (fun _ h c => ?_) (Cert.AttnRefIdeal.Value.run (F := Ideal) m' ρ')
    obtain rfl : c = 0 := Subsingleton.elim _ _
    refine ⟨(h 0).1.trans ?_, (h 0).2⟩
    rw [Cert.AttnRefIdeal.Read.val_main_v252_eq]
    let at0 (b : Ref Cert.AttnRefIdeal.sig .tc) :=
      m' (((0 : Dev Cert.AttnRefIdeal.nD).tc : Thread Cert.AttnRefIdeal.nD Cert.AttnRefIdeal.τ).loc b)
    show Cert.AttnRefIdeal.Read.val_main_v252 (F := Ideal) (at0 Cert.AttnRefIdeal.main_arg0)
      (at0 Cert.AttnRefIdeal.main_arg1) (at0 Cert.AttnRefIdeal.main_arg2) (at0 Cert.AttnRefIdeal.main_arg3) = _
    simp only [at0]
    rw [(hagree 0).1, (hagree 0).2.1, (hagree 0).2.2.1, (hagree 0).2.2.2]

end Cert.AttnEq

end
-- ==== Proof.lean ====
/-
  The claims, assembled: the frames of the kernels are the generated ones, those of the references follow from their
  runs, and the value claims are the equations of the modules ending in Eq.
-/
module

public import proofs.«01_k».proof.Defs
public import proofs.«01_k».proof.Proof.Gen.Gmlp.Frame
public import proofs.«01_k».proof.Proof.Gen.GmlpIdeal.Frame
public import proofs.«01_k».proof.Proof.GmlpEq
public import proofs.«01_k».proof.Proof.Gen.Proj.Frame
public import proofs.«01_k».proof.Proof.Gen.ProjIdeal.Frame
public import proofs.«01_k».proof.Proof.ProjEq
public import proofs.«01_k».proof.Proof.Gen.Merge.Frame
public import proofs.«01_k».proof.Proof.Gen.MergeIdeal.Frame
public import proofs.«01_k».proof.Proof.MergeEq
public import proofs.«01_k».proof.Proof.Gen.Mlp.Frame
public import proofs.«01_k».proof.Proof.Gen.MlpIdeal.Frame
public import proofs.«01_k».proof.Proof.MlpEq
public import proofs.«01_k».proof.Proof.Gen.GmlpSample.Frame
public import proofs.«01_k».proof.Proof.Gen.GmlpSampleIdeal.Frame
public import proofs.«01_k».proof.Proof.GmlpSampleEq
public import proofs.«01_k».proof.Proof.Gen.MlpSample.Frame
public import proofs.«01_k».proof.Proof.Gen.MlpSampleIdeal.Frame
public import proofs.«01_k».proof.Proof.MlpSampleEq
public import proofs.«01_k».proof.Proof.Gen.ProjSample.Frame
public import proofs.«01_k».proof.Proof.Gen.ProjSampleIdeal.Frame
public import proofs.«01_k».proof.Proof.ProjSampleEq
public import proofs.«01_k».proof.Proof.Gen.Attn.Frame
public import proofs.«01_k».proof.Proof.Gen.AttnIdeal.Frame
public import proofs.«01_k».proof.Proof.AttnEq
public import Idealize.ShloMosaic.Adequacy
public import Idealize.ShloMosaic.Init

@[expose] public section

noncomputable section

namespace Cert.Proof

open Idealize.ShloMosaic Idealize.SL.Sem

/-- The reference of Gmlp runs to the end, leaves its arguments as they were and no counter above zero. -/
theorem reference_Gmlp : Cert.quiescent_GmlpRefIdeal := fun m ρ _ =>
  (θ_run Cert.GmlpRefIdeal.defs _ _).mono (fun r h => ⟨fun c => (h c).2,
    Idealize.ShloMosaic.sem_eq_zero_of_no_sems (by decide) r.2⟩) (Cert.GmlpRefIdeal.Value.run (F := Ideal) m ρ)

/-- The reference of Proj runs to the end, leaves its arguments as they were and no counter above zero. -/
theorem reference_Proj : Cert.quiescent_ProjRefIdeal := fun m ρ _ =>
  (θ_run Cert.ProjRefIdeal.defs _ _).mono (fun r h => ⟨fun c => (h c).2.2.2.2.2.2.2.2,
    Idealize.ShloMosaic.sem_eq_zero_of_no_sems (by decide) r.2⟩) (Cert.ProjRefIdeal.Value.run (F := Ideal) m ρ)

/-- The reference of Merge runs to the end, leaves its arguments as they were and no counter above zero. -/
theorem reference_Merge : Cert.quiescent_MergeRefIdeal := fun m ρ _ =>
  (θ_run Cert.MergeRefIdeal.defs _ _).mono (fun r h => ⟨fun c => (h c).2,
    Idealize.ShloMosaic.sem_eq_zero_of_no_sems (by decide) r.2⟩) (Cert.MergeRefIdeal.Value.run (F := Ideal) m ρ)

/-- The reference of Mlp runs to the end, leaves its arguments as they were and no counter above zero. -/
theorem reference_Mlp : Cert.quiescent_MlpRefIdeal := fun m ρ _ =>
  (θ_run Cert.MlpRefIdeal.defs _ _).mono (fun r h => ⟨fun c => (h c).2,
    Idealize.ShloMosaic.sem_eq_zero_of_no_sems (by decide) r.2⟩) (Cert.MlpRefIdeal.Value.run (F := Ideal) m ρ)

/-- The reference of GmlpSample runs to the end, leaves its arguments as they were and no counter above zero. -/
theorem reference_GmlpSample : Cert.quiescent_GmlpSampleRefIdeal := fun m ρ _ =>
  (θ_run Cert.GmlpSampleRefIdeal.defs _ _).mono (fun r h => ⟨fun c => (h c).2.2,
    Idealize.ShloMosaic.sem_eq_zero_of_no_sems (by decide) r.2⟩) (Cert.GmlpSampleRefIdeal.Value.run (F := Ideal) m ρ)

/-- The reference of MlpSample runs to the end, leaves its arguments as they were and no counter above zero. -/
theorem reference_MlpSample : Cert.quiescent_MlpSampleRefIdeal := fun m ρ _ =>
  (θ_run Cert.MlpSampleRefIdeal.defs _ _).mono (fun r h => ⟨fun c => (h c).2,
    Idealize.ShloMosaic.sem_eq_zero_of_no_sems (by decide) r.2⟩) (Cert.MlpSampleRefIdeal.Value.run (F := Ideal) m ρ)

/-- The reference of ProjSample runs to the end, leaves its arguments as they were and no counter above zero. -/
theorem reference_ProjSample : Cert.quiescent_ProjSampleRefIdeal := fun m ρ _ =>
  (θ_run Cert.ProjSampleRefIdeal.defs _ _).mono (fun r h => ⟨fun c => (h c).2.2.2.2.2.2.2.2,
    Idealize.ShloMosaic.sem_eq_zero_of_no_sems (by decide) r.2⟩) (Cert.ProjSampleRefIdeal.Value.run (F := Ideal) m ρ)

/-- The reference of Attn runs to the end, leaves its arguments as they were and no counter above zero. -/
theorem reference_Attn : Cert.quiescent_AttnRefIdeal := fun m ρ _ =>
  (θ_run Cert.AttnRefIdeal.defs _ _).mono (fun r h => ⟨fun c => (h c).2,
    Idealize.ShloMosaic.sem_eq_zero_of_no_sems (by decide) r.2⟩) (Cert.AttnRefIdeal.Value.run (F := Ideal) m ρ)

/-- The same under the precondition, which it does not use. -/
theorem reference_Attn_finite [Cert.Pre_finite.Facts] : Cert.quiescent_AttnRefIdeal_pre_finite := fun m ρ _ =>
  reference_Attn m ρ trivial

theorem claim : Cert.Claim :=
  ⟨Cert.Gmlp.Gen.facts, Cert.GmlpIdeal.Gen.facts, Cert.GmlpRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Mlp.Gen.facts, Cert.MlpIdeal.Gen.facts, Cert.MlpRefIdeal.Gen.facts,
    Cert.GmlpSample.Gen.facts, Cert.GmlpSampleIdeal.Gen.facts, Cert.GmlpSampleRefIdeal.Gen.facts,
    Cert.MlpSample.Gen.facts, Cert.MlpSampleIdeal.Gen.facts, Cert.MlpSampleRefIdeal.Gen.facts,
    Cert.ProjSample.Gen.facts, Cert.ProjSampleIdeal.Gen.facts, Cert.ProjSampleRefIdeal.Gen.facts,
    Cert.Attn.Gen.facts, Cert.AttnIdeal.Gen.facts, Cert.AttnRefIdeal.Gen.facts,
    Cert.AttnEq.facts,
    fun m ρ _ => Cert.Gmlp.Gen.frame m ρ,
    fun m ρ _ => Cert.GmlpIdeal.Gen.frame m ρ,
    reference_Gmlp,
    fun m ρ _ => Cert.Proj.Gen.frame m ρ,
    fun m ρ _ => Cert.ProjIdeal.Gen.frame m ρ,
    reference_Proj,
    fun m ρ _ => Cert.Merge.Gen.frame m ρ,
    fun m ρ _ => Cert.MergeIdeal.Gen.frame m ρ,
    reference_Merge,
    fun m ρ _ => Cert.Mlp.Gen.frame m ρ,
    fun m ρ _ => Cert.MlpIdeal.Gen.frame m ρ,
    reference_Mlp,
    fun m ρ _ => Cert.GmlpSample.Gen.frame m ρ,
    fun m ρ _ => Cert.GmlpSampleIdeal.Gen.frame m ρ,
    reference_GmlpSample,
    fun m ρ _ => Cert.MlpSample.Gen.frame m ρ,
    fun m ρ _ => Cert.MlpSampleIdeal.Gen.frame m ρ,
    reference_MlpSample,
    fun m ρ _ => Cert.ProjSample.Gen.frame m ρ,
    fun m ρ _ => Cert.ProjSampleIdeal.Gen.frame m ρ,
    reference_ProjSample,
    fun m ρ _ => Cert.Attn.Gen.frame m ρ,
    fun m ρ _ => Cert.AttnIdeal.Gen.frame m ρ,
    fun m ρ _ => Cert.AttnIdeal.Gen.frame m ρ,
    reference_Attn,
    @reference_Attn_finite Cert.AttnEq.facts,
    trivial,
    Cert.GmlpEq.algebraic,
    trivial,
    Cert.ProjEq.algebraic,
    trivial,
    Cert.MergeEq.algebraic,
    trivial,
    Cert.MlpEq.algebraic,
    trivial,
    Cert.GmlpSampleEq.algebraic,
    trivial,
    Cert.MlpSampleEq.algebraic,
    trivial,
    Cert.ProjSampleEq.algebraic,
    Cert.AttnEq.preserves,
    @Cert.AttnEq.algebraic Cert.AttnEq.facts⟩

end Cert.Proof

end
